-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.BufferStatement Cert.KernelIdeal.S256x2x128 Cert.KernelIdeal.S256x1x128
  ∧ IdealRules.bf16_pair.PackStatement Cert.KernelIdeal.S256x256
  ∧ IdealRules.bf16_pair.Statement Cert.KernelIdeal.S256x2x128 Cert.KernelIdeal.S256x1x128
  ∧ IdealRules.bf16_pair.Statement Cert.KernelIdeal.S1x2x128 Cert.KernelIdeal.S1x1x128
  ∧ IdealRules.bf16_pair.Statement Cert.KernelIdeal.S16x128 Cert.KernelIdeal.S8x128
  ∧ IdealRules.named_const.Statement Cert.KernelIdeal.κ "c" .f32 0x3DB8AA3B#32 (((Real.log 2)⁻¹ * 16⁻¹ : ℝ) : EReal)
  ∧ IdealRules.bf16_pair.PackStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4x4096 : Shape := ⟨3, ![64, 4, 4096]⟩
abbrev S64x65408x1x128 : Shape := ⟨4, ![64, 65408, 1, 128]⟩
abbrev S64x2044x1x256 : Shape := ⟨4, ![64, 2044, 1, 256]⟩
abbrev S64x65408x1x8 : Shape := ⟨4, ![64, 65408, 1, 8]⟩
abbrev S64x128x1x256 : Shape := ⟨4, ![64, 128, 1, 256]⟩
abbrev S256x256 : Shape := ⟨2, ![256, 256]⟩
abbrev S64x64x256 : Shape := ⟨3, ![64, 64, 256]⟩
abbrev S64x65408x128 : Shape := ⟨3, ![64, 65408, 128]⟩
abbrev S64x4088x128 : Shape := ⟨3, ![64, 4088, 128]⟩
abbrev S64x65408x8 : Shape := ⟨3, ![64, 65408, 8]⟩
abbrev S64x8x65408 : Shape := ⟨3, ![64, 8, 65408]⟩
abbrev S64x128x256 : Shape := ⟨3, ![64, 128, 256]⟩
abbrev S64x4x256 : Shape := ⟨3, ![64, 4, 256]⟩
abbrev S1x64x256 : Shape := ⟨3, ![1, 64, 256]⟩
abbrev S1x8192x128 : Shape := ⟨3, ![1, 8192, 128]⟩
abbrev S1x512x128 : Shape := ⟨3, ![1, 512, 128]⟩
abbrev S1x8x8192 : Shape := ⟨3, ![1, 8, 8192]⟩
abbrev S1x128x256 : Shape := ⟨3, ![1, 128, 256]⟩
abbrev S1x4x256 : Shape := ⟨3, ![1, 4, 256]⟩
abbrev S64x256 : Shape := ⟨2, ![64, 256]⟩
abbrev S64x8192 : Shape := ⟨2, ![64, 8192]⟩
abbrev S256x128 : Shape := ⟨2, ![256, 128]⟩
abbrev S64x128 : Shape := ⟨2, ![64, 128]⟩
abbrev S1x256x128 : Shape := ⟨3, ![1, 256, 128]⟩
abbrev S32x128 : Shape := ⟨2, ![32, 128]⟩
abbrev S1x128 : Shape := ⟨2, ![1, 128]⟩
abbrev S8x128 : Shape := ⟨2, ![8, 128]⟩
abbrev S16x128 : Shape := ⟨2, ![16, 128]⟩
abbrev S32x256 : Shape := ⟨2, ![32, 256]⟩
abbrev S1x128x128 : Shape := ⟨3, ![1, 128, 128]⟩
abbrev S128x128 : Shape := ⟨2, ![128, 128]⟩
abbrev S128x256 : Shape := ⟨2, ![128, 256]⟩
abbrev S64 : Shape := ⟨1, ![64]⟩
abbrev S64x1 : Shape := ⟨2, ![64, 1]⟩
abbrev S1x8x128 : Shape := ⟨3, ![1, 8, 128]⟩
abbrev S4x256 : Shape := ⟨2, ![4, 256]⟩
abbrev S64x4 : Shape := ⟨2, ![64, 4]⟩

abbrev nBuf : Space → Nat
  | .hbm => 25
  | .vmem => 34
  | .smem => 0
  | _ => 0

abbrev bufTy : (tb : Table) → Fin (tcTables nBuf tb) → BufTy
  | .hbm, ⟨0, _⟩ => ⟨S64x4x4096, .bf16⟩
  | .hbm, ⟨1, _⟩ => ⟨S64x65408x1x128, .i8⟩
  | .hbm, ⟨2, _⟩ => ⟨S64x2044x1x256, .f32⟩
  | .hbm, ⟨3, _⟩ => ⟨S64x2044x1x256, .f32⟩
  | .hbm, ⟨4, _⟩ => ⟨S64x65408x1x128, .i8⟩
  | .hbm, ⟨5, _⟩ => ⟨S64x65408x1x8, .f32⟩
  | .hbm, ⟨6, _⟩ => ⟨S64x65408x1x8, .f32⟩
  | .hbm, ⟨7, _⟩ => ⟨S64x128x1x256, .bf16⟩
  | .hbm, ⟨8, _⟩ => ⟨S64x128x1x256, .bf16⟩
  | .hbm, ⟨9, _⟩ => ⟨S256x256, .bf16⟩
  | .hbm, ⟨10, _⟩ => ⟨S256x256, .bf16⟩
  | .hbm, ⟨11, _⟩ => ⟨S64x64x256, .bf16⟩
  | .hbm, ⟨12, _⟩ => ⟨S64x65408x128, .i8⟩
  | .hbm, ⟨13, _⟩ => ⟨S64x4088x128, .f32⟩
  | .hbm, ⟨14, _⟩ => ⟨S64x4088x128, .f32⟩
  | .hbm, ⟨15, _⟩ => ⟨S64x65408x128, .i8⟩
  | .hbm, ⟨16, _⟩ => ⟨S64x65408x8, .f32⟩
  | .hbm, ⟨17, _⟩ => ⟨S64x8x65408, .f32⟩
  | .hbm, ⟨18, _⟩ => ⟨S64x65408x8, .f32⟩
  | .hbm, ⟨19, _⟩ => ⟨S64x8x65408, .f32⟩
  | .hbm, ⟨20, _⟩ => ⟨S64x128x256, .bf16⟩
  | .hbm, ⟨21, _⟩ => ⟨S64x128x256, .bf16⟩
  | .hbm, ⟨22, _⟩ => ⟨S64x4x256, .bf16⟩
  | .hbm, ⟨23, _⟩ => ⟨S64x4x256, .bf16⟩
  | .hbm, ⟨24, _⟩ => ⟨S64x64x256, .bf16⟩
  | .local _ .vmem, ⟨0, _⟩ => ⟨S1x64x256, .bf16⟩
  | .local _ .vmem, ⟨1, _⟩ => ⟨S1x64x256, .bf16⟩
  | .local _ .vmem, ⟨2, _⟩ => ⟨S1x8192x128, .i8⟩
  | .local _ .vmem, ⟨3, _⟩ => ⟨S1x8192x128, .i8⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x8192x128, .i8⟩
  | .local _ .vmem, ⟨9, _⟩ => ⟨S1x8192x128, .i8⟩
  | .local _ .vmem, ⟨10, _⟩ => ⟨S1x8x8192, .f32⟩
  | .local _ .vmem, ⟨11, _⟩ => ⟨S1x8x8192, .f32⟩
  | .local _ .vmem, ⟨12, _⟩ => ⟨S1x8x8192, .f32⟩
  | .local _ .vmem, ⟨13, _⟩ => ⟨S1x8x8192, .f32⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x4x256, .bf16⟩
  | .local _ .vmem, ⟨19, _⟩ => ⟨S1x4x256, .bf16⟩
  | .local _ .vmem, ⟨20, _⟩ => ⟨S1x4x256, .bf16⟩
  | .local _ .vmem, ⟨21, _⟩ => ⟨S1x4x256, .bf16⟩
  | .local _ .vmem, ⟨22, _⟩ => ⟨S1x64x256, .bf16⟩
  | .local _ .vmem, ⟨23, _⟩ => ⟨S1x64x256, .bf16⟩
  | .local _ .vmem, ⟨24, _⟩ => ⟨S64x256, .bf16⟩
  | .local _ .vmem, ⟨25, _⟩ => ⟨S64x8192, .f32⟩
  | .local _ .vmem, ⟨26, _⟩ => ⟨S256x128, .i32⟩
  | .local _ .vmem, ⟨27, _⟩ => ⟨S256x128, .i32⟩
  | .local _ .vmem, ⟨28, _⟩ => ⟨S256x128, .i32⟩
  | .local _ .vmem, ⟨29, _⟩ => ⟨S256x128, .i32⟩
  | .local _ .vmem, ⟨30, _⟩ => ⟨S64x128, .f32⟩
  | .local _ .vmem, ⟨31, _⟩ => ⟨S64x128, .f32⟩
  | .local _ .vmem, ⟨32, _⟩ => ⟨S64x128, .f32⟩
  | .local _ .vmem, ⟨33, _⟩ => ⟨S64x256, .f32⟩
  | _, _ => ⟨S64x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨2, ![64, 8], ![false, false]⟩

@[reducible] def k0_t1_loop (i : grid0.Coords) : Scf.Loop 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_26 : BitVec 32 := 1#32
  ⟨c0_i32_24, v56, c1_i32_26⟩
def k0_mult1 (i : grid0.Coords) (k0_t1 : Fin (k0_t1_loop i).trips) : BitVec 32 :=
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  v97
def k0_off1 (i : grid0.Coords) (k0_t1 : Fin (k0_t1_loop i).trips) : Fin 3 → Nat :=
  let c0_52 : Index := 0#32
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  let v98 : BitVec 32 := v97
  let v99 : Index := Scalar.indexCast v98
  let c0_53 : Index := 0#32
  ![0, v99.toNat, 0]
def k0_off2 (i : grid0.Coords) (k0_t1 : Fin (k0_t1_loop i).trips) (c0_i32_55 : BitVec 32) : Fin 2 → Nat :=
  let c0_i32_24 : BitVec 32 := 0#32
  let c1_i32_26 : BitVec 32 := 1#32
  let arg24 : BitVec 32 := Scf.iv c0_i32_24 c1_i32_26 k0_t1
  let c8_i32 : BitVec 32 := 8#32
  let v102 : BitVec 32 := Scalar.muli arg24 c8_i32
  let v115 : BitVec 32 := Scalar.addi v102 c0_i32_55
  let v116 : Index := Scalar.indexCast v115
  let c0_56 : Index := 0#32
  ![v116.toNat, 0]
def k0_off3 (i : grid0.Coords) (k0_t1 : Fin (k0_t1_loop i).trips) : Fin 2 → Nat :=
  let c0_116 : Index := 0#32
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  let v98 : BitVec 32 := v97
  let v364 : Index := Scalar.indexCast v98
  ![0, v364.toNat]
@[reducible] def k0_t2_loop (i : grid0.Coords) : Scf.Loop 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let v53 : BitVec 32 := Scalar.addi c0_i32_24 v52
  let c1_i32_27 : BitVec 32 := 1#32
  ⟨v56, v53, c1_i32_27⟩
def k0_mult2 (i : grid0.Coords) (k0_t2 : Fin (k0_t2_loop i).trips) : BitVec 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  v97
def k0_off4 (i : grid0.Coords) (k0_t2 : Fin (k0_t2_loop i).trips) : Fin 3 → Nat :=
  let c0_52 : Index := 0#32
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  let v98 : BitVec 32 := v97
  let v99 : Index := Scalar.indexCast v98
  let c0_53 : Index := 0#32
  ![0, v99.toNat, 0]
def k0_off5 (i : grid0.Coords) (k0_t2 : Fin (k0_t2_loop i).trips) (c0_i32_55 : BitVec 32) : Fin 2 → Nat :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c8_i32 : BitVec 32 := 8#32
  let v102 : BitVec 32 := Scalar.muli arg24 c8_i32
  let v115 : BitVec 32 := Scalar.addi v102 c0_i32_55
  let v116 : Index := Scalar.indexCast v115
  let c0_56 : Index := 0#32
  ![v116.toNat, 0]
def k0_off6 (i : grid0.Coords) (k0_t2 : Fin (k0_t2_loop i).trips) : Fin 2 → Nat :=
  let c0_116 : Index := 0#32
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  let v98 : BitVec 32 := v97
  let v364 : Index := Scalar.indexCast v98
  ![0, v364.toNat]
@[reducible] def k0_t3_loop (i : grid0.Coords) : Scf.Loop 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_45 : BitVec 32 := 1#32
  ⟨c0_i32_43, v86, c1_i32_45⟩
def k0_mult3 (i : grid0.Coords) (k0_t3 : Fin (k0_t3_loop i).trips) : BitVec 32 :=
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  v97
def k0_off7 (i : grid0.Coords) (k0_t3 : Fin (k0_t3_loop i).trips) : Fin 2 → Nat :=
  let c0_52 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v99 : Index := Scalar.indexCast v98
  ![0, v99.toNat]
def k0_off8 (i : grid0.Coords) (k0_t3 : Fin (k0_t3_loop i).trips) : Fin 3 → Nat :=
  let c0_54 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v106 : Index := Scalar.indexCast v98
  let c0_55 : Index := 0#32
  ![0, v106.toNat, 0]
def k0_off9 (i : grid0.Coords) (k0_t3 : Fin (k0_t3_loop i).trips) (c0_i32_57 : BitVec 32) : Fin 3 → Nat :=
  let c0_58 : Index := 0#32
  let c0_59 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v120 : BitVec 32 := Scalar.addi v98 c0_i32_57
  let v121 : Index := Scalar.indexCast v120
  ![0, 0, v121.toNat]
@[reducible] def k0_t4_loop (i : grid0.Coords) : Scf.Loop 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let v83 : BitVec 32 := Scalar.addi c0_i32_43 v82
  let c1_i32_46 : BitVec 32 := 1#32
  ⟨v86, v83, c1_i32_46⟩
def k0_mult4 (i : grid0.Coords) (k0_t4 : Fin (k0_t4_loop i).trips) : BitVec 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  v97
def k0_off10 (i : grid0.Coords) (k0_t4 : Fin (k0_t4_loop i).trips) : Fin 2 → Nat :=
  let c0_52 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v99 : Index := Scalar.indexCast v98
  ![0, v99.toNat]
def k0_off11 (i : grid0.Coords) (k0_t4 : Fin (k0_t4_loop i).trips) : Fin 3 → Nat :=
  let c0_54 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v106 : Index := Scalar.indexCast v98
  let c0_55 : Index := 0#32
  ![0, v106.toNat, 0]
def k0_off12 (i : grid0.Coords) (k0_t4 : Fin (k0_t4_loop i).trips) (c0_i32_57 : BitVec 32) : Fin 3 → Nat :=
  let c0_58 : Index := 0#32
  let c0_59 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v120 : BitVec 32 := Scalar.addi v98 c0_i32_57
  let v121 : Index := Scalar.indexCast v120
  ![0, 0, v121.toNat]
def k0_cond3 (i : grid0.Coords) : BitVec 1 :=
  let arg1 : BitVec 32 := BitVec.ofNat 32 (i 1).val
  let c7_i32 : BitVec 32 := 7#32
  let v0 : BitVec 1 := Scalar.cmpi .eq arg1 c7_i32
  let v95 : BitVec 32 := Scalar.extui v0
  let c0_i32_51 : BitVec 32 := 0#32
  let v96 : BitVec 1 := Scalar.cmpi .ne v95 c0_i32_51
  v96

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
abbrev S64x4x4096 : Shape := ⟨3, ![64, 4, 4096]⟩
abbrev S64x65408x1x128 : Shape := ⟨4, ![64, 65408, 1, 128]⟩
abbrev S64x2044x1x256 : Shape := ⟨4, ![64, 2044, 1, 256]⟩
abbrev S64x65408x1x8 : Shape := ⟨4, ![64, 65408, 1, 8]⟩
abbrev S64x128x1x256 : Shape := ⟨4, ![64, 128, 1, 256]⟩
abbrev S256x256 : Shape := ⟨2, ![256, 256]⟩
abbrev S64x64x256 : Shape := ⟨3, ![64, 64, 256]⟩
abbrev S64x65408x128 : Shape := ⟨3, ![64, 65408, 128]⟩
abbrev S64x4088x128 : Shape := ⟨3, ![64, 4088, 128]⟩
abbrev S64x65408x8 : Shape := ⟨3, ![64, 65408, 8]⟩
abbrev S64x8x65408 : Shape := ⟨3, ![64, 8, 65408]⟩
abbrev S64x128x256 : Shape := ⟨3, ![64, 128, 256]⟩
abbrev S64x4x256 : Shape := ⟨3, ![64, 4, 256]⟩
abbrev S1x64x256 : Shape := ⟨3, ![1, 64, 256]⟩
abbrev S1x8192x128 : Shape := ⟨3, ![1, 8192, 128]⟩
abbrev S1x512x128 : Shape := ⟨3, ![1, 512, 128]⟩
abbrev S1x8x8192 : Shape := ⟨3, ![1, 8, 8192]⟩
abbrev S1x128x256 : Shape := ⟨3, ![1, 128, 256]⟩
abbrev S1x4x256 : Shape := ⟨3, ![1, 4, 256]⟩
abbrev S64x256 : Shape := ⟨2, ![64, 256]⟩
abbrev S64x8192 : Shape := ⟨2, ![64, 8192]⟩
abbrev S256x128 : Shape := ⟨2, ![256, 128]⟩
abbrev S256x2x128 : Shape := ⟨3, ![256, 2, 128]⟩
abbrev S256x1x128 : Shape := ⟨3, ![256, 1, 128]⟩
abbrev S64x128 : Shape := ⟨2, ![64, 128]⟩
abbrev S1x256x128 : Shape := ⟨3, ![1, 256, 128]⟩
abbrev S32x128 : Shape := ⟨2, ![32, 128]⟩
abbrev S1x128 : Shape := ⟨2, ![1, 128]⟩
abbrev S1x2x128 : Shape := ⟨3, ![1, 2, 128]⟩
abbrev S1x1x128 : Shape := ⟨3, ![1, 1, 128]⟩
abbrev S8x128 : Shape := ⟨2, ![8, 128]⟩
abbrev S16x128 : Shape := ⟨2, ![16, 128]⟩
abbrev S32x256 : Shape := ⟨2, ![32, 256]⟩
abbrev S1x128x128 : Shape := ⟨3, ![1, 128, 128]⟩
abbrev S128x128 : Shape := ⟨2, ![128, 128]⟩
abbrev S128x256 : Shape := ⟨2, ![128, 256]⟩
abbrev S64 : Shape := ⟨1, ![64]⟩
abbrev S64x1 : Shape := ⟨2, ![64, 1]⟩
abbrev S1x8x128 : Shape := ⟨3, ![1, 8, 128]⟩
abbrev S4x256 : Shape := ⟨2, ![4, 256]⟩
abbrev S64x4 : Shape := ⟨2, ![64, 4]⟩

abbrev nBuf : Space → Nat
  | .hbm => 25
  | .vmem => 34
  | .smem => 0
  | _ => 0

abbrev bufTy : (tb : Table) → Fin (tcTables nBuf tb) → BufTy
  | .hbm, ⟨0, _⟩ => ⟨S64x4x4096, .bf16⟩
  | .hbm, ⟨1, _⟩ => ⟨S64x65408x1x128, .i8⟩
  | .hbm, ⟨2, _⟩ => ⟨S64x2044x1x256, .f32⟩
  | .hbm, ⟨3, _⟩ => ⟨S64x2044x1x256, .f32⟩
  | .hbm, ⟨4, _⟩ => ⟨S64x65408x1x128, .i8⟩
  | .hbm, ⟨5, _⟩ => ⟨S64x65408x1x8, .f32⟩
  | .hbm, ⟨6, _⟩ => ⟨S64x65408x1x8, .f32⟩
  | .hbm, ⟨7, _⟩ => ⟨S64x128x1x256, .bf16⟩
  | .hbm, ⟨8, _⟩ => ⟨S64x128x1x256, .bf16⟩
  | .hbm, ⟨9, _⟩ => ⟨S256x256, .bf16⟩
  | .hbm, ⟨10, _⟩ => ⟨S256x256, .bf16⟩
  | .hbm, ⟨11, _⟩ => ⟨S64x64x256, .bf16⟩
  | .hbm, ⟨12, _⟩ => ⟨S64x65408x128, .i8⟩
  | .hbm, ⟨13, _⟩ => ⟨S64x4088x128, .f32⟩
  | .hbm, ⟨14, _⟩ => ⟨S64x4088x128, .f32⟩
  | .hbm, ⟨15, _⟩ => ⟨S64x65408x128, .i8⟩
  | .hbm, ⟨16, _⟩ => ⟨S64x65408x8, .f32⟩
  | .hbm, ⟨17, _⟩ => ⟨S64x8x65408, .f32⟩
  | .hbm, ⟨18, _⟩ => ⟨S64x65408x8, .f32⟩
  | .hbm, ⟨19, _⟩ => ⟨S64x8x65408, .f32⟩
  | .hbm, ⟨20, _⟩ => ⟨S64x128x256, .bf16⟩
  | .hbm, ⟨21, _⟩ => ⟨S64x128x256, .bf16⟩
  | .hbm, ⟨22, _⟩ => ⟨S64x4x256, .bf16⟩
  | .hbm, ⟨23, _⟩ => ⟨S64x4x256, .bf16⟩
  | .hbm, ⟨24, _⟩ => ⟨S64x64x256, .bf16⟩
  | .local _ .vmem, ⟨0, _⟩ => ⟨S1x64x256, .bf16⟩
  | .local _ .vmem, ⟨1, _⟩ => ⟨S1x64x256, .bf16⟩
  | .local _ .vmem, ⟨2, _⟩ => ⟨S1x8192x128, .i8⟩
  | .local _ .vmem, ⟨3, _⟩ => ⟨S1x8192x128, .i8⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x8192x128, .i8⟩
  | .local _ .vmem, ⟨9, _⟩ => ⟨S1x8192x128, .i8⟩
  | .local _ .vmem, ⟨10, _⟩ => ⟨S1x8x8192, .f32⟩
  | .local _ .vmem, ⟨11, _⟩ => ⟨S1x8x8192, .f32⟩
  | .local _ .vmem, ⟨12, _⟩ => ⟨S1x8x8192, .f32⟩
  | .local _ .vmem, ⟨13, _⟩ => ⟨S1x8x8192, .f32⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x4x256, .bf16⟩
  | .local _ .vmem, ⟨19, _⟩ => ⟨S1x4x256, .bf16⟩
  | .local _ .vmem, ⟨20, _⟩ => ⟨S1x4x256, .bf16⟩
  | .local _ .vmem, ⟨21, _⟩ => ⟨S1x4x256, .bf16⟩
  | .local _ .vmem, ⟨22, _⟩ => ⟨S1x64x256, .bf16⟩
  | .local _ .vmem, ⟨23, _⟩ => ⟨S1x64x256, .bf16⟩
  | .local _ .vmem, ⟨24, _⟩ => ⟨S64x256, .bf16⟩
  | .local _ .vmem, ⟨25, _⟩ => ⟨S64x8192, .f32⟩
  | .local _ .vmem, ⟨26, _⟩ => ⟨S256x2x128, .bf16⟩
  | .local _ .vmem, ⟨27, _⟩ => ⟨S256x2x128, .bf16⟩
  | .local _ .vmem, ⟨28, _⟩ => ⟨S256x2x128, .bf16⟩
  | .local _ .vmem, ⟨29, _⟩ => ⟨S256x2x128, .bf16⟩
  | .local _ .vmem, ⟨30, _⟩ => ⟨S64x128, .f32⟩
  | .local _ .vmem, ⟨31, _⟩ => ⟨S64x128, .f32⟩
  | .local _ .vmem, ⟨32, _⟩ => ⟨S64x128, .f32⟩
  | .local _ .vmem, ⟨33, _⟩ => ⟨S64x256, .f32⟩
  | _, _ => ⟨S64x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F] [Named F]

def κ : String → Option EReal := fun
  | "c" => some (((Real.log 2)⁻¹ * 16⁻¹ : ℝ) : EReal)
  | _ => none

abbrev grid0 : Pipeline.Grid := ⟨2, ![64, 8], ![false, false]⟩

@[reducible] def k0_t1_loop (i : grid0.Coords) : Scf.Loop 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_26 : BitVec 32 := 1#32
  ⟨c0_i32_24, v56, c1_i32_26⟩
def k0_mult1 (i : grid0.Coords) (k0_t1 : Fin (k0_t1_loop i).trips) : BitVec 32 :=
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  v97
def k0_off1 (i : grid0.Coords) (k0_t1 : Fin (k0_t1_loop i).trips) : Fin 3 → Nat :=
  let c0_52 : Index := 0#32
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  let v98 : BitVec 32 := v97
  let v99 : Index := Scalar.indexCast v98
  let c0_53 : Index := 0#32
  ![0, v99.toNat, 0]
def k0_off2 (i : grid0.Coords) (k0_t1 : Fin (k0_t1_loop i).trips) (c0_i32_55 : BitVec 32) : Fin 3 → Nat :=
  let c0_i32_24 : BitVec 32 := 0#32
  let c1_i32_26 : BitVec 32 := 1#32
  let arg24 : BitVec 32 := Scf.iv c0_i32_24 c1_i32_26 k0_t1
  let c8_i32 : BitVec 32 := 8#32
  let v102 : BitVec 32 := Scalar.muli arg24 c8_i32
  let v115 : BitVec 32 := Scalar.addi v102 c0_i32_55
  let v116 : Index := Scalar.indexCast v115
  let c0_56 : Index := 0#32
  ![v116.toNat, 0, 0]
def k0_off3 (i : grid0.Coords) (k0_t1 : Fin (k0_t1_loop i).trips) : Fin 2 → Nat :=
  let c0_116 : Index := 0#32
  let c0_i32_24 : BitVec 32 := 0#32
  let c1_i32_26 : BitVec 32 := 1#32
  let arg24 : BitVec 32 := Scf.iv c0_i32_24 c1_i32_26 k0_t1
  let c256_i32 : BitVec 32 := 256#32
  let v97 : BitVec 32 := Scalar.muli arg24 c256_i32
  let v98 : BitVec 32 := v97
  let v364 : Index := Scalar.indexCast v98
  ![0, v364.toNat]
@[reducible] def k0_t2_loop (i : grid0.Coords) : Scf.Loop 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let v53 : BitVec 32 := Scalar.addi c0_i32_24 v52
  let c1_i32_27 : BitVec 32 := 1#32
  ⟨v56, v53, c1_i32_27⟩
def k0_mult2 (i : grid0.Coords) (k0_t2 : Fin (k0_t2_loop i).trips) : BitVec 32 :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  v97
def k0_off4 (i : grid0.Coords) (k0_t2 : Fin (k0_t2_loop i).trips) : Fin 3 → Nat :=
  let c0_52 : Index := 0#32
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  let v98 : BitVec 32 := v97
  let v99 : Index := Scalar.indexCast v98
  let c0_53 : Index := 0#32
  ![0, v99.toNat, 0]
def k0_off5 (i : grid0.Coords) (k0_t2 : Fin (k0_t2_loop i).trips) (c0_i32_55 : BitVec 32) : Fin 3 → Nat :=
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c8_i32 : BitVec 32 := 8#32
  let v102 : BitVec 32 := Scalar.muli arg24 c8_i32
  let v115 : BitVec 32 := Scalar.addi v102 c0_i32_55
  let v116 : Index := Scalar.indexCast v115
  let c0_56 : Index := 0#32
  ![v116.toNat, 0, 0]
def k0_off6 (i : grid0.Coords) (k0_t2 : Fin (k0_t2_loop i).trips) : Fin 2 → Nat :=
  let c0_116 : Index := 0#32
  let c0_i32_24 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v52 : BitVec 32 := Scalar.subi v14 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg24 : BitVec 32 := Scf.iv v56 c1_i32_27 k0_t2
  let c256_i32 : BitVec 32 := 256#32
  let v97 : BitVec 32 := Scalar.muli arg24 c256_i32
  let v98 : BitVec 32 := v97
  let v364 : Index := Scalar.indexCast v98
  ![0, v364.toNat]
@[reducible] def k0_t3_loop (i : grid0.Coords) : Scf.Loop 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_45 : BitVec 32 := 1#32
  ⟨c0_i32_43, v86, c1_i32_45⟩
def k0_mult3 (i : grid0.Coords) (k0_t3 : Fin (k0_t3_loop i).trips) : BitVec 32 :=
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  v97
def k0_off7 (i : grid0.Coords) (k0_t3 : Fin (k0_t3_loop i).trips) : Fin 2 → Nat :=
  let c0_52 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v99 : Index := Scalar.indexCast v98
  ![0, v99.toNat]
def k0_off8 (i : grid0.Coords) (k0_t3 : Fin (k0_t3_loop i).trips) : Fin 3 → Nat :=
  let c0_54 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v106 : Index := Scalar.indexCast v98
  let c0_55 : Index := 0#32
  ![0, v106.toNat, 0]
def k0_off9 (i : grid0.Coords) (k0_t3 : Fin (k0_t3_loop i).trips) (c0_i32_57 : BitVec 32) : Fin 3 → Nat :=
  let c0_58 : Index := 0#32
  let c0_59 : Index := 0#32
  let c0_i32_43 : BitVec 32 := 0#32
  let c1_i32_45 : BitVec 32 := 1#32
  let arg24 : BitVec 32 := Scf.iv c0_i32_43 c1_i32_45 k0_t3
  let c256_i32 : BitVec 32 := 256#32
  let v97 : BitVec 32 := Scalar.muli arg24 c256_i32
  let v98 : BitVec 32 := v97
  let v120 : BitVec 32 := Scalar.addi v98 c0_i32_57
  let v121 : Index := Scalar.indexCast v120
  ![0, 0, v121.toNat]
@[reducible] def k0_t4_loop (i : grid0.Coords) : Scf.Loop 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let v83 : BitVec 32 := Scalar.addi c0_i32_43 v82
  let c1_i32_46 : BitVec 32 := 1#32
  ⟨v86, v83, c1_i32_46⟩
def k0_mult4 (i : grid0.Coords) (k0_t4 : Fin (k0_t4_loop i).trips) : BitVec 32 :=
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  v97
def k0_off10 (i : grid0.Coords) (k0_t4 : Fin (k0_t4_loop i).trips) : Fin 2 → Nat :=
  let c0_52 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v99 : Index := Scalar.indexCast v98
  ![0, v99.toNat]
def k0_off11 (i : grid0.Coords) (k0_t4 : Fin (k0_t4_loop i).trips) : Fin 3 → Nat :=
  let c0_54 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v106 : Index := Scalar.indexCast v98
  let c0_55 : Index := 0#32
  ![0, v106.toNat, 0]
def k0_off12 (i : grid0.Coords) (k0_t4 : Fin (k0_t4_loop i).trips) (c0_i32_57 : BitVec 32) : Fin 3 → Nat :=
  let c0_58 : Index := 0#32
  let c0_59 : Index := 0#32
  let c0_i32_43 : BitVec 32 := 0#32
  let arg1 : BitVec 32 := BitVec.ofNat 32 (i 1).val
  let c7_i32 : BitVec 32 := 7#32
  let v0 : BitVec 1 := Scalar.cmpi .eq arg1 c7_i32
  let c31_i32 : BitVec 32 := 31#32
  let c32_i32 : BitVec 32 := 32#32
  let v14 : BitVec 32 := Scalar.select v0 c31_i32 c32_i32
  let v82 : BitVec 32 := Scalar.subi v14 c0_i32_43
  let c1_i32_44 : BitVec 32 := 1#32
  let v84 : BitVec 32 := Scalar.divsi v82 c1_i32_44
  let v85 : BitVec 32 := Scalar.muli v84 c1_i32_44
  let v86 : BitVec 32 := Scalar.addi c0_i32_43 v85
  let c1_i32_46 : BitVec 32 := 1#32
  let arg24 : BitVec 32 := Scf.iv v86 c1_i32_46 k0_t4
  let c256_i32 : BitVec 32 := 256#32
  let v97 : BitVec 32 := Scalar.muli arg24 c256_i32
  let v98 : BitVec 32 := v97
  let v120 : BitVec 32 := Scalar.addi v98 c0_i32_57
  let v121 : Index := Scalar.indexCast v120
  ![0, 0, v121.toNat]
def k0_cond3 (i : grid0.Coords) : BitVec 1 :=
  let arg1 : BitVec 32 := BitVec.ofNat 32 (i 1).val
  let c7_i32 : BitVec 32 := 7#32
  let v0 : BitVec 1 := Scalar.cmpi .eq arg1 c7_i32
  let v95 : BitVec 32 := Scalar.extui v0
  let c0_i32_51 : BitVec 32 := 0#32
  let v96 : BitVec 1 := Scalar.cmpi .ne v95 c0_i32_51
  v96

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S64x4x4096 : Shape := ⟨3, ![64, 4, 4096]⟩
abbrev S64x65408x1x128 : Shape := ⟨4, ![64, 65408, 1, 128]⟩
abbrev S64x2044x1x256 : Shape := ⟨4, ![64, 2044, 1, 256]⟩
abbrev S64x65408x1x8 : Shape := ⟨4, ![64, 65408, 1, 8]⟩
abbrev S64x128x1x256 : Shape := ⟨4, ![64, 128, 1, 256]⟩
abbrev S256x256 : Shape := ⟨2, ![256, 256]⟩
abbrev S64x64x256 : Shape := ⟨3, ![64, 64, 256]⟩
abbrev S64x65408x128 : Shape := ⟨3, ![64, 65408, 128]⟩
abbrev S_ : Shape := ⟨0, ![]⟩
abbrev S64x65408x128x1 : Shape := ⟨4, ![64, 65408, 128, 1]⟩
abbrev S64x65408x128x2 : Shape := ⟨4, ![64, 65408, 128, 2]⟩
abbrev S64x2044x32x256 : Shape := ⟨4, ![64, 2044, 32, 256]⟩
abbrev S64x65408x8x32 : Shape := ⟨4, ![64, 65408, 8, 32]⟩
abbrev S64x65408x8x1 : Shape := ⟨4, ![64, 65408, 8, 1]⟩
abbrev S64x65408x256 : Shape := ⟨3, ![64, 65408, 256]⟩
abbrev S64x128x256 : Shape := ⟨3, ![64, 128, 256]⟩
abbrev S64x4x2x128 : Shape := ⟨4, ![64, 4, 2, 128]⟩
abbrev S64x4x128x2 : Shape := ⟨4, ![64, 4, 128, 2]⟩
abbrev S64x4x256 : Shape := ⟨3, ![64, 4, 256]⟩
abbrev S64x65540x256 : Shape := ⟨3, ![64, 65540, 256]⟩
abbrev S64x64x65540 : Shape := ⟨3, ![64, 64, 65540]⟩
abbrev S64x64 : Shape := ⟨2, ![64, 64]⟩
abbrev S64x64x1 : Shape := ⟨3, ![64, 64, 1]⟩

abbrev nBuf : Space → Nat
  | .hbm => 94
  | .vmem => 0
  | .smem => 0
  | _ => 0

abbrev bufTy : (tb : Table) → Fin (tcTables nBuf tb) → BufTy
  | .hbm, ⟨0, _⟩ => ⟨S64x4x4096, .bf16⟩
  | .hbm, ⟨1, _⟩ => ⟨S64x65408x1x128, .i8⟩
  | .hbm, ⟨2, _⟩ => ⟨S64x2044x1x256, .f32⟩
  | .hbm, ⟨3, _⟩ => ⟨S64x2044x1x256, .f32⟩
  | .hbm, ⟨4, _⟩ => ⟨S64x65408x1x128, .i8⟩
  | .hbm, ⟨5, _⟩ => ⟨S64x65408x1x8, .f32⟩
  | .hbm, ⟨6, _⟩ => ⟨S64x65408x1x8, .f32⟩
  | .hbm, ⟨7, _⟩ => ⟨S64x128x1x256, .bf16⟩
  | .hbm, ⟨8, _⟩ => ⟨S64x128x1x256, .bf16⟩
  | .hbm, ⟨9, _⟩ => ⟨S256x256, .bf16⟩
  | .hbm, ⟨10, _⟩ => ⟨S256x256, .bf16⟩
  | .hbm, ⟨11, _⟩ => ⟨S64x64x256, .bf16⟩
  | .hbm, ⟨12, _⟩ => ⟨S64x65408x128, .i8⟩
  | .hbm, ⟨13, _⟩ => ⟨S64x65408x128, .i32⟩
  | .hbm, ⟨14, _⟩ => ⟨S_, .i32⟩
  | .hbm, ⟨15, _⟩ => ⟨S64x65408x128, .i32⟩
  | .hbm, ⟨16, _⟩ => ⟨S64x65408x128, .i32⟩
  | .hbm, ⟨17, _⟩ => ⟨S_, .i32⟩
  | .hbm, ⟨18, _⟩ => ⟨S64x65408x128, .i32⟩
  | .hbm, ⟨19, _⟩ => ⟨S64x65408x128, .i32⟩
  | .hbm, ⟨20, _⟩ => ⟨S64x65408x128x1, .i32⟩
  | .hbm, ⟨21, _⟩ => ⟨S64x65408x128x1, .i32⟩
  | .hbm, ⟨22, _⟩ => ⟨S64x65408x128x2, .i32⟩
  | .hbm, ⟨23, _⟩ => ⟨S64x65408x128x2, .bf16⟩
  | .hbm, ⟨24, _⟩ => ⟨S64x2044x32x256, .bf16⟩
  | .hbm, ⟨25, _⟩ => ⟨S64x2044x1x256, .bf16⟩
  | .hbm, ⟨26, _⟩ => ⟨S64x2044x32x256, .bf16⟩
  | .hbm, ⟨27, _⟩ => ⟨S64x2044x32x256, .bf16⟩
  | .hbm, ⟨28, _⟩ => ⟨S64x2044x1x256, .bf16⟩
  | .hbm, ⟨29, _⟩ => ⟨S64x2044x32x256, .bf16⟩
  | .hbm, ⟨30, _⟩ => ⟨S64x2044x32x256, .bf16⟩
  | .hbm, ⟨31, _⟩ => ⟨S64x65408x128, .i8⟩
  | .hbm, ⟨32, _⟩ => ⟨S64x65408x128, .i32⟩
  | .hbm, ⟨33, _⟩ => ⟨S_, .i32⟩
  | .hbm, ⟨34, _⟩ => ⟨S64x65408x128, .i32⟩
  | .hbm, ⟨35, _⟩ => ⟨S64x65408x128, .i32⟩
  | .hbm, ⟨36, _⟩ => ⟨S_, .i32⟩
  | .hbm, ⟨37, _⟩ => ⟨S64x65408x128, .i32⟩
  | .hbm, ⟨38, _⟩ => ⟨S64x65408x128, .i32⟩
  | .hbm, ⟨39, _⟩ => ⟨S64x65408x128x1, .i32⟩
  | .hbm, ⟨40, _⟩ => ⟨S64x65408x128x1, .i32⟩
  | .hbm, ⟨41, _⟩ => ⟨S64x65408x128x2, .i32⟩
  | .hbm, ⟨42, _⟩ => ⟨S64x65408x128x2, .bf16⟩
  | .hbm, ⟨43, _⟩ => ⟨S64x65408x8x32, .bf16⟩
  | .hbm, ⟨44, _⟩ => ⟨S64x65408x1x8, .bf16⟩
  | .hbm, ⟨45, _⟩ => ⟨S64x65408x8x1, .bf16⟩
  | .hbm, ⟨46, _⟩ => ⟨S64x65408x8x32, .bf16⟩
  | .hbm, ⟨47, _⟩ => ⟨S64x65408x8x32, .bf16⟩
  | .hbm, ⟨48, _⟩ => ⟨S64x65408x1x8, .bf16⟩
  | .hbm, ⟨49, _⟩ => ⟨S64x65408x8x1, .bf16⟩
  | .hbm, ⟨50, _⟩ => ⟨S64x65408x8x32, .bf16⟩
  | .hbm, ⟨51, _⟩ => ⟨S64x65408x8x32, .bf16⟩
  | .hbm, ⟨52, _⟩ => ⟨S64x65408x256, .bf16⟩
  | .hbm, ⟨53, _⟩ => ⟨S64x128x256, .bf16⟩
  | .hbm, ⟨54, _⟩ => ⟨S64x4x2x128, .bf16⟩
  | .hbm, ⟨55, _⟩ => ⟨S64x4x128x2, .bf16⟩
  | .hbm, ⟨56, _⟩ => ⟨S64x4x256, .bf16⟩
  | .hbm, ⟨57, _⟩ => ⟨S64x65540x256, .bf16⟩
  | .hbm, ⟨58, _⟩ => ⟨S64x65408x256, .bf16⟩
  | .hbm, ⟨59, _⟩ => ⟨S64x128x256, .bf16⟩
  | .hbm, ⟨60, _⟩ => ⟨S64x4x2x128, .bf16⟩
  | .hbm, ⟨61, _⟩ => ⟨S64x4x128x2, .bf16⟩
  | .hbm, ⟨62, _⟩ => ⟨S64x4x256, .bf16⟩
  | .hbm, ⟨63, _⟩ => ⟨S64x65540x256, .bf16⟩
  | .hbm, ⟨64, _⟩ => ⟨S64x64x65540, .f32⟩
  | .hbm, ⟨65, _⟩ => ⟨S_, .f32⟩
  | .hbm, ⟨66, _⟩ => ⟨S64x64x65540, .f32⟩
  | .hbm, ⟨67, _⟩ => ⟨S64x64x65540, .f32⟩
  | .hbm, ⟨68, _⟩ => ⟨S64x64x65540, .i32⟩
  | .hbm, ⟨69, _⟩ => ⟨S64x64x65540, .i32⟩
  | .hbm, ⟨70, _⟩ => ⟨S_, .i32⟩
  | .hbm, ⟨71, _⟩ => ⟨S64x64x65540, .i32⟩
  | .hbm, ⟨72, _⟩ => ⟨S64x64x65540, .i32⟩
  | .hbm, ⟨73, _⟩ => ⟨S_, .i32⟩
  | .hbm, ⟨74, _⟩ => ⟨S64x64x65540, .i32⟩
  | .hbm, ⟨75, _⟩ => ⟨S64x64x65540, .i32⟩
  | .hbm, ⟨76, _⟩ => ⟨S64x64x65540, .i1⟩
  | .hbm, ⟨77, _⟩ => ⟨S_, .f32⟩
  | .hbm, ⟨78, _⟩ => ⟨S64x64x65540, .f32⟩
  | .hbm, ⟨79, _⟩ => ⟨S64x64x65540, .f32⟩
  | .hbm, ⟨80, _⟩ => ⟨S_, .f32⟩
  | .hbm, ⟨81, _⟩ => ⟨S64x64, .f32⟩
  | .hbm, ⟨82, _⟩ => ⟨S64x64x1, .f32⟩
  | .hbm, ⟨83, _⟩ => ⟨S64x64x65540, .f32⟩
  | .hbm, ⟨84, _⟩ => ⟨S64x64x65540, .f32⟩
  | .hbm, ⟨85, _⟩ => ⟨S64x64x65540, .f32⟩
  | .hbm, ⟨86, _⟩ => ⟨S64x64x65540, .bf16⟩
  | .hbm, ⟨87, _⟩ => ⟨S64x64x256, .f32⟩
  | .hbm, ⟨88, _⟩ => ⟨S_, .f32⟩
  | .hbm, ⟨89, _⟩ => ⟨S64x64, .f32⟩
  | .hbm, ⟨90, _⟩ => ⟨S64x64x1, .f32⟩
  | .hbm, ⟨91, _⟩ => ⟨S64x64x256, .f32⟩
  | .hbm, ⟨92, _⟩ => ⟨S64x64x256, .f32⟩
  | .hbm, ⟨93, _⟩ => ⟨S64x64x256, .bf16⟩
  | _, _ => ⟨S64x4x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_3 : Ref sig .tc := ⟨.hbm, 70, rfl⟩
abbrev main_v54 : Ref sig .tc := ⟨.hbm, 71, rfl⟩
abbrev main_v55 : Ref sig .tc := ⟨.hbm, 72, rfl⟩
abbrev main_c_4 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Proof.P.Run.lean ====
/-
  The body of the attention kernel run once per kind of grid point: the first block of a batch, a middle block, the last
  block. Each run takes every operand at given contents and gives the pieces the body writes, which the run itself finds.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The block is the first of its batch, or the last. -/
abbrev First (i : grid0.Coords) : Prop := (Scalar.cmpi .ne (Scalar.extui (Scalar.cmpi .eq (BitVec.ofNat 32 (i 1).val) 0#32) : BitVec 32) 0#32) = 1#1
abbrev Last (i : grid0.Coords) : Prop := (Scalar.cmpi .ne (Scalar.extui (Scalar.cmpi .eq (BitVec.ofNat 32 (i 1).val) 7#32) : BitVec 32) 0#32) = 1#1

/-- The two remainder loops make no trip. -/
theorem trips_t2 (i : grid0.Coords) : (k0_t2_loop i).trips = 0 := by
  obtain ⟨v, hv⟩ : ∃ v : Fin 8, (i 1).val = v.val := ⟨i 1, rfl⟩
  simp only [k0_t2_loop, hv]; clear hv; revert v; decide
theorem trips_t4 (i : grid0.Coords) : (k0_t4_loop i).trips = 0 := by
  obtain ⟨v, hv⟩ : ∃ v : Fin 8, (i 1).val = v.val := ⟨i 1, rfl⟩
  simp only [k0_t4_loop, hv]; clear hv; revert v; decide

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x128 .i32) (harg16 : arg16.IsWhole)
variable (arg17 : Memref sig .tc .vmem S256x128 .i32) (harg17 : arg17.IsWhole)
variable (arg18 : Memref sig .tc .vmem S256x128 .i32) (harg18 : arg18.IsWhole)
variable (arg19 : Memref sig .tc .vmem S256x128 .i32) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt F) arg2.view.ty)
variable (X3 : BufTy.Contents (Elt F) arg3.view.ty)
variable (X4 : BufTy.Contents (Elt F) arg4.view.ty)
variable (X5 : BufTy.Contents (Elt F) arg5.view.ty)
variable (X6 : BufTy.Contents (Elt F) arg6.view.ty)
variable (X7 : BufTy.Contents (Elt F) arg7.view.ty)
variable (X8 : BufTy.Contents (Elt F) arg8.view.ty)
variable (X9 : BufTy.Contents (Elt F) arg9.view.ty)
variable (X10 : BufTy.Contents (Elt F) arg10.view.ty)
variable (X11 : BufTy.Contents (Elt F) arg11.view.ty)
variable (X12 : BufTy.Contents (Elt F) arg12.view.ty)
variable (X13 : BufTy.Contents (Elt F) arg13.view.ty)
variable (X14 : BufTy.Contents (Elt F) arg14.view.ty)
variable (X15 : BufTy.Contents (Elt F) arg15.view.ty)
variable (X16 : BufTy.Contents (Elt F) arg16.view.ty)
variable (X17 : BufTy.Contents (Elt F) arg17.view.ty)
variable (X18 : BufTy.Contents (Elt F) arg18.view.ty)
variable (X19 : BufTy.Contents (Elt F) arg19.view.ty)
variable (X20 : BufTy.Contents (Elt F) arg20.view.ty)
variable (X21 : BufTy.Contents (Elt F) arg21.view.ty)
variable (X22 : BufTy.Contents (Elt F) arg22.view.ty)
variable (X23 : BufTy.Contents (Elt F) arg23.view.ty)

/-- Every operand owned whole at given contents. -/
abbrev Held (c : Dev nD) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23))

/-- A middle block. -/
@[irreducible] def runMiddle (c : Dev nD) (i : grid0.Coords) (h1 : ¬First i) (h2 : ¬Last i) :
    Σ' (L15 : List (View.Piece (Elt F) S64x8192 .f32)), Σ' (L16 : List (View.Piece (Elt F) S256x128 .i32)), Σ' (L17 : List (View.Piece (Elt F) S256x128 .i32)), Σ' (L18 : List (View.Piece (Elt F) S256x128 .i32)), Σ' (L19 : List (View.Piece (Elt F) S256x128 .i32)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} (arg22.view.writes (Elt F) X22 L22)) ∗ (arg23.view.loc (c : Thread nD τ) ↦[arg23.view.set]{fullShare} (arg23.view.writes (Elt F) X23 L23))) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

/-- The first block of a batch. -/
@[irreducible] def runFirst (c : Dev nD) (i : grid0.Coords) (h1 : First i) (h2 : ¬Last i) :
    Σ' (L14 : List (View.Piece (Elt F) S64x256 .bf16)), Σ' (L15 : List (View.Piece (Elt F) S64x8192 .f32)), Σ' (L16 : List (View.Piece (Elt F) S256x128 .i32)), Σ' (L17 : List (View.Piece (Elt F) S256x128 .i32)), Σ' (L18 : List (View.Piece (Elt F) S256x128 .i32)), Σ' (L19 : List (View.Piece (Elt F) S256x128 .i32)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (∃ f, arg14.view.loc (c : Thread nD τ) ↦[arg14.view.set]{fullShare} arg14.view.writes (Elt F) f L14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23)) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

/-- The last block of a batch. -/
@[irreducible] def runLast (c : Dev nD) (i : grid0.Coords) (h1 : ¬First i) (h2 : Last i) :
    Σ' (L13 : List (View.Piece (Elt F) S1x64x256 .bf16)), Σ' (L15 : List (View.Piece (Elt F) S64x8192 .f32)), Σ' (L16 : List (View.Piece (Elt F) S256x128 .i32)), Σ' (L17 : List (View.Piece (Elt F) S256x128 .i32)), Σ' (L18 : List (View.Piece (Elt F) S256x128 .i32)), Σ' (L19 : List (View.Piece (Elt F) S256x128 .i32)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} (arg13.view.writes (Elt F) X13 L13)) ∗ (arg14.view.loc (c : Thread nD τ) ↦[arg14.view.set]{fullShare} X14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} (arg22.view.writes (Elt F) X22 L22)) ∗ (arg23.view.loc (c : Thread nD τ) ↦[arg23.view.set]{fullShare} (arg23.view.writes (Elt F) X23 L23))) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

end Cert.Kernel.Hand

end
-- ==== Proof.P.Frame.lean ====
/-
  The frame of the attention kernel, with what its scratch carries from point to point. The running query, maximum, sum and
  weighted sum are the four buffers a point leaves for the next; a certificate says of them what it likes (`Inv`) and what the last
  block of a batch leaves in the output's buffer (`Out`), and shows that each of the three kinds of point keeps it.
-/
module

public import proofs.«01_k».proof.Proof.P.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F] [∀ e, Nonempty (Elt F e)]

local notation "𝕄" => MT nD τ sig Unit (Elt F) ℕ (UR sig nD τ) ℕ

/-- A block is not both the first and the last. -/
theorem not_last_of_first (i : grid0.Coords) (h : First i) : ¬Last i := by
  obtain ⟨v, hv⟩ : ∃ v : Fin 8, (i 1).val = v.val := ⟨i 1, rfl⟩
  unfold First at h; unfold Last; simp only [hv] at h ⊢; clear hv; revert v; decide

/-- What a point makes of the four carried buffers and the output's: the contents before it and after it. -/
abbrev After (F : FTy → Type) : Type := Vec F S1x64x256 .bf16 → Vec F S64x256 .bf16 → Vec F S64x128 .f32 → Vec F S64x128 .f32 → Vec F S64x256 .f32 → Prop

section Cases
variable (y2 : Vec F S1x64x256 .bf16)
variable (y3 : Vec F S1x8192x128 .i8)
variable (y4 : Vec F S1x512x128 .f32)
variable (y5 : Vec F S1x512x128 .f32)
variable (y6 : Vec F S1x8192x128 .i8)
variable (y7 : Vec F S1x8x8192 .f32)
variable (y8 : Vec F S1x8x8192 .f32)
variable (y9 : Vec F S1x128x256 .bf16)
variable (y10 : Vec F S1x128x256 .bf16)
variable (y11 : Vec F S1x4x256 .bf16)
variable (y12 : Vec F S1x4x256 .bf16)
variable (y13 : Vec F S1x64x256 .bf16)
variable (y14 : Vec F S64x256 .bf16)
variable (y21 : Vec F S64x128 .f32)
variable (y22 : Vec F S64x128 .f32)
variable (y23 : Vec F S64x256 .f32)

/-- What a middle block leaves is as `A` says, whatever the operands' buffers hold beside the values named. -/
def LeavesMiddle (c : Dev nD) (i : grid0.Coords) (hf : ¬First i) (hl : ¬Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x128 .i32) (harg16 : arg16.IsWhole) (arg17 : Memref sig .tc .vmem S256x128 .i32) (harg17 : arg17.IsWhole) (arg18 : Memref sig .tc .vmem S256x128 .i32) (harg18 : arg18.IsWhole) (arg19 : Memref sig .tc .vmem S256x128 .i32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f21 : BufTy.Contents (Elt F) arg21.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) X13) (arg14.view.read (Elt F) X14) (arg21.view.read (Elt F) (arg21.view.writes (Elt F) f21 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.1)) (arg22.view.read (Elt F) (arg22.view.writes (Elt F) X22 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg23.view.read (Elt F) (arg23.view.writes (Elt F) X23 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1))

/-- What the first block of a batch leaves is as `A` says, whatever the operands' buffers hold beside the values named. -/
def LeavesFirst (c : Dev nD) (i : grid0.Coords) (hf : First i) (hl : ¬Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x128 .i32) (harg16 : arg16.IsWhole) (arg17 : Memref sig .tc .vmem S256x128 .i32) (harg17 : arg17.IsWhole) (arg18 : Memref sig .tc .vmem S256x128 .i32) (harg18 : arg18.IsWhole) (arg19 : Memref sig .tc .vmem S256x128 .i32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f14 : BufTy.Contents (Elt F) arg14.view.ty) (f21 : BufTy.Contents (Elt F) arg21.view.ty) (f22 : BufTy.Contents (Elt F) arg22.view.ty) (f23 : BufTy.Contents (Elt F) arg23.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) X13) (arg14.view.read (Elt F) (arg14.view.writes (Elt F) f14 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).1)) (arg21.view.read (Elt F) (arg21.view.writes (Elt F) f21 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg22.view.read (Elt F) (arg22.view.writes (Elt F) f22 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1)) (arg23.view.read (Elt F) (arg23.view.writes (Elt F) f23 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.1))

/-- What the last block of a batch leaves is as `A` says, whatever the operands' buffers hold beside the values named. -/
def LeavesLast (c : Dev nD) (i : grid0.Coords) (hf : ¬First i) (hl : Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x128 .i32) (harg16 : arg16.IsWhole) (arg17 : Memref sig .tc .vmem S256x128 .i32) (harg17 : arg17.IsWhole) (arg18 : Memref sig .tc .vmem S256x128 .i32) (harg18 : arg18.IsWhole) (arg19 : Memref sig .tc .vmem S256x128 .i32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f21 : BufTy.Contents (Elt F) arg21.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) (arg13.view.writes (Elt F) X13 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).1)) (arg14.view.read (Elt F) X14) (arg21.view.read (Elt F) (arg21.view.writes (Elt F) f21 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg22.view.read (Elt F) (arg22.view.writes (Elt F) X22 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1)) (arg23.view.read (Elt F) (arg23.view.writes (Elt F) X23 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.1))

/-- A point does to the carried buffers and the output what `A` says. -/
structure Does (c : Dev nD) (i : grid0.Coords) (A : After F) : Prop where
  middle : ∀ hf hl, LeavesMiddle y2 y3 y4 y5 y6 y7 y8 y9 y10 y11 y12 y13 y14 y21 y22 y23 c i hf hl A
  first : ∀ hf hl, LeavesFirst y2 y3 y4 y5 y6 y7 y8 y9 y10 y11 y12 y13 y14 y21 y22 y23 c i hf hl A
  last : ∀ hf hl, LeavesLast y2 y3 y4 y5 y6 y7 y8 y9 y10 y11 y12 y13 y14 y21 y22 y23 c i hf hl A

variable (y15 : Vec F S64x8192 .f32) (y16 : Vec F S256x128 .i32) (y17 : Vec F S256x128 .i32) (y18 : Vec F S256x128 .i32) (y19 : Vec F S256x128 .i32) (y20 : Vec F S64x128 .f32)

set_option maxHeartbeats 4000000 in
/-- The body at a point of any kind, on operands owned at given values. -/
theorem body_owns (c : Dev nD) (i : grid0.Coords) (A : After F) (hA : Does y2 y3 y4 y5 y6 y7 y8 y9 y10 y11 y12 y13 y14 y21 y22 y23 c i A)
    (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x128 .i32) (harg16 : arg16.IsWhole) (arg17 : Memref sig .tc .vmem S256x128 .i32) (harg17 : arg17.IsWhole) (arg18 : Memref sig .tc .vmem S256x128 .i32) (harg18 : arg18.IsWhole) (arg19 : Memref sig .tc .vmem S256x128 .i32) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (K : PUnit → sProp 𝕄) :
    iprop(owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23 ∗ (iprop(∃ z13 z14 z15 z16 z17 z18 z19 z20 z21 z22 z23, ⌜A z13 z14 z21 z22 z23⌝ ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23) -∗ K ⟨⟩))
      ⊢ wp frame (wpE (defs₀ (F := F)) Variants.none (c : Thread nD τ) none) Set.univ
          (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%X23, %h23, H23⟩, Hk⟩
  by_cases hf : First i
  · have hl := not_last_of_first i hf
    iapply ((runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.2 K)
    isplitl [H2 H3 H4 H5 H6 H7 H8 H9 H10 H11 H12 H13 H14 H15 H16 H17 H18 H19 H20 H21 H22 H23]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    iintro ⟨H2, H3, H4, H5, H6, H7, H8, H9, H10, H11, H12, H13, ⟨%f14, H14⟩, H15, ⟨%f16, H16⟩, ⟨%f17, H17⟩, ⟨%f18, H18⟩, ⟨%f19, H19⟩, ⟨%f20, H20⟩, ⟨%f21, H21⟩, ⟨%f22, H22⟩, ⟨%f23, H23⟩⟩
    iapply Hk
    iexists _, _, _, _, _, _, _, _, _, _, _
    isplitr
    · ipureintro; exact hA.first hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f14 f21 f22 f23 h2 h3 h4 h5 h6 h7 h8 h9 h10 h11 h12 h13 h14 h21 h22 h23
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    iexists _; isplitr; swap; · iexact H23
    ipureintro; rfl

  · by_cases hl : Last i
    · iapply ((runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.2 K)
      isplitl [H2 H3 H4 H5 H6 H7 H8 H9 H10 H11 H12 H13 H14 H15 H16 H17 H18 H19 H20 H21 H22 H23]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        iexact H23
      iintro ⟨H2, H3, H4, H5, H6, H7, H8, H9, H10, H11, H12, H13, H14, H15, ⟨%f16, H16⟩, ⟨%f17, H17⟩, ⟨%f18, H18⟩, ⟨%f19, H19⟩, ⟨%f20, H20⟩, ⟨%f21, H21⟩, H22, H23⟩
      iapply Hk
      iexists _, _, _, _, _, _, _, _, _, _, _
      isplitr
      · ipureintro; exact hA.last hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 h2 h3 h4 h5 h6 h7 h8 h9 h10 h11 h12 h13 h14 h21 h22 h23
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; rfl
      isplitl [H14]
      · iexists _; isplitr; swap; · iexact H14
        ipureintro; rfl
      isplitl [H15]
      · iexists _; isplitr; swap; · iexact H15
        ipureintro; rfl
      isplitl [H16]
      · iexists _; isplitr; swap; · iexact H16
        ipureintro; rfl
      isplitl [H17]
      · iexists _; isplitr; swap; · iexact H17
        ipureintro; rfl
      isplitl [H18]
      · iexists _; isplitr; swap; · iexact H18
        ipureintro; rfl
      isplitl [H19]
      · iexists _; isplitr; swap; · iexact H19
        ipureintro; rfl
      isplitl [H20]
      · iexists _; isplitr; swap; · iexact H20
        ipureintro; rfl
      isplitl [H21]
      · iexists _; isplitr; swap; · iexact H21
        ipureintro; rfl
      isplitl [H22]
      · iexists _; isplitr; swap; · iexact H22
        ipureintro; rfl
      iexists _; isplitr; swap; · iexact H23
      ipureintro; rfl

    · iapply ((runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2 K)
      isplitl [H2 H3 H4 H5 H6 H7 H8 H9 H10 H11 H12 H13 H14 H15 H16 H17 H18 H19 H20 H21 H22 H23]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        iexact H23
      iintro ⟨H2, H3, H4, H5, H6, H7, H8, H9, H10, H11, H12, H13, H14, H15, ⟨%f16, H16⟩, ⟨%f17, H17⟩, ⟨%f18, H18⟩, ⟨%f19, H19⟩, ⟨%f20, H20⟩, ⟨%f21, H21⟩, H22, H23⟩
      iapply Hk
      iexists _, _, _, _, _, _, _, _, _, _, _
      isplitr
      · ipureintro; exact hA.middle hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 h2 h3 h4 h5 h6 h7 h8 h9 h10 h11 h12 h13 h14 h21 h22 h23
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; rfl
      isplitl [H14]
      · iexists _; isplitr; swap; · iexact H14
        ipureintro; rfl
      isplitl [H15]
      · iexists _; isplitr; swap; · iexact H15
        ipureintro; rfl
      isplitl [H16]
      · iexists _; isplitr; swap; · iexact H16
        ipureintro; rfl
      isplitl [H17]
      · iexists _; isplitr; swap; · iexact H17
        ipureintro; rfl
      isplitl [H18]
      · iexists _; isplitr; swap; · iexact H18
        ipureintro; rfl
      isplitl [H19]
      · iexists _; isplitr; swap; · iexact H19
        ipureintro; rfl
      isplitl [H20]
      · iexists _; isplitr; swap; · iexact H20
        ipureintro; rfl
      isplitl [H21]
      · iexists _; isplitr; swap; · iexact H21
        ipureintro; rfl
      isplitl [H22]
      · iexists _; isplitr; swap; · iexact H22
        ipureintro; rfl
      iexists _; isplitr; swap; · iexact H23
      ipureintro; rfl

end Cases

/-! ## The proof data -/

variable (m : (ℓ : Loc nD τ sig) → Buf (Elt F) ℓ) (ρ : Dev nD → PrngReg)

/-- What the carried buffers satisfy before point `t`, on each core; and what a point leaves in the output's buffer. -/
structure Says (F : FTy → Type) where
  Inv : Dev nD → ℕ → Vec F S64x256 .bf16 → Vec F S64x128 .f32 → Vec F S64x128 .f32 → Vec F S64x256 .f32 → Prop
  Out : Dev nD → Fin cfg0.N → Vec F S1x64x256 .bf16 → Prop

variable (S : Says F)

/-- The scratch buffers, the carried ones at values the certificate's invariant allows, and the generator register. -/
def Phi (I : Vec F S64x256 .bf16 → Vec F S64x128 .f32 → Vec F S64x128 .f32 → Vec F S64x256 .f32 → Prop) (c : Dev nD) : sProp 𝕄 :=
  iprop((∃ z14 z15 z16 z17 z18 z19 z20 z21 z22 z23, ⌜I z14 z21 z22 z23⌝ ∗ owns (c : Thread nD τ) (Memref.whole cc0_scratch0) fullShare z14 ∗ owns (c : Thread nD τ) (Memref.whole cc0_scratch1) fullShare z15 ∗ owns (c : Thread nD τ) (Memref.whole cc0_scratch2) fullShare z16 ∗ owns (c : Thread nD τ) (Memref.whole cc0_scratch3) fullShare z17 ∗ owns (c : Thread nD τ) (Memref.whole cc0_scratch4) fullShare z18 ∗ owns (c : Thread nD τ) (Memref.whole cc0_scratch5) fullShare z19 ∗ owns (c : Thread nD τ) (Memref.whole cc0_scratch6) fullShare z20 ∗ owns (c : Thread nD τ) (Memref.whole cc0_scratch7) fullShare z21 ∗ owns (c : Thread nD τ) (Memref.whole cc0_scratch8) fullShare z22 ∗ owns (c : Thread nD τ) (Memref.whole cc0_scratch9) fullShare z23) ∗ ∃ r, prngReg c r)

/-- The proof data on core `c`: the arrays as the region finds them, the inputs' buffers left as found, the output's as
    `Out` says. -/
def rdat (c : Dev nD) : RDat τ (Elt F) Unit ℕ (UR sig nD τ) ℕ cfg0 c where
  A w := V m c (Pipeline.arrRef spec0 w)
  after w t Y X := (w ≠ 11 → X = Y) ∧ ∀ X' : Vec F S1x64x256 .bf16, w = 11 → HEq X X' → S.Out c t X'
  Φ t := Phi (S.Inv c t.val) c
  q _ := fullShare
  owed _ := 0

/-- The points keep what `S` says. -/
def Keeps (c : Dev nD) : Prop :=
  ∀ (t : Fin cfg0.N) (Y : (w : Fin cfg0.W) → (cfg0.win w).block.Idx → Elt F (cfg0.win w).elt), (∀ w, (rdat m S c).Finds w t (Y w)) →
    ∀ z14 z21 z22 z23, S.Inv c t.val z14 z21 z22 z23 →
      Does (Y 0) (Y 1) (Y 2) (Y 3) (Y 4) (Y 5) (Y 6) (Y 7) (Y 8) (Y 9) (Y 10) (Y 11) z14 z21 z22 z23 c (grid0.coords t) fun x13 x14 x21 x22 x23 =>
        S.Out c t x13 ∧ S.Inv c (t.val + 1) x14 x21 x22 x23

theorem defs₀_row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) (hS : Keeps m S c) :
    (rdat m S c).BodyObligation (defs₀ (F := F)) Variants.none () Set.univ := fun t Y hY => by
  rw [bigSep_W0, bigSep_W0, defs₀_row]
  rw [show (rdat m S c).owesAt () t.succ = (rdat m S c).owesAt () t.castSucc from rfl]
  generalize (rdat m S c).owesAt () t.castSucc = O
  rw [show (rdat m S c).Φ t.succ = Phi (S.Inv c (t.val + 1)) c from rfl, show (rdat m S c).Φ t.castSucc = Phi (S.Inv c t.val) c from rfl]
  unfold Phi
  iintro ⟨⟨⟨%z14, %z15, %z16, %z17, %z18, %z19, %z20, %z21, %z22, %z23, %hI, H14, H15, H16, H17, H18, H19, H20, H21, H22, H23⟩, Hg⟩, HO, H2, H3, H4, H5, H6, H7, H8, H9, H10, H11, H12, H13⟩
  have hA := hS t Y hY z14 z21 z22 z23 hI
  unfold bodyAt0
  iapply (body_owns (Y 0) (Y 1) (Y 2) (Y 3) (Y 4) (Y 5) (Y 6) (Y 7) (Y 8) (Y 9) (Y 10) (Y 11) z14 z21 z22 z23 z15 z16 z17 z18 z19 z20 c (grid0.coords t) _ hA _ _ _ _ _ _ _ _ _ _ _ _ _ _ _ _ _ _ _ _ _ _ _ _ _ _ _ _ _ _ _ _ _ _ _ _ _ _ _ _ _ _ _ _ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨%x13, %x14, %x15, %x16, %x17, %x18, %x19, %x20, %x21, %x22, %x23, %hx, H2, H3, H4, H5, H6, H7, H8, H9, H10, H11, H12, H13, H14, H15, H16, H17, H18, H19, H20, H21, H22, H23⟩
  isplitl [H14 H15 H16 H17 H18 H19 H20 H21 H22 H23 Hg]
  · isplitr [Hg]
    · iexists x14, x15, x16, x17, x18, x19, x20, x21, x22, x23
      isplitr; · ipureintro; exact hx.2
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    iexact Hg
  isplitl [HO]; · iexact HO
  isplitl [H2]
  · iexists Y 0; isplitr; swap; · iexact H2
    ipureintro; exact ⟨fun _ => rfl, fun _ h => absurd h (by decide)⟩
  isplitl [H3]
  · iexists Y 1; isplitr; swap; · iexact H3
    ipureintro; exact ⟨fun _ => rfl, fun _ h => absurd h (by decide)⟩
  isplitl [H4]
  · iexists Y 2; isplitr; swap; · iexact H4
    ipureintro; exact ⟨fun _ => rfl, fun _ h => absurd h (by decide)⟩
  isplitl [H5]
  · iexists Y 3; isplitr; swap; · iexact H5
    ipureintro; exact ⟨fun _ => rfl, fun _ h => absurd h (by decide)⟩
  isplitl [H6]
  · iexists Y 4; isplitr; swap; · iexact H6
    ipureintro; exact ⟨fun _ => rfl, fun _ h => absurd h (by decide)⟩
  isplitl [H7]
  · iexists Y 5; isplitr; swap; · iexact H7
    ipureintro; exact ⟨fun _ => rfl, fun _ h => absurd h (by decide)⟩
  isplitl [H8]
  · iexists Y 6; isplitr; swap; · iexact H8
    ipureintro; exact ⟨fun _ => rfl, fun _ h => absurd h (by decide)⟩
  isplitl [H9]
  · iexists Y 7; isplitr; swap; · iexact H9
    ipureintro; exact ⟨fun _ => rfl, fun _ h => absurd h (by decide)⟩
  isplitl [H10]
  · iexists Y 8; isplitr; swap; · iexact H10
    ipureintro; exact ⟨fun _ => rfl, fun _ h => absurd h (by decide)⟩
  isplitl [H11]
  · iexists Y 9; isplitr; swap; · iexact H11
    ipureintro; exact ⟨fun _ => rfl, fun _ h => absurd h (by decide)⟩
  isplitl [H12]
  · iexists Y 10; isplitr; swap; · iexact H12
    ipureintro; exact ⟨fun _ => rfl, fun _ h => absurd h (by decide)⟩
  iexists x13; isplitr; swap; · iexact H13
  ipureintro; exact ⟨fun h => absurd rfl h, fun _ _ h => eq_of_heq h ▸ hx.1⟩

/-- The scratch at any contents is `Phi` where the invariant allows anything. -/
theorem phi_of_scoped (c : Dev nD) (I : Vec F S64x256 .bf16 → Vec F S64x128 .f32 → Vec F S64x128 .f32 → Vec F S64x256 .f32 → Prop) (hI : ∀ a b d e, I a b d e) :
    (Pipeline.ΦA spec0 c : sProp 𝕄) ⊢ Phi I c := by
  unfold Pipeline.ΦA Phi
  rw [scopedRest0_eq]; simp only [owns_whole]
  iintro ⟨⟨⟨%z14, H14⟩, ⟨%z15, H15⟩, ⟨%z16, H16⟩, ⟨%z17, H17⟩, ⟨%z18, H18⟩, ⟨%z19, H19⟩, ⟨%z20, H20⟩, ⟨%z21, H21⟩, ⟨%z22, H22⟩, ⟨%z23, H23⟩⟩, Hg⟩
  isplitr [Hg]
  · iexists z14, z15, z16, z17, z18, z19, z20, z21, z22, z23
    isplitr; · ipureintro; exact hI _ _ _ _
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iexact Hg

theorem scoped_of_phi (c : Dev nD) (I : Vec F S64x256 .bf16 → Vec F S64x128 .f32 → Vec F S64x128 .f32 → Vec F S64x256 .f32 → Prop) :
    Phi I c ⊢ (Pipeline.ΦA spec0 c : sProp 𝕄) := by
  unfold Pipeline.ΦA Phi
  rw [scopedRest0_eq]; simp only [owns_whole]
  iintro ⟨⟨%z14, %z15, %z16, %z17, %z18, %z19, %z20, %z21, %z22, %z23, %hI, H14, H15, H16, H17, H18, H19, H20, H21, H22, H23⟩, Hg⟩
  isplitr [Hg]
  · isplitl [H14]; · iexists z14; iexact H14
    isplitl [H15]; · iexists z15; iexact H15
    isplitl [H16]; · iexists z16; iexact H16
    isplitl [H17]; · iexists z17; iexact H17
    isplitl [H18]; · iexists z18; iexact H18
    isplitl [H19]; · iexists z19; iexact H19
    isplitl [H20]; · iexists z20; iexact H20
    isplitl [H21]; · iexists z21; iexact H21
    isplitl [H22]; · iexists z22; iexact H22
    iexists z23; iexact H23
  iexact Hg

set_option backward.isDefEq.respectTransparency.types false in
/-- From any memory with zero counters every execution of @main ends, each array at contents the proof data allow, the rest as the
    region found it, every counter at zero. -/
theorem run_main (hS : ∀ c, Keeps m S c) (h0 : ∀ c a b d e, S.Inv c 0 a b d e) :
    θ_run defs (onTc (τ := τ) (main (F := F))) (s₀ m ρ)
      (fun r => Pipeline.RDat.FramePost (cfgs 0) (fun c => rdat m S c) (V m) r ∧ r.2.sem = fun _ => 0) :=
  Pipeline.RDat.θ_run_frame_track (Q' := _) cfgs (0 : Fin 1) launch0 defs₀ Variants.none (fun c => rdat m S c) m ρ main
    (hbody := fun c => body_obligation m S c (hS c)) (hshare := fun c => (rdat m S c).share_full fun _ => rfl)
    (howed := fun _ _ => rfl) (V := V m) (hmain := hmain m Variants.none) (hA := fun _ _ => rfl)
    (hin := fun c => phi_of_scoped c _ (h0 c)) (hout := fun c => scoped_of_phi c _)

variable {m ρ S}

/-- Each argument array ends as launched. -/
theorem args_kept {r : PUnit × MemSt nD τ sig (Elt F)}
    (h : Pipeline.RDat.FramePost (cfgs 0) (fun c => rdat m S c) (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c), ((h c).2 main_arg10 (Pipeline.mem_restRefs_of main_arg10 (by decide) (by decide))).trans (V_main_arg10 m c)⟩

/-- Nothing said: the frame alone. -/
def nothing : Says F where
  Inv _ _ _ _ _ _ := True
  Out _ _ _ := True

theorem keeps_nothing (m : (ℓ : Loc nD τ sig) → Buf (Elt F) ℓ) (c : Dev nD) : Keeps m (nothing (F := F)) c := fun t Y hY z14 z21 z22 z23 _ =>
  ⟨fun hf hl => by unfold LeavesMiddle; intros; exact ⟨trivial, trivial⟩, fun hf hl => by unfold LeavesFirst; intros; exact ⟨trivial, trivial⟩,
    fun hf hl => by unfold LeavesLast; intros; exact ⟨trivial, trivial⟩⟩

end Cert.Kernel.Hand

end
-- ==== Proof.PI.Run.lean ====
/-
  The body of the attention kernel run once per kind of grid point: the first block of a batch, a middle block, the last
  block. Each run takes every operand at given contents and gives the pieces the body writes, which the run itself finds.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The block is the first of its batch, or the last. -/
abbrev First (i : grid0.Coords) : Prop := (Scalar.cmpi .ne (Scalar.extui (Scalar.cmpi .eq (BitVec.ofNat 32 (i 1).val) 0#32) : BitVec 32) 0#32) = 1#1
abbrev Last (i : grid0.Coords) : Prop := (Scalar.cmpi .ne (Scalar.extui (Scalar.cmpi .eq (BitVec.ofNat 32 (i 1).val) 7#32) : BitVec 32) 0#32) = 1#1

/-- The two remainder loops make no trip. -/
theorem trips_t2 (i : grid0.Coords) : (k0_t2_loop i).trips = 0 := by
  obtain ⟨v, hv⟩ : ∃ v : Fin 8, (i 1).val = v.val := ⟨i 1, rfl⟩
  simp only [k0_t2_loop, hv]; clear hv; revert v; decide
theorem trips_t4 (i : grid0.Coords) : (k0_t4_loop i).trips = 0 := by
  obtain ⟨v, hv⟩ : ∃ v : Fin 8, (i 1).val = v.val := ⟨i 1, rfl⟩
  simp only [k0_t4_loop, hv]; clear hv; revert v; decide

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt F) arg2.view.ty)
variable (X3 : BufTy.Contents (Elt F) arg3.view.ty)
variable (X4 : BufTy.Contents (Elt F) arg4.view.ty)
variable (X5 : BufTy.Contents (Elt F) arg5.view.ty)
variable (X6 : BufTy.Contents (Elt F) arg6.view.ty)
variable (X7 : BufTy.Contents (Elt F) arg7.view.ty)
variable (X8 : BufTy.Contents (Elt F) arg8.view.ty)
variable (X9 : BufTy.Contents (Elt F) arg9.view.ty)
variable (X10 : BufTy.Contents (Elt F) arg10.view.ty)
variable (X11 : BufTy.Contents (Elt F) arg11.view.ty)
variable (X12 : BufTy.Contents (Elt F) arg12.view.ty)
variable (X13 : BufTy.Contents (Elt F) arg13.view.ty)
variable (X14 : BufTy.Contents (Elt F) arg14.view.ty)
variable (X15 : BufTy.Contents (Elt F) arg15.view.ty)
variable (X16 : BufTy.Contents (Elt F) arg16.view.ty)
variable (X17 : BufTy.Contents (Elt F) arg17.view.ty)
variable (X18 : BufTy.Contents (Elt F) arg18.view.ty)
variable (X19 : BufTy.Contents (Elt F) arg19.view.ty)
variable (X20 : BufTy.Contents (Elt F) arg20.view.ty)
variable (X21 : BufTy.Contents (Elt F) arg21.view.ty)
variable (X22 : BufTy.Contents (Elt F) arg22.view.ty)
variable (X23 : BufTy.Contents (Elt F) arg23.view.ty)

/-- Every operand owned whole at given contents. -/
abbrev Held (c : Dev nD) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23))

/-- A middle block. -/
@[irreducible] def runMiddle (c : Dev nD) (i : grid0.Coords) (h1 : ¬First i) (h2 : ¬Last i) :
    Σ' (L15 : List (View.Piece (Elt F) S64x8192 .f32)), Σ' (L16 : List (View.Piece (Elt F) S256x2x128 .bf16)), Σ' (L17 : List (View.Piece (Elt F) S256x2x128 .bf16)), Σ' (L18 : List (View.Piece (Elt F) S256x2x128 .bf16)), Σ' (L19 : List (View.Piece (Elt F) S256x2x128 .bf16)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} (arg22.view.writes (Elt F) X22 L22)) ∗ (arg23.view.loc (c : Thread nD τ) ↦[arg23.view.set]{fullShare} (arg23.view.writes (Elt F) X23 L23))) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

/-- The first block of a batch. -/
@[irreducible] def runFirst (c : Dev nD) (i : grid0.Coords) (h1 : First i) (h2 : ¬Last i) :
    Σ' (L14 : List (View.Piece (Elt F) S64x256 .bf16)), Σ' (L15 : List (View.Piece (Elt F) S64x8192 .f32)), Σ' (L16 : List (View.Piece (Elt F) S256x2x128 .bf16)), Σ' (L17 : List (View.Piece (Elt F) S256x2x128 .bf16)), Σ' (L18 : List (View.Piece (Elt F) S256x2x128 .bf16)), Σ' (L19 : List (View.Piece (Elt F) S256x2x128 .bf16)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (∃ f, arg14.view.loc (c : Thread nD τ) ↦[arg14.view.set]{fullShare} arg14.view.writes (Elt F) f L14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23)) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

/-- The last block of a batch. -/
@[irreducible] def runLast (c : Dev nD) (i : grid0.Coords) (h1 : ¬First i) (h2 : Last i) :
    Σ' (L13 : List (View.Piece (Elt F) S1x64x256 .bf16)), Σ' (L15 : List (View.Piece (Elt F) S64x8192 .f32)), Σ' (L16 : List (View.Piece (Elt F) S256x2x128 .bf16)), Σ' (L17 : List (View.Piece (Elt F) S256x2x128 .bf16)), Σ' (L18 : List (View.Piece (Elt F) S256x2x128 .bf16)), Σ' (L19 : List (View.Piece (Elt F) S256x2x128 .bf16)), Σ' (L20 : List (View.Piece (Elt F) S64x128 .f32)), Σ' (L21 : List (View.Piece (Elt F) S64x128 .f32)), Σ' (L22 : List (View.Piece (Elt F) S64x128 .f32)), { L23 : List (View.Piece (Elt F) S64x256 .f32) //
      ∀ (K : PUnit → sProp 𝕄), iprop(Held arg2 arg3 arg4 arg5 arg6 arg7 arg8 arg9 arg10 arg11 arg12 arg13 arg14 arg15 arg16 arg17 arg18 arg19 arg20 arg21 arg22 arg23 X2 X3 X4 X5 X6 X7 X8 X9 X10 X11 X12 X13 X14 X15 X16 X17 X18 X19 X20 X21 X22 X23 c ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} (arg13.view.writes (Elt F) X13 L13)) ∗ (arg14.view.loc (c : Thread nD τ) ↦[arg14.view.set]{fullShare} X14) ∗ (arg15.view.loc (c : Thread nD τ) ↦[arg15.view.set]{fullShare} (arg15.view.writes (Elt F) X15 L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (arg22.view.loc (c : Thread nD τ) ↦[arg22.view.set]{fullShare} (arg22.view.writes (Elt F) X22 L22)) ∗ (arg23.view.loc (c : Thread nD τ) ↦[arg23.view.set]{fullShare} (arg23.view.writes (Elt F) X23 L23))) -∗ K ⟨⟩))
        ⊢ wp frame (wpE (defs₀ (F := F)) Variants.none (c : Thread nD τ) none) Set.univ
            (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun K => ?run⟩
  case run =>
    have ht2 : (k0_t2_loop i).trips = 0 := trips_t2 i
    have ht4 : (k0_t4_loop i).trips = 0 := trips_t4 i
    simp only [cc0_kivi_attention_eq_skeleton]; unfold cc0_kivi_attention_skel
    iintro ⟨⟨H2, H3, H4, H5, H6, H7, H8, H9, H10, H11, H12, H13, H14, H15, H16, H17, H18, H19, H20, H21, H22, H23⟩, Hk⟩
    sl_exec
    sl_step
    iapply Hk
    sl_close

end Cert.KernelIdeal.Hand

end
-- ==== Proof.PI.Frame.lean ====
/-
  The frame of the attention kernel, with what its scratch carries from point to point. The running query, maximum, sum and
  weighted sum are the four buffers a point leaves for the next; a certificate says of them what it likes (`Inv`) and what the last
  block of a batch leaves in the output's buffer (`Out`), and shows that each of the three kinds of point keeps it.
-/
module

public import proofs.«01_k».proof.Proof.PI.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]

local notation "𝕄" => MT nD τ sig Unit (Elt F) ℕ (UR sig nD τ) ℕ

/-- A block is not both the first and the last. -/
theorem not_last_of_first (i : grid0.Coords) (h : First i) : ¬Last i := by
  obtain ⟨v, hv⟩ : ∃ v : Fin 8, (i 1).val = v.val := ⟨i 1, rfl⟩
  unfold First at h; unfold Last; simp only [hv] at h ⊢; clear hv; revert v; decide

/-- What a point makes of the four carried buffers and the output's: the contents before it and after it. -/
abbrev After (F : FTy → Type) : Type := Vec F S1x64x256 .bf16 → Vec F S64x256 .bf16 → Vec F S64x128 .f32 → Vec F S64x128 .f32 → Vec F S64x256 .f32 → Prop

section Cases
variable (y2 : Vec F S1x64x256 .bf16)
variable (y3 : Vec F S1x8192x128 .i8)
variable (y4 : Vec F S1x512x128 .f32)
variable (y5 : Vec F S1x512x128 .f32)
variable (y6 : Vec F S1x8192x128 .i8)
variable (y7 : Vec F S1x8x8192 .f32)
variable (y8 : Vec F S1x8x8192 .f32)
variable (y9 : Vec F S1x128x256 .bf16)
variable (y10 : Vec F S1x128x256 .bf16)
variable (y11 : Vec F S1x4x256 .bf16)
variable (y12 : Vec F S1x4x256 .bf16)
variable (y13 : Vec F S1x64x256 .bf16)
variable (y14 : Vec F S64x256 .bf16)
variable (y21 : Vec F S64x128 .f32)
variable (y22 : Vec F S64x128 .f32)
variable (y23 : Vec F S64x256 .f32)

/-- What a middle block leaves is as `A` says, whatever the operands' buffers hold beside the values named. -/
def LeavesMiddle (c : Dev nD) (i : grid0.Coords) (hf : ¬First i) (hl : ¬Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x2x128 .bf16) (harg16 : arg16.IsWhole) (arg17 : Memref sig .tc .vmem S256x2x128 .bf16) (harg17 : arg17.IsWhole) (arg18 : Memref sig .tc .vmem S256x2x128 .bf16) (harg18 : arg18.IsWhole) (arg19 : Memref sig .tc .vmem S256x2x128 .bf16) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f21 : BufTy.Contents (Elt F) arg21.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) X13) (arg14.view.read (Elt F) X14) (arg21.view.read (Elt F) (arg21.view.writes (Elt F) f21 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.1)) (arg22.view.read (Elt F) (arg22.view.writes (Elt F) X22 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg23.view.read (Elt F) (arg23.view.writes (Elt F) X23 (runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1))

/-- What the first block of a batch leaves is as `A` says, whatever the operands' buffers hold beside the values named. -/
def LeavesFirst (c : Dev nD) (i : grid0.Coords) (hf : First i) (hl : ¬Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x2x128 .bf16) (harg16 : arg16.IsWhole) (arg17 : Memref sig .tc .vmem S256x2x128 .bf16) (harg17 : arg17.IsWhole) (arg18 : Memref sig .tc .vmem S256x2x128 .bf16) (harg18 : arg18.IsWhole) (arg19 : Memref sig .tc .vmem S256x2x128 .bf16) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f14 : BufTy.Contents (Elt F) arg14.view.ty) (f21 : BufTy.Contents (Elt F) arg21.view.ty) (f22 : BufTy.Contents (Elt F) arg22.view.ty) (f23 : BufTy.Contents (Elt F) arg23.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) X13) (arg14.view.read (Elt F) (arg14.view.writes (Elt F) f14 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).1)) (arg21.view.read (Elt F) (arg21.view.writes (Elt F) f21 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg22.view.read (Elt F) (arg22.view.writes (Elt F) f22 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1)) (arg23.view.read (Elt F) (arg23.view.writes (Elt F) f23 (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.1))

/-- What the last block of a batch leaves is as `A` says, whatever the operands' buffers hold beside the values named. -/
def LeavesLast (c : Dev nD) (i : grid0.Coords) (hf : ¬First i) (hl : Last i) (A : After F) : Prop :=
  ∀ (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x2x128 .bf16) (harg16 : arg16.IsWhole) (arg17 : Memref sig .tc .vmem S256x2x128 .bf16) (harg17 : arg17.IsWhole) (arg18 : Memref sig .tc .vmem S256x2x128 .bf16) (harg18 : arg18.IsWhole) (arg19 : Memref sig .tc .vmem S256x2x128 .bf16) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (f21 : BufTy.Contents (Elt F) arg21.view.ty),
    arg2.view.read (Elt F) X2 = y2 → arg3.view.read (Elt F) X3 = y3 → arg4.view.read (Elt F) X4 = y4 → arg5.view.read (Elt F) X5 = y5 → arg6.view.read (Elt F) X6 = y6 → arg7.view.read (Elt F) X7 = y7 → arg8.view.read (Elt F) X8 = y8 → arg9.view.read (Elt F) X9 = y9 → arg10.view.read (Elt F) X10 = y10 → arg11.view.read (Elt F) X11 = y11 → arg12.view.read (Elt F) X12 = y12 → arg13.view.read (Elt F) X13 = y13 → arg14.view.read (Elt F) X14 = y14 → arg21.view.read (Elt F) X21 = y21 → arg22.view.read (Elt F) X22 = y22 → arg23.view.read (Elt F) X23 = y23 →
    A (arg13.view.read (Elt F) (arg13.view.writes (Elt F) X13 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).1)) (arg14.view.read (Elt F) X14) (arg21.view.read (Elt F) (arg21.view.writes (Elt F) f21 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.1)) (arg22.view.read (Elt F) (arg22.view.writes (Elt F) X22 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.1)) (arg23.view.read (Elt F) (arg23.view.writes (Elt F) X23 (runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.1))

/-- A point does to the carried buffers and the output what `A` says. -/
structure Does (c : Dev nD) (i : grid0.Coords) (A : After F) : Prop where
  middle : ∀ hf hl, LeavesMiddle y2 y3 y4 y5 y6 y7 y8 y9 y10 y11 y12 y13 y14 y21 y22 y23 c i hf hl A
  first : ∀ hf hl, LeavesFirst y2 y3 y4 y5 y6 y7 y8 y9 y10 y11 y12 y13 y14 y21 y22 y23 c i hf hl A
  last : ∀ hf hl, LeavesLast y2 y3 y4 y5 y6 y7 y8 y9 y10 y11 y12 y13 y14 y21 y22 y23 c i hf hl A

variable (y15 : Vec F S64x8192 .f32) (y16 : Vec F S256x2x128 .bf16) (y17 : Vec F S256x2x128 .bf16) (y18 : Vec F S256x2x128 .bf16) (y19 : Vec F S256x2x128 .bf16) (y20 : Vec F S64x128 .f32)

set_option maxHeartbeats 4000000 in
/-- The body at a point of any kind, on operands owned at given values. -/
theorem body_owns (c : Dev nD) (i : grid0.Coords) (A : After F) (hA : Does y2 y3 y4 y5 y6 y7 y8 y9 y10 y11 y12 y13 y14 y21 y22 y23 c i A)
    (arg2 : Memref sig .tc .vmem S1x64x256 .bf16) (harg2 : arg2.IsWhole) (arg3 : Memref sig .tc .vmem S1x8192x128 .i8) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x8192x128 .i8) (harg6 : arg6.IsWhole) (arg7 : Memref sig .tc .vmem S1x8x8192 .f32) (harg7 : arg7.IsWhole) (arg8 : Memref sig .tc .vmem S1x8x8192 .f32) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x4x256 .bf16) (harg11 : arg11.IsWhole) (arg12 : Memref sig .tc .vmem S1x4x256 .bf16) (harg12 : arg12.IsWhole) (arg13 : Memref sig .tc .vmem S1x64x256 .bf16) (harg13 : arg13.IsWhole) (arg14 : Memref sig .tc .vmem S64x256 .bf16) (harg14 : arg14.IsWhole) (arg15 : Memref sig .tc .vmem S64x8192 .f32) (harg15 : arg15.IsWhole) (arg16 : Memref sig .tc .vmem S256x2x128 .bf16) (harg16 : arg16.IsWhole) (arg17 : Memref sig .tc .vmem S256x2x128 .bf16) (harg17 : arg17.IsWhole) (arg18 : Memref sig .tc .vmem S256x2x128 .bf16) (harg18 : arg18.IsWhole) (arg19 : Memref sig .tc .vmem S256x2x128 .bf16) (harg19 : arg19.IsWhole) (arg20 : Memref sig .tc .vmem S64x128 .f32) (harg20 : arg20.IsWhole) (arg21 : Memref sig .tc .vmem S64x128 .f32) (harg21 : arg21.IsWhole) (arg22 : Memref sig .tc .vmem S64x128 .f32) (harg22 : arg22.IsWhole) (arg23 : Memref sig .tc .vmem S64x256 .f32) (harg23 : arg23.IsWhole) (K : PUnit → sProp 𝕄) :
    iprop(owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23 ∗ (iprop(∃ z13 z14 z15 z16 z17 z18 z19 z20 z21 z22 z23, ⌜A z13 z14 z21 z22 z23⌝ ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23) -∗ K ⟨⟩))
      ⊢ wp frame (wpE (defs₀ (F := F)) Variants.none (c : Thread nD τ) none) Set.univ
          (cc0_kivi_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%X23, %h23, H23⟩, Hk⟩
  by_cases hf : First i
  · have hl := not_last_of_first i hf
    iapply ((runFirst arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.2 K)
    isplitl [H2 H3 H4 H5 H6 H7 H8 H9 H10 H11 H12 H13 H14 H15 H16 H17 H18 H19 H20 H21 H22 H23]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    iintro ⟨H2, H3, H4, H5, H6, H7, H8, H9, H10, H11, H12, H13, ⟨%f14, H14⟩, H15, ⟨%f16, H16⟩, ⟨%f17, H17⟩, ⟨%f18, H18⟩, ⟨%f19, H19⟩, ⟨%f20, H20⟩, ⟨%f21, H21⟩, ⟨%f22, H22⟩, ⟨%f23, H23⟩⟩
    iapply Hk
    iexists _, _, _, _, _, _, _, _, _, _, _
    isplitr
    · ipureintro; exact hA.first hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f14 f21 f22 f23 h2 h3 h4 h5 h6 h7 h8 h9 h10 h11 h12 h13 h14 h21 h22 h23
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    iexists _; isplitr; swap; · iexact H23
    ipureintro; rfl

  · by_cases hl : Last i
    · iapply ((runLast arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2.2 K)
      isplitl [H2 H3 H4 H5 H6 H7 H8 H9 H10 H11 H12 H13 H14 H15 H16 H17 H18 H19 H20 H21 H22 H23]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        iexact H23
      iintro ⟨H2, H3, H4, H5, H6, H7, H8, H9, H10, H11, H12, H13, H14, H15, ⟨%f16, H16⟩, ⟨%f17, H17⟩, ⟨%f18, H18⟩, ⟨%f19, H19⟩, ⟨%f20, H20⟩, ⟨%f21, H21⟩, H22, H23⟩
      iapply Hk
      iexists _, _, _, _, _, _, _, _, _, _, _
      isplitr
      · ipureintro; exact hA.last hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 h2 h3 h4 h5 h6 h7 h8 h9 h10 h11 h12 h13 h14 h21 h22 h23
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; rfl
      isplitl [H14]
      · iexists _; isplitr; swap; · iexact H14
        ipureintro; rfl
      isplitl [H15]
      · iexists _; isplitr; swap; · iexact H15
        ipureintro; rfl
      isplitl [H16]
      · iexists _; isplitr; swap; · iexact H16
        ipureintro; rfl
      isplitl [H17]
      · iexists _; isplitr; swap; · iexact H17
        ipureintro; rfl
      isplitl [H18]
      · iexists _; isplitr; swap; · iexact H18
        ipureintro; rfl
      isplitl [H19]
      · iexists _; isplitr; swap; · iexact H19
        ipureintro; rfl
      isplitl [H20]
      · iexists _; isplitr; swap; · iexact H20
        ipureintro; rfl
      isplitl [H21]
      · iexists _; isplitr; swap; · iexact H21
        ipureintro; rfl
      isplitl [H22]
      · iexists _; isplitr; swap; · iexact H22
        ipureintro; rfl
      iexists _; isplitr; swap; · iexact H23
      ipureintro; rfl

    · iapply ((runMiddle arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 c i hf hl).2.2.2.2.2.2.2.2.2 K)
      isplitl [H2 H3 H4 H5 H6 H7 H8 H9 H10 H11 H12 H13 H14 H15 H16 H17 H18 H19 H20 H21 H22 H23]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        iexact H23
      iintro ⟨H2, H3, H4, H5, H6, H7, H8, H9, H10, H11, H12, H13, H14, H15, ⟨%f16, H16⟩, ⟨%f17, H17⟩, ⟨%f18, H18⟩, ⟨%f19, H19⟩, ⟨%f20, H20⟩, ⟨%f21, H21⟩, H22, H23⟩
      iapply Hk
      iexists _, _, _, _, _, _, _, _, _, _, _
      isplitr
      · ipureintro; exact hA.middle hf hl arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 h2 h3 h4 h5 h6 h7 h8 h9 h10 h11 h12 h13 h14 h21 h22 h23
      isplitl [H2]
      · iexists _; isplitr; swap; · iexact H2
        ipureintro; exact h2
      isplitl [H3]
      · iexists _; isplitr; swap; · iexact H3
        ipureintro; exact h3
      isplitl [H4]
      · iexists _; isplitr; swap; · iexact H4
        ipureintro; exact h4
      isplitl [H5]
      · iexists _; isplitr; swap; · iexact H5
        ipureintro; exact h5
      isplitl [H6]
      · iexists _; isplitr; swap; · iexact H6
        ipureintro; exact h6
      isplitl [H7]
      · iexists _; isplitr; swap; · iexact H7
        ipureintro; exact h7
      isplitl [H8]
      · iexists _; isplitr; swap; · iexact H8
        ipureintro; exact h8
      isplitl [H9]
      · iexists _; isplitr; swap; · iexact H9
        ipureintro; exact h9
      isplitl [H10]
      · iexists _; isplitr; swap; · iexact H10
        ipureintro; exact h10
      isplitl [H11]
      · iexists _; isplitr; swap; · iexact H11
        ipureintro; exact h11
      isplitl [H12]
      · iexists _; isplitr; swap; · iexact H12
        ipureintro; exact h12
      isplitl [H13]
      · iexists _; isplitr; swap; · iexact H13
        ipureintro; rfl
      isplitl [H14]
      · iexists _; isplitr; swap; · iexact H14
        ipureintro; rfl
      isplitl [H15]
      · iexists _; isplitr; swap; · iexact H15
        ipureintro; rfl
      isplitl [H16]
      · iexists _; isplitr; swap; · iexact H16
        ipureintro; rfl
      isplitl [H17]
      · iexists _; isplitr; swap; · iexact H17
        ipureintro; rfl
      isplitl [H18]
      · iexists _; isplitr; swap; · iexact H18
        ipureintro; rfl
      isplitl [H19]
      · iexists _; isplitr; swap; · iexact H19
        ipureintro; rfl
      isplitl [H20]
      · iexists _; isplitr; swap; · iexact H20
        ipureintro; rfl
      isplitl [H21]
      · iexists _; isplitr; swap; · iexact H21
        ipureintro; rfl
      isplitl [H22]
      · iexists _; isplitr; swap; · iexact H22
        ipureintro; rfl
      iexists _; isplitr; swap; · iexact H23
      ipureintro; rfl

end Cases

/-! ## The proof data -/

variable (m : (ℓ : Loc nD τ sig) → Buf (Elt F) ℓ) (ρ : Dev nD → PrngReg)

/-- What the carried buffers satisfy before point `t`, on each core; and what a point leaves in the output's buffer. -/
structure Says (F : FTy → Type) where
  Inv : Dev nD → ℕ → Vec F S64x256 .bf16 → Vec F S64x128 .f32 → Vec F S64x128 .f32 → Vec F S64x256 .f32 → Prop
  Out : Dev nD → Fin cfg0.N → Vec F S1x64x256 .bf16 → Prop

variable (S : Says F)

/-- The scratch buffers, the carried ones at values the certificate's invariant allows, and the generator register. -/
def Phi (I : Vec F S64x256 .bf16 → Vec F S64x128 .f32 → Vec F S64x128 .f32 → Vec F S64x256 .f32 → Prop) (c : Dev nD) : sProp 𝕄 :=
  iprop((∃ z14 z15 z16 z17 z18 z19 z20 z21 z22 z23, ⌜I z14 z21 z22 z23⌝ ∗ owns (c : Thread nD τ) (Memref.whole cc0_scratch0) fullShare z14 ∗ owns (c : Thread nD τ) (Memref.whole cc0_scratch1) fullShare z15 ∗ owns (c : Thread nD τ) (Memref.whole cc0_scratch2) fullShare z16 ∗ owns (c : Thread nD τ) (Memref.whole cc0_scratch3) fullShare z17 ∗ owns (c : Thread nD τ) (Memref.whole cc0_scratch4) fullShare z18 ∗ owns (c : Thread nD τ) (Memref.whole cc0_scratch5) fullShare z19 ∗ owns (c : Thread nD τ) (Memref.whole cc0_scratch6) fullShare z20 ∗ owns (c : Thread nD τ) (Memref.whole cc0_scratch7) fullShare z21 ∗ owns (c : Thread nD τ) (Memref.whole cc0_scratch8) fullShare z22 ∗ owns (c : Thread nD τ) (Memref.whole cc0_scratch9) fullShare z23) ∗ ∃ r, prngReg c r)

/-- The proof data on core `c`: the arrays as the region finds them, the inputs' buffers left as found, the output's as
    `Out` says. -/
def rdat (c : Dev nD) : RDat τ (Elt F) Unit ℕ (UR sig nD τ) ℕ cfg0 c where
  A w := V m c (Pipeline.arrRef spec0 w)
  after w t Y X := (w ≠ 11 → X = Y) ∧ ∀ X' : Vec F S1x64x256 .bf16, w = 11 → HEq X X' → S.Out c t X'
  Φ t := Phi (S.Inv c t.val) c
  q _ := fullShare
  owed _ := 0

/-- The points keep what `S` says. -/
def Keeps (c : Dev nD) : Prop :=
  ∀ (t : Fin cfg0.N) (Y : (w : Fin cfg0.W) → (cfg0.win w).block.Idx → Elt F (cfg0.win w).elt), (∀ w, (rdat m S c).Finds w t (Y w)) →
    ∀ z14 z21 z22 z23, S.Inv c t.val z14 z21 z22 z23 →
      Does (Y 0) (Y 1) (Y 2) (Y 3) (Y 4) (Y 5) (Y 6) (Y 7) (Y 8) (Y 9) (Y 10) (Y 11) z14 z21 z22 z23 c (grid0.coords t) fun x13 x14 x21 x22 x23 =>
        S.Out c t x13 ∧ S.Inv c (t.val + 1) x14 x21 x22 x23

theorem defs₀_row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) (hS : Keeps m S c) :
    (rdat m S c).BodyObligation (defs₀ (F := F)) Variants.none () Set.univ := fun t Y hY => by
  rw [bigSep_W0, bigSep_W0, defs₀_row]
  rw [show (rdat m S c).owesAt () t.succ = (rdat m S c).owesAt () t.castSucc from rfl]
  generalize (rdat m S c).owesAt () t.castSucc = O
  rw [show (rdat m S c).Φ t.succ = Phi (S.Inv c (t.val + 1)) c from rfl, show (rdat m S c).Φ t.castSucc = Phi (S.Inv c t.val) c from rfl]
  unfold Phi
  iintro ⟨⟨⟨%z14, %z15, %z16, %z17, %z18, %z19, %z20, %z21, %z22, %z23, %hI, H14, H15, H16, H17, H18, H19, H20, H21, H22, H23⟩, Hg⟩, HO, H2, H3, H4, H5, H6, H7, H8, H9, H10, H11, H12, H13⟩
  have hA := hS t Y hY z14 z21 z22 z23 hI
  unfold bodyAt0
  iapply (body_owns (Y 0) (Y 1) (Y 2) (Y 3) (Y 4) (Y 5) (Y 6) (Y 7) (Y 8) (Y 9) (Y 10) (Y 11) z14 z21 z22 z23 z15 z16 z17 z18 z19 z20 c (grid0.coords t) _ hA _ _ _ _ _ _ _ _ _ _ _ _ _ _ _ _ _ _ _ _ _ _ _ _ _ _ _ _ _ _ _ _ _ _ _ _ _ _ _ _ _ _ _ _ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨%x13, %x14, %x15, %x16, %x17, %x18, %x19, %x20, %x21, %x22, %x23, %hx, H2, H3, H4, H5, H6, H7, H8, H9, H10, H11, H12, H13, H14, H15, H16, H17, H18, H19, H20, H21, H22, H23⟩
  isplitl [H14 H15 H16 H17 H18 H19 H20 H21 H22 H23 Hg]
  · isplitr [Hg]
    · iexists x14, x15, x16, x17, x18, x19, x20, x21, x22, x23
      isplitr; · ipureintro; exact hx.2
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    iexact Hg
  isplitl [HO]; · iexact HO
  isplitl [H2]
  · iexists Y 0; isplitr; swap; · iexact H2
    ipureintro; exact ⟨fun _ => rfl, fun _ h => absurd h (by decide)⟩
  isplitl [H3]
  · iexists Y 1; isplitr; swap; · iexact H3
    ipureintro; exact ⟨fun _ => rfl, fun _ h => absurd h (by decide)⟩
  isplitl [H4]
  · iexists Y 2; isplitr; swap; · iexact H4
    ipureintro; exact ⟨fun _ => rfl, fun _ h => absurd h (by decide)⟩
  isplitl [H5]
  · iexists Y 3; isplitr; swap; · iexact H5
    ipureintro; exact ⟨fun _ => rfl, fun _ h => absurd h (by decide)⟩
  isplitl [H6]
  · iexists Y 4; isplitr; swap; · iexact H6
    ipureintro; exact ⟨fun _ => rfl, fun _ h => absurd h (by decide)⟩
  isplitl [H7]
  · iexists Y 5; isplitr; swap; · iexact H7
    ipureintro; exact ⟨fun _ => rfl, fun _ h => absurd h (by decide)⟩
  isplitl [H8]
  · iexists Y 6; isplitr; swap; · iexact H8
    ipureintro; exact ⟨fun _ => rfl, fun _ h => absurd h (by decide)⟩
  isplitl [H9]
  · iexists Y 7; isplitr; swap; · iexact H9
    ipureintro; exact ⟨fun _ => rfl, fun _ h => absurd h (by decide)⟩
  isplitl [H10]
  · iexists Y 8; isplitr; swap; · iexact H10
    ipureintro; exact ⟨fun _ => rfl, fun _ h => absurd h (by decide)⟩
  isplitl [H11]
  · iexists Y 9; isplitr; swap; · iexact H11
    ipureintro; exact ⟨fun _ => rfl, fun _ h => absurd h (by decide)⟩
  isplitl [H12]
  · iexists Y 10; isplitr; swap; · iexact H12
    ipureintro; exact ⟨fun _ => rfl, fun _ h => absurd h (by decide)⟩
  iexists x13; isplitr; swap; · iexact H13
  ipureintro; exact ⟨fun h => absurd rfl h, fun _ _ h => eq_of_heq h ▸ hx.1⟩

/-- The scratch at any contents is `Phi` where the invariant allows anything. -/
theorem phi_of_scoped (c : Dev nD) (I : Vec F S64x256 .bf16 → Vec F S64x128 .f32 → Vec F S64x128 .f32 → Vec F S64x256 .f32 → Prop) (hI : ∀ a b d e, I a b d e) :
    (Pipeline.ΦA spec0 c : sProp 𝕄) ⊢ Phi I c := by
  unfold Pipeline.ΦA Phi
  rw [scopedRest0_eq]; simp only [owns_whole]
  iintro ⟨⟨⟨%z14, H14⟩, ⟨%z15, H15⟩, ⟨%z16, H16⟩, ⟨%z17, H17⟩, ⟨%z18, H18⟩, ⟨%z19, H19⟩, ⟨%z20, H20⟩, ⟨%z21, H21⟩, ⟨%z22, H22⟩, ⟨%z23, H23⟩⟩, Hg⟩
  isplitr [Hg]
  · iexists z14, z15, z16, z17, z18, z19, z20, z21, z22, z23
    isplitr; · ipureintro; exact hI _ _ _ _
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iexact Hg

theorem scoped_of_phi (c : Dev nD) (I : Vec F S64x256 .bf16 → Vec F S64x128 .f32 → Vec F S64x128 .f32 → Vec F S64x256 .f32 → Prop) :
    Phi I c ⊢ (Pipeline.ΦA spec0 c : sProp 𝕄) := by
  unfold Pipeline.ΦA Phi
  rw [scopedRest0_eq]; simp only [owns_whole]
  iintro ⟨⟨%z14, %z15, %z16, %z17, %z18, %z19, %z20, %z21, %z22, %z23, %hI, H14, H15, H16, H17, H18, H19, H20, H21, H22, H23⟩, Hg⟩
  isplitr [Hg]
  · isplitl [H14]; · iexists z14; iexact H14
    isplitl [H15]; · iexists z15; iexact H15
    isplitl [H16]; · iexists z16; iexact H16
    isplitl [H17]; · iexists z17; iexact H17
    isplitl [H18]; · iexists z18; iexact H18
    isplitl [H19]; · iexists z19; iexact H19
    isplitl [H20]; · iexists z20; iexact H20
    isplitl [H21]; · iexists z21; iexact H21
    isplitl [H22]; · iexists z22; iexact H22
    iexists z23; iexact H23
  iexact Hg

set_option backward.isDefEq.respectTransparency.types false in
/-- From any memory with zero counters every execution of @main ends, each array at contents the proof data allow, the rest as the
    region found it, every counter at zero. -/
theorem run_main (hS : ∀ c, Keeps m S c) (h0 : ∀ c a b d e, S.Inv c 0 a b d e) :
    θ_run defs (onTc (τ := τ) (main (F := F))) (s₀ m ρ)
      (fun r => Pipeline.RDat.FramePost (cfgs 0) (fun c => rdat m S c) (V m) r ∧ r.2.sem = fun _ => 0) :=
  Pipeline.RDat.θ_run_frame_track (Q' := _) cfgs (0 : Fin 1) launch0 defs₀ Variants.none (fun c => rdat m S c) m ρ main
    (hbody := fun c => body_obligation m S c (hS c)) (hshare := fun c => (rdat m S c).share_full fun _ => rfl)
    (howed := fun _ _ => rfl) (V := V m) (hmain := hmain m Variants.none) (hA := fun _ _ => rfl)
    (hin := fun c => phi_of_scoped c _ (h0 c)) (hout := fun c => scoped_of_phi c _)

variable {m ρ S}

/-- Each argument array ends as launched. -/
theorem args_kept {r : PUnit × MemSt nD τ sig (Elt F)}
    (h : Pipeline.RDat.FramePost (cfgs 0) (fun c => rdat m S c) (V m) r) (c : Dev nD) :
    r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c), ((h c).2 main_arg10 (Pipeline.mem_restRefs_of main_arg10 (by decide) (by decide))).trans (V_main_arg10 m c)⟩

/-- Nothing said: the frame alone. -/
def nothing : Says F where
  Inv _ _ _ _ _ _ := True
  Out _ _ _ := True

theorem keeps_nothing (m : (ℓ : Loc nD τ sig) → Buf (Elt F) ℓ) (c : Dev nD) : Keeps m (nothing (F := F)) c := fun t Y hY z14 z21 z22 z23 _ =>
  ⟨fun hf hl => by unfold LeavesMiddle; intros; exact ⟨trivial, trivial⟩, fun hf hl => by unfold LeavesFirst; intros; exact ⟨trivial, trivial⟩,
    fun hf hl => by unfold LeavesLast; intros; exact ⟨trivial, trivial⟩⟩

end Cert.KernelIdeal.Hand

end
-- ==== Proof.PI.Nibbles.lean ====
/-
  Four-bit codes two to a byte, taken apart in words of four bytes: the low and the high halves of every byte.
-/
module

public import Idealize.ShloMosaic.Lib.BitcastFour
public import Idealize.ShloMosaic.Lib.Pointwise

@[expose] public section

noncomputable section

namespace Cert.KernelIdeal.Hand

open Idealize.ShloMosaic

/-- The low and the high half of a byte, as numbers. -/
def lowHalf (b : BitVec 8) : EReal := ((b.toNat % 16 : ℕ) : ℝ)
def highHalf (b : BitVec 8) : EReal := ((b.toNat / 16 : ℕ) : ℝ)

theorem mask_getLsbD (q : ℕ) (hq : q < 32) : (252645135#32).getLsbD q = decide (q % 8 < 4) := by
  revert q; decide

theorem byte_mask_getLsbD (q : ℕ) (hq : q < 8) : (15#8).getLsbD q = decide (q < 4) := by
  revert q; decide

variable {R r n : ℕ}

/-- The bytes of words of bytes, read back. -/
theorem bytes_word (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (i : (⟨2, ![R, n]⟩ : Shape).Idx) (q : ℕ) (hq : q < 8) (g : (⟨2, ![r, n]⟩ : Shape).Idx → BitVec 32) (d : ℕ) (hd : q + d < 8)
    (hg : ∀ j p, p < 32 → p % 8 < 4 → (g j).getLsbD p = (bitcast ⟨2, ![r, n]⟩ 32 x h j).getLsbD (p + d)) (hq4 : q < 4) :
    (bitcast ⟨2, ![R, n]⟩ 8 g h' i).getLsbD q = (x i).getLsbD (q + d) := by
  rw [bitcast_getLsbD g h' i q hq (by decide), hg _ _ (Nat.mod_lt _ (by decide)) (by omega),
    bitcast_getLsbD x h _ _ (by omega) (by decide)]
  have hrow : ∀ (j : (⟨2, ![r, n]⟩ : Shape).Idx), (⟨2, ![r, n]⟩ : Shape).row j = (j 0).val := fun j => rfl
  have hrow' : (⟨2, ![R, n]⟩ : Shape).row i = (i 0).val := rfl
  have e0 : ∀ p hp, ((h'.srcIdx i p hp) 0).val = p := fun p hp => h'.srcIdx_row _ _ _ ⟨0, Nat.zero_lt_two⟩ rfl
  have e1 : ∀ p hp, ((h'.srcIdx i p hp) 1).val = (i 1).val := fun p hp =>
    h'.srcIdx_other _ _ _ ⟨1, Nat.one_lt_two⟩ (by show ¬ 1 + 2 = 2; omega)
  congr 2
  · funext c
    match c with
    | ⟨0, _⟩ =>
      refine Fin.ext ((h.srcIdx_row _ _ _ ⟨0, Nat.zero_lt_two⟩ rfl).trans ?_)
      rw [hrow, e0, hrow']; show _ = (i 0).val; omega
    | ⟨1, _⟩ =>
      refine Fin.ext ((h.srcIdx_other _ _ _ ⟨1, Nat.one_lt_two⟩ (by show ¬ 1 + 2 = 2; omega)).trans ?_)
      exact e1 _ _
  · rw [hrow, e0, hrow']; omega

/-- The low halves. -/
theorem low_nibbles (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (i : (⟨2, ![R, n]⟩ : Shape).Idx) :
    (((bitcast ⟨2, ![R, n]⟩ 8 (andi (bitcast ⟨2, ![r, n]⟩ 32 x h) (broadcast ⟨2, ![r, n]⟩ 252645135#32)) h' i).toInt : ℝ) : EReal)
      = lowHalf (x i) := by
  have e : bitcast ⟨2, ![R, n]⟩ 8 (andi (bitcast ⟨2, ![r, n]⟩ 32 x h) (broadcast ⟨2, ![r, n]⟩ 252645135#32)) h' i = x i &&& 15#8 := by
    apply BitVec.eq_of_getLsbD_eq
    intro q hq
    rw [BitVec.getLsbD_and, byte_mask_getLsbD q hq]
    by_cases hq4 : q < 4
    · rw [bytes_word x h h' i q hq _ 0 (by omega) ?_ hq4]
      · simp [hq4]
      · intro j p hp hp4
        show (_ &&& 252645135#32).getLsbD p = _
        rw [BitVec.getLsbD_and, mask_getLsbD p hp]; simp [hp4]
    · rw [bitcast_getLsbD _ h' i q hq (by decide)]
      show (_ &&& 252645135#32).getLsbD _ = _
      rw [BitVec.getLsbD_and, mask_getLsbD _ (Nat.mod_lt _ (by decide))]
      have : ¬ ((((⟨2, ![R, n]⟩ : Shape).row i) * 8 + q) % 32 % 8 < 4) := by omega
      simp only [this, hq4, decide_false, Bool.and_false]
  rw [e]; unfold lowHalf
  generalize x i = b
  have hb : ∀ b : BitVec 8, (b &&& 15#8).toInt = ((b.toNat % 16 : ℕ) : ℤ) := by decide
  rw [hb]; norm_cast

/-- The high halves. -/
theorem high_nibbles (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (i : (⟨2, ![R, n]⟩ : Shape).Idx) :
    (((bitcast ⟨2, ![R, n]⟩ 8 (andi (shrui (bitcast ⟨2, ![r, n]⟩ 32 x h) (broadcast ⟨2, ![r, n]⟩ 4#32)) (broadcast ⟨2, ![r, n]⟩ 252645135#32)) h' i).toInt : ℝ) : EReal)
      = highHalf (x i) := by
  have e : bitcast ⟨2, ![R, n]⟩ 8 (andi (shrui (bitcast ⟨2, ![r, n]⟩ 32 x h) (broadcast ⟨2, ![r, n]⟩ 4#32)) (broadcast ⟨2, ![r, n]⟩ 252645135#32)) h' i = x i >>> 4 := by
    apply BitVec.eq_of_getLsbD_eq
    intro q hq
    rw [BitVec.getLsbD_ushiftRight]
    by_cases hq4 : q < 4
    · rw [bytes_word x h h' i q hq _ 4 (by omega) ?_ hq4]
      · rw [Nat.add_comm]
      · intro j p hp hp4
        show (IntOp.shrui .vector _ 4#32 &&& 252645135#32).getLsbD p = _
        rw [BitVec.getLsbD_and, mask_getLsbD p hp]
        have : ∀ w : BitVec 32, IntOp.shrui .vector w 4#32 = w >>> 4 := fun w => rfl
        rw [this, BitVec.getLsbD_ushiftRight, Nat.add_comm 4 p]; simp [hp4]
    · rw [bitcast_getLsbD _ h' i q hq (by decide)]
      show (_ &&& 252645135#32).getLsbD _ = _
      rw [BitVec.getLsbD_and, mask_getLsbD _ (Nat.mod_lt _ (by decide))]
      have : ¬ ((((⟨2, ![R, n]⟩ : Shape).row i) * 8 + q) % 32 % 8 < 4) := by omega
      rw [BitVec.getLsbD_of_ge (x i) (4 + q) (by omega)]
      simp only [this, decide_false, Bool.and_false]
  rw [e]; unfold highHalf
  generalize x i = b
  have hb : ∀ b : BitVec 8, (b >>> 4).toInt = ((b.toNat / 16 : ℕ) : ℤ) := by decide
  rw [hb]; norm_cast

end Cert.KernelIdeal.Hand

end
-- ==== Proof.PI.Tiles.lean ====
/-
  The tiles the attention kernel multiplies by, read at an index: 256 tokens' keys and 128 tokens' values, each rebuilt from
  its four-bit codes, its scales and its zeros.
-/
module

public import proofs.«01_k».proof.Proof.PI.Nibbles
public import proofs.«01_k».proof.Proof.PI.Run
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Eight copies of a row. -/
def rows8 (w : FVec Ideal S1x128 .bf16) : FVec Ideal S8x128 .bf16 :=
  concatenate S8x128 0 [⟨S1x128, w⟩, ⟨S1x128, w⟩, ⟨S1x128, w⟩, ⟨S1x128, w⟩, ⟨S1x128, w⟩, ⟨S1x128, w⟩, ⟨S1x128, w⟩, ⟨S1x128, w⟩]
    concatenates_S1x128_S1x128_S1x128_S1x128_S1x128_S1x128_S1x128_S1x128_S8x128_d0

theorem rows8_apply (w : FVec Ideal S1x128 .bf16) (q : Fin 8) (l : Fin 128) : rows8 w (ix2 q l) = w (ix2 0 l) := by
  refine (concatenate_ofFn_apply (s₁ := S1x128) (t := S8x128) (0 : Fin 2) (fun _ : Fin 8 => w) _ rfl 1 rfl (ix2 q l) q (Nat.div_one _) (ix2 0 l)
    ((Nat.mod_one _).symm) ?_)
  intro b hb
  match b with
  | ⟨0, _⟩ => exact absurd rfl hb
  | ⟨1, _⟩ => rfl

/-- Sixteen rows, the even ones one row and the odd ones another. -/
def pairRows (lo hi : FVec Ideal S1x128 .bf16) : FVec Ideal S16x128 .bf16 :=
  interleaveRows S16x128 (rows8 lo) (rows8 hi) bitcasts_S16x128_w16_S8x128_w32

theorem pairRows_apply (lo hi : FVec Ideal S1x128 .bf16) (q : Fin 16) (l : Fin 128) :
    pairRows lo hi (ix2 q l) = if q.val % 2 = 0 then lo (ix2 0 l) else hi (ix2 0 l) := by
  unfold pairRows
  pointwise [rows8_apply]

/-- Thirty-two copies of a stored pair of rows. -/
def rowsK (raw : Vec Ideal S1x2x128 .bf16) : FVec Ideal S32x128 .bf16 :=
  concatenate S32x128 0
    [⟨S16x128, pairRows (shapeCast S1x128 (rowsOfParity 0 S1x1x128 raw bitcasts_S1x2x128_w16_S1x1x128_w32) shapeCasts_S1x1x128_S1x128)
        (shapeCast S1x128 (rowsOfParity 1 S1x1x128 raw bitcasts_S1x2x128_w16_S1x1x128_w32) shapeCasts_S1x1x128_S1x128)⟩,
     ⟨S16x128, pairRows (shapeCast S1x128 (rowsOfParity 0 S1x1x128 raw bitcasts_S1x2x128_w16_S1x1x128_w32) shapeCasts_S1x1x128_S1x128)
        (shapeCast S1x128 (rowsOfParity 1 S1x1x128 raw bitcasts_S1x2x128_w16_S1x1x128_w32) shapeCasts_S1x1x128_S1x128)⟩]
    concatenates_S16x128_S16x128_S32x128_d0

theorem rowsK_apply (raw : Vec Ideal S1x2x128 .bf16) (w : Fin 128 → EReal) (hw : ∀ p l, raw (ix3 0 p l) = w l) (q : Fin 32) (l : Fin 128) :
    rowsK raw (ix2 q l) = w l := by
  unfold rowsK
  pointwise [pairRows_apply]
  split <;> split <;> exact hw _ _

/-- One group of keys. -/
def groupK (lo hi : FVec Ideal S32x128 .bf16) (sl zl sh zh : Vec Ideal S1x2x128 .bf16) : FVec Ideal S32x256 .bf16 :=
  concatenate S32x256 1 [⟨S32x128, addf (mulf lo (rowsK sl)) (rowsK zl)⟩, ⟨S32x128, addf (mulf hi (rowsK sh)) (rowsK zh)⟩]
    concatenates_S32x128_S32x128_S32x256_d1

theorem groupK_apply (lo hi : FVec Ideal S32x128 .bf16) (sl zl sh zh : Vec Ideal S1x2x128 .bf16) (wsl wzl wsh wzh : Fin 128 → EReal)
    (h1 : ∀ p l, sl (ix3 0 p l) = wsl l) (h2 : ∀ p l, zl (ix3 0 p l) = wzl l) (h3 : ∀ p l, sh (ix3 0 p l) = wsh l)
    (h4 : ∀ p l, zh (ix3 0 p l) = wzh l) (q : Fin 32) (j : Fin 256) :
    groupK lo hi sl zl sh zh (ix2 q j)
      = if h : j.val < 128 then lo (ix2 q ⟨j, h⟩) * wsl ⟨j, h⟩ + wzl ⟨j, h⟩
        else hi (ix2 q ⟨j - 128, by omega⟩) * wsh ⟨j - 128, by omega⟩ + wzh ⟨j - 128, by omega⟩ := by
  unfold groupK
  pointwise [rowsK_apply _ _ h1, rowsK_apply _ _ h2, rowsK_apply _ _ h3, rowsK_apply _ _ h4]

/-- A key's entry from its halves, scales and zeros, the low halves in the first 128 columns. -/
def keyAt (lo hi wsl wzl wsh wzh : Fin 128 → EReal) (j : Fin 256) : EReal :=
  if h : j.val < 128 then lo ⟨j, h⟩ * wsl ⟨j, h⟩ + wzl ⟨j, h⟩
  else hi ⟨j - 128, by omega⟩ * wsh ⟨j - 128, by omega⟩ + wzh ⟨j - 128, by omega⟩

/-- 256 tokens' keys. -/
def kTile (lo hi : FVec Ideal S256x128 .bf16) (sl zl sh zh : Fin 8 → Vec Ideal S1x2x128 .bf16) : FVec Ideal S256x256 .bf16 :=
  concatenate S256x256 0
    [⟨S32x256, groupK (extractStridedSlice S32x128 ![0, 0] lo slices_S256x128_o0_0_S32x128) (extractStridedSlice S32x128 ![0, 0] hi slices_S256x128_o0_0_S32x128) (sl 0) (zl 0) (sh 0) (zh 0)⟩,
     ⟨S32x256, groupK (extractStridedSlice S32x128 ![32, 0] lo slices_S256x128_o32_0_S32x128) (extractStridedSlice S32x128 ![32, 0] hi slices_S256x128_o32_0_S32x128) (sl 1) (zl 1) (sh 1) (zh 1)⟩,
     ⟨S32x256, groupK (extractStridedSlice S32x128 ![64, 0] lo slices_S256x128_o64_0_S32x128) (extractStridedSlice S32x128 ![64, 0] hi slices_S256x128_o64_0_S32x128) (sl 2) (zl 2) (sh 2) (zh 2)⟩,
     ⟨S32x256, groupK (extractStridedSlice S32x128 ![96, 0] lo slices_S256x128_o96_0_S32x128) (extractStridedSlice S32x128 ![96, 0] hi slices_S256x128_o96_0_S32x128) (sl 3) (zl 3) (sh 3) (zh 3)⟩,
     ⟨S32x256, groupK (extractStridedSlice S32x128 ![128, 0] lo slices_S256x128_o128_0_S32x128) (extractStridedSlice S32x128 ![128, 0] hi slices_S256x128_o128_0_S32x128) (sl 4) (zl 4) (sh 4) (zh 4)⟩,
     ⟨S32x256, groupK (extractStridedSlice S32x128 ![160, 0] lo slices_S256x128_o160_0_S32x128) (extractStridedSlice S32x128 ![160, 0] hi slices_S256x128_o160_0_S32x128) (sl 5) (zl 5) (sh 5) (zh 5)⟩,
     ⟨S32x256, groupK (extractStridedSlice S32x128 ![192, 0] lo slices_S256x128_o192_0_S32x128) (extractStridedSlice S32x128 ![192, 0] hi slices_S256x128_o192_0_S32x128) (sl 6) (zl 6) (sh 6) (zh 6)⟩,
     ⟨S32x256, groupK (extractStridedSlice S32x128 ![224, 0] lo slices_S256x128_o224_0_S32x128) (extractStridedSlice S32x128 ![224, 0] hi slices_S256x128_o224_0_S32x128) (sl 7) (zl 7) (sh 7) (zh 7)⟩]
    concatenates_S32x256_S32x256_S32x256_S32x256_S32x256_S32x256_S32x256_S32x256_S256x256_d0

theorem kTile_apply (lo hi : FVec Ideal S256x128 .bf16) (sl zl sh zh : Fin 8 → Vec Ideal S1x2x128 .bf16)
    (wsl wzl wsh wzh : Fin 8 → Fin 128 → EReal)
    (h1 : ∀ g p l, sl g (ix3 0 p l) = wsl g l) (h2 : ∀ g p l, zl g (ix3 0 p l) = wzl g l) (h3 : ∀ g p l, sh g (ix3 0 p l) = wsh g l)
    (h4 : ∀ g p l, zh g (ix3 0 p l) = wzh g l) (t : Fin 256) (j : Fin 256) :
    kTile lo hi sl zl sh zh (ix2 t j)
      = keyAt (fun l => lo (ix2 t l)) (fun l => hi (ix2 t l)) (wsl ⟨t / 32, by omega⟩) (wzl ⟨t / 32, by omega⟩) (wsh ⟨t / 32, by omega⟩) (wzh ⟨t / 32, by omega⟩) j := by
  obtain ⟨n, q, hq⟩ : ∃ (n : Fin 8) (q : Fin 32), t.val = 32 * n + q :=
    ⟨⟨t / 32, by omega⟩, ⟨t % 32, by omega⟩, (Nat.div_add_mod _ _).symm⟩
  have hs : ∀ (x : FVec Ideal S256x128 .bf16) (o : ℕ) (g : Fin 8) (hg : o = 32 * g.val) (h : S256x128.Slices ![o, 0] S32x128),
      extractStridedSlice S32x128 ![o, 0] x h
        = fun i => x (ix2 ⟨32 * g + (i 0).val, by have : (i 0).val < 32 := (i 0).isLt; omega⟩ (i 1)) := by
    rintro x o g rfl h
    funext i
    refine congrArg x (funext fun a => Fin.ext ?_)
    match a with
    | ⟨0, _⟩ => rfl
    | ⟨1, _⟩ => exact Nat.zero_add _
  unfold kTile
  rw [hs lo 0 0 rfl, hs hi 0 0 rfl, hs lo 32 1 rfl, hs hi 32 1 rfl, hs lo 64 2 rfl, hs hi 64 2 rfl, hs lo 96 3 rfl, hs hi 96 3 rfl,
    hs lo 128 4 rfl, hs hi 128 4 rfl, hs lo 160 5 rfl, hs hi 160 5 rfl, hs lo 192 6 rfl, hs hi 192 6 rfl, hs lo 224 7 rfl, hs hi 224 7 rfl]
  refine (concatenate_ofFn_apply (s₁ := S32x256) (t := S256x256) (0 : Fin 2) (fun n : Fin 8 => groupK
      (fun i => lo (ix2 ⟨32 * n + (i 0).val, by have : (i 0).val < 32 := (i 0).isLt; omega⟩ (i 1)))
      (fun i => hi (ix2 ⟨32 * n + (i 0).val, by have : (i 0).val < 32 := (i 0).isLt; omega⟩ (i 1))) (sl n) (zl n) (sh n) (zh n)) _ rfl 32 rfl (ix2 t j) n
    (show t.val / 32 = n by omega) (ix2 q j) (show q.val = t.val % 32 by omega) ?_).trans ?_
  · intro b hb
    match b with
    | ⟨0, _⟩ => exact absurd rfl hb
    | ⟨1, _⟩ => rfl
  · rw [groupK_apply _ _ _ _ _ _ _ _ _ _ (h1 n) (h2 n) (h3 n) (h4 n)]
    have hn : (⟨t / 32, by omega⟩ : Fin 8) = n := Fin.ext (by show t.val / 32 = n; omega)
    have ht : (⟨32 * n + q.val, by omega⟩ : Fin 256) = t := Fin.ext hq.symm
    unfold keyAt
    simp only [hn]
    split
    · exact congrArg (fun x => lo (ix2 x _) * _ + _) ht
    · exact congrArg (fun x => hi (ix2 x _) * _ + _) ht

/-- 128 tokens' keys. -/
def kHalf (lo hi : FVec Ideal S128x128 .bf16) (sl zl sh zh : Fin 4 → Vec Ideal S1x2x128 .bf16) : FVec Ideal S128x256 .bf16 :=
  concatenate S128x256 0
    [⟨S32x256, groupK (extractStridedSlice S32x128 ![0, 0] lo slices_S128x128_o0_0_S32x128) (extractStridedSlice S32x128 ![0, 0] hi slices_S128x128_o0_0_S32x128) (sl 0) (zl 0) (sh 0) (zh 0)⟩,
     ⟨S32x256, groupK (extractStridedSlice S32x128 ![32, 0] lo slices_S128x128_o32_0_S32x128) (extractStridedSlice S32x128 ![32, 0] hi slices_S128x128_o32_0_S32x128) (sl 1) (zl 1) (sh 1) (zh 1)⟩,
     ⟨S32x256, groupK (extractStridedSlice S32x128 ![64, 0] lo slices_S128x128_o64_0_S32x128) (extractStridedSlice S32x128 ![64, 0] hi slices_S128x128_o64_0_S32x128) (sl 2) (zl 2) (sh 2) (zh 2)⟩,
     ⟨S32x256, groupK (extractStridedSlice S32x128 ![96, 0] lo slices_S128x128_o96_0_S32x128) (extractStridedSlice S32x128 ![96, 0] hi slices_S128x128_o96_0_S32x128) (sl 3) (zl 3) (sh 3) (zh 3)⟩]
    concatenates_S32x256_S32x256_S32x256_S32x256_S128x256_d0

theorem kHalf_apply (lo hi : FVec Ideal S128x128 .bf16) (sl zl sh zh : Fin 4 → Vec Ideal S1x2x128 .bf16)
    (wsl wzl wsh wzh : Fin 4 → Fin 128 → EReal)
    (h1 : ∀ g p l, sl g (ix3 0 p l) = wsl g l) (h2 : ∀ g p l, zl g (ix3 0 p l) = wzl g l) (h3 : ∀ g p l, sh g (ix3 0 p l) = wsh g l)
    (h4 : ∀ g p l, zh g (ix3 0 p l) = wzh g l) (t : Fin 128) (j : Fin 256) :
    kHalf lo hi sl zl sh zh (ix2 t j)
      = keyAt (fun l => lo (ix2 t l)) (fun l => hi (ix2 t l)) (wsl ⟨t / 32, by omega⟩) (wzl ⟨t / 32, by omega⟩) (wsh ⟨t / 32, by omega⟩) (wzh ⟨t / 32, by omega⟩) j := by
  obtain ⟨n, q, hq⟩ : ∃ (n : Fin 4) (q : Fin 32), t.val = 32 * n + q :=
    ⟨⟨t / 32, by omega⟩, ⟨t % 32, by omega⟩, (Nat.div_add_mod _ _).symm⟩
  have hs : ∀ (x : FVec Ideal S128x128 .bf16) (o : ℕ) (g : Fin 4) (hg : o = 32 * g.val) (h : S128x128.Slices ![o, 0] S32x128),
      extractStridedSlice S32x128 ![o, 0] x h
        = fun i => x (ix2 ⟨32 * g + (i 0).val, by have : (i 0).val < 32 := (i 0).isLt; omega⟩ (i 1)) := by
    rintro x o g rfl h
    funext i
    refine congrArg x (funext fun a => Fin.ext ?_)
    match a with
    | ⟨0, _⟩ => rfl
    | ⟨1, _⟩ => exact Nat.zero_add _
  unfold kHalf
  rw [hs lo 0 0 rfl, hs hi 0 0 rfl, hs lo 32 1 rfl, hs hi 32 1 rfl, hs lo 64 2 rfl, hs hi 64 2 rfl, hs lo 96 3 rfl, hs hi 96 3 rfl]
  refine (concatenate_ofFn_apply (s₁ := S32x256) (t := S128x256) (0 : Fin 2) (fun n : Fin 4 => groupK
      (fun i => lo (ix2 ⟨32 * n + (i 0).val, by have : (i 0).val < 32 := (i 0).isLt; omega⟩ (i 1)))
      (fun i => hi (ix2 ⟨32 * n + (i 0).val, by have : (i 0).val < 32 := (i 0).isLt; omega⟩ (i 1))) (sl n) (zl n) (sh n) (zh n)) _ rfl 32 rfl (ix2 t j) n
    (show t.val / 32 = n by omega) (ix2 q j) (show q.val = t.val % 32 by omega) ?_).trans ?_
  · intro b hb
    match b with
    | ⟨0, _⟩ => exact absurd rfl hb
    | ⟨1, _⟩ => rfl
  · rw [groupK_apply _ _ _ _ _ _ _ _ _ _ (h1 n) (h2 n) (h3 n) (h4 n)]
    have hn : (⟨t / 32, by omega⟩ : Fin 4) = n := Fin.ext (by show t.val / 32 = n; omega)
    have ht : (⟨32 * n + q.val, by omega⟩ : Fin 128) = t := Fin.ext hq.symm
    unfold keyAt
    simp only [hn]
    split
    · exact congrArg (fun x => lo (ix2 x _) * _ + _) ht
    · exact congrArg (fun x => hi (ix2 x _) * _ + _) ht

/-- 128 tokens' scales (or zeros) of the values, one for each of 128 columns. -/
def rowsV (raw : Vec Ideal S1x8x128 .f32) : FVec Ideal S128x128 .bf16 :=
  transpose S128x128 [1, 0] (concatenate S128x128 0
    [⟨S16x128, pairRows (extractStridedSlice S1x128 ![0, 0] (k0_pay78 raw) slices_S8x128_o0_0_S1x128) (extractStridedSlice S1x128 ![0, 0] (k0_pay78 raw) slices_S8x128_o0_0_S1x128)⟩,
     ⟨S16x128, pairRows (extractStridedSlice S1x128 ![1, 0] (k0_pay78 raw) slices_S8x128_o1_0_S1x128) (extractStridedSlice S1x128 ![1, 0] (k0_pay78 raw) slices_S8x128_o1_0_S1x128)⟩,
     ⟨S16x128, pairRows (extractStridedSlice S1x128 ![2, 0] (k0_pay78 raw) slices_S8x128_o2_0_S1x128) (extractStridedSlice S1x128 ![2, 0] (k0_pay78 raw) slices_S8x128_o2_0_S1x128)⟩,
     ⟨S16x128, pairRows (extractStridedSlice S1x128 ![3, 0] (k0_pay78 raw) slices_S8x128_o3_0_S1x128) (extractStridedSlice S1x128 ![3, 0] (k0_pay78 raw) slices_S8x128_o3_0_S1x128)⟩,
     ⟨S16x128, pairRows (extractStridedSlice S1x128 ![4, 0] (k0_pay78 raw) slices_S8x128_o4_0_S1x128) (extractStridedSlice S1x128 ![4, 0] (k0_pay78 raw) slices_S8x128_o4_0_S1x128)⟩,
     ⟨S16x128, pairRows (extractStridedSlice S1x128 ![5, 0] (k0_pay78 raw) slices_S8x128_o5_0_S1x128) (extractStridedSlice S1x128 ![5, 0] (k0_pay78 raw) slices_S8x128_o5_0_S1x128)⟩,
     ⟨S16x128, pairRows (extractStridedSlice S1x128 ![6, 0] (k0_pay78 raw) slices_S8x128_o6_0_S1x128) (extractStridedSlice S1x128 ![6, 0] (k0_pay78 raw) slices_S8x128_o6_0_S1x128)⟩,
     ⟨S16x128, pairRows (extractStridedSlice S1x128 ![7, 0] (k0_pay78 raw) slices_S8x128_o7_0_S1x128) (extractStridedSlice S1x128 ![7, 0] (k0_pay78 raw) slices_S8x128_o7_0_S1x128)⟩]
    concatenates_S16x128_S16x128_S16x128_S16x128_S16x128_S16x128_S16x128_S16x128_S128x128_d0) transposes_S128x128_p1_0_S128x128

theorem rowsV_apply (raw : Vec Ideal S1x8x128 .f32) (t j : Fin 128) : rowsV raw (ix2 t j) = raw (ix3 0 ⟨j / 16, by omega⟩ t) := by
  unfold rowsV
  rw [show ∀ (x : FVec Ideal S128x128 .bf16) h, transpose S128x128 [1, 0] x h (ix2 t j) = x (ix2 j t) from fun x h => by pointwise]
  obtain ⟨n, q, hq⟩ : ∃ (n : Fin 8) (q : Fin 16), j.val = 16 * n + q :=
    ⟨⟨j / 16, by omega⟩, ⟨j % 16, by omega⟩, (Nat.div_add_mod _ _).symm⟩
  have hs : ∀ (x : FVec Ideal S8x128 .bf16) (o : ℕ) (g : Fin 8) (hg : o = g.val) (h : S8x128.Slices ![o, 0] S1x128),
      extractStridedSlice S1x128 ![o, 0] x h = fun i => x (ix2 g (i 1)) := by
    rintro x o g rfl h
    funext i
    refine congrArg x (funext fun a => Fin.ext ?_)
    match a with
    | ⟨0, _⟩ => have : (i 0).val < 1 := (i 0).isLt; show g.val + (i 0).val = g.val; omega
    | ⟨1, _⟩ => exact Nat.zero_add _
  rw [hs _ 0 0 rfl, hs _ 1 1 rfl, hs _ 2 2 rfl, hs _ 3 3 rfl, hs _ 4 4 rfl, hs _ 5 5 rfl, hs _ 6 6 rfl, hs _ 7 7 rfl]
  refine (concatenate_ofFn_apply (s₁ := S16x128) (t := S128x128) (0 : Fin 2) (fun n : Fin 8 => pairRows
      (fun i => k0_pay78 (F := Ideal) raw (ix2 n (i 1))) (fun i => k0_pay78 (F := Ideal) raw (ix2 n (i 1)))) _ rfl 16 rfl (ix2 j t) n
    (show j.val / 16 = n by omega) (ix2 q t) (show q.val = j.val % 16 by omega) ?_).trans ?_
  · intro b hb
    match b with
    | ⟨0, _⟩ => exact absurd rfl hb
    | ⟨1, _⟩ => rfl
  · rw [pairRows_apply]
    have hn : (⟨j / 16, by omega⟩ : Fin 8) = n := Fin.ext (by show j.val / 16 = n; omega)
    rw [hn, ite_self]
    unfold k0_pay78 k0_pay77
    pointwise

/-- 128 tokens' values. -/
def vTile (lo hi : FVec Ideal S128x128 .bf16) (s z : Vec Ideal S1x8x128 .f32) : FVec Ideal S128x256 .bf16 :=
  concatenate S128x256 1 [⟨S128x128, addf (mulf lo (rowsV s)) (rowsV z)⟩, ⟨S128x128, addf (mulf hi (rowsV s)) (rowsV z)⟩]
    concatenates_S128x128_S128x128_S128x256_d1

theorem vTile_apply (lo hi : FVec Ideal S128x128 .bf16) (s z : Vec Ideal S1x8x128 .f32) (t : Fin 128) (j : Fin 256) :
    vTile lo hi s z (ix2 t j)
      = keyAt (fun l => lo (ix2 t l)) (fun l => hi (ix2 t l)) (fun l => s (ix3 0 ⟨l / 16, by omega⟩ t)) (fun l => z (ix3 0 ⟨l / 16, by omega⟩ t))
          (fun l => s (ix3 0 ⟨l / 16, by omega⟩ t)) (fun l => z (ix3 0 ⟨l / 16, by omega⟩ t)) j := by
  unfold vTile keyAt
  pointwise [rowsV_apply]

theorem low256_apply (codes : Vec Ideal S1x256x128 .i8) (t : Fin 256) (l : Fin 128) :
    k0_pay7 (F := Ideal) codes (ix2 t l) = lowHalf (codes (ix3 0 t l)) := by
  unfold k0_pay7
  show (((bitcast S256x128 8 (andi (k0_pay6 (F := Ideal) codes) (broadcast S64x128 252645135#32)) bitcasts_S64x128_w32_S256x128_w8 (ix2 t l)).toInt : ℝ) : EReal) = _
  unfold k0_pay6
  refine (low_nibbles (shapeCast S256x128 codes shapeCasts_S1x256x128_S256x128) _ _ _).trans (congrArg lowHalf ?_)
  pointwise

theorem high256_apply (codes : Vec Ideal S1x256x128 .i8) (t : Fin 256) (l : Fin 128) :
    k0_pay8 (F := Ideal) codes (ix2 t l) = highHalf (codes (ix3 0 t l)) := by
  unfold k0_pay8
  show (((bitcast S256x128 8 (andi (shrui (k0_pay6 (F := Ideal) codes) (broadcast S64x128 4#32)) (broadcast S64x128 252645135#32)) bitcasts_S64x128_w32_S256x128_w8 (ix2 t l)).toInt : ℝ) : EReal) = _
  unfold k0_pay6
  refine (high_nibbles (shapeCast S256x128 codes shapeCasts_S1x256x128_S256x128) _ _ _).trans (congrArg highHalf ?_)
  pointwise

theorem low128_apply (codes : Vec Ideal S1x128x128 .i8) (t : Fin 128) (l : Fin 128) :
    k0_pay61 (F := Ideal) codes (ix2 t l) = lowHalf (codes (ix3 0 t l)) := by
  unfold k0_pay61
  show (((bitcast S128x128 8 (andi (k0_pay60 (F := Ideal) codes) (broadcast S32x128 252645135#32)) bitcasts_S32x128_w32_S128x128_w8 (ix2 t l)).toInt : ℝ) : EReal) = _
  unfold k0_pay60
  refine (low_nibbles (shapeCast S128x128 codes shapeCasts_S1x128x128_S128x128) _ _ _).trans (congrArg lowHalf ?_)
  pointwise

theorem high128_apply (codes : Vec Ideal S1x128x128 .i8) (t : Fin 128) (l : Fin 128) :
    k0_pay62 (F := Ideal) codes (ix2 t l) = highHalf (codes (ix3 0 t l)) := by
  unfold k0_pay62
  show (((bitcast S128x128 8 (andi (shrui (k0_pay60 (F := Ideal) codes) (broadcast S32x128 4#32)) (broadcast S32x128 252645135#32)) bitcasts_S32x128_w32_S128x128_w8 (ix2 t l)).toInt : ℝ) : EReal) = _
  unfold k0_pay60
  refine (high_nibbles (shapeCast S128x128 codes shapeCasts_S1x128x128_S128x128) _ _ _).trans (congrArg highHalf ?_)
  pointwise

/-! The same definitions, read from right to left. -/

theorem low256_fold (codes : Vec Ideal S1x256x128 .i8) :
    (sitofp .bf16 (bitcast S256x128 8 (andi (bitcast S64x128 32 (shapeCast S256x128 codes shapeCasts_S1x256x128_S256x128) bitcasts_S256x128_w8_S64x128_w32) (broadcast S64x128 252645135#32)) bitcasts_S64x128_w32_S256x128_w8) : FVec Ideal S256x128 .bf16) = k0_pay7 (F := Ideal) codes := rfl

theorem high256_fold (codes : Vec Ideal S1x256x128 .i8) :
    (sitofp .bf16 (bitcast S256x128 8 (andi (shrui (bitcast S64x128 32 (shapeCast S256x128 codes shapeCasts_S1x256x128_S256x128) bitcasts_S256x128_w8_S64x128_w32) (broadcast S64x128 4#32)) (broadcast S64x128 252645135#32)) bitcasts_S64x128_w32_S256x128_w8) : FVec Ideal S256x128 .bf16) = k0_pay8 (F := Ideal) codes := rfl

theorem rows8_fold (w : FVec Ideal S1x128 .bf16) :
    concatenate S8x128 0 [⟨S1x128, w⟩, ⟨S1x128, w⟩, ⟨S1x128, w⟩, ⟨S1x128, w⟩, ⟨S1x128, w⟩, ⟨S1x128, w⟩, ⟨S1x128, w⟩, ⟨S1x128, w⟩]
      concatenates_S1x128_S1x128_S1x128_S1x128_S1x128_S1x128_S1x128_S1x128_S8x128_d0 = rows8 w := rfl

theorem pairRows_fold (lo hi : FVec Ideal S1x128 .bf16) :
    interleaveRows S16x128 (rows8 lo) (rows8 hi) bitcasts_S16x128_w16_S8x128_w32 = pairRows lo hi := rfl

theorem rowsK_fold (raw : Vec Ideal S1x2x128 .bf16) :
    concatenate S32x128 0
      [⟨S16x128, pairRows (shapeCast S1x128 (rowsOfParity 0 S1x1x128 raw bitcasts_S1x2x128_w16_S1x1x128_w32) shapeCasts_S1x1x128_S1x128)
          (shapeCast S1x128 (rowsOfParity 1 S1x1x128 raw bitcasts_S1x2x128_w16_S1x1x128_w32) shapeCasts_S1x1x128_S1x128)⟩,
       ⟨S16x128, pairRows (shapeCast S1x128 (rowsOfParity 0 S1x1x128 raw bitcasts_S1x2x128_w16_S1x1x128_w32) shapeCasts_S1x1x128_S1x128)
          (shapeCast S1x128 (rowsOfParity 1 S1x1x128 raw bitcasts_S1x2x128_w16_S1x1x128_w32) shapeCasts_S1x1x128_S1x128)⟩]
      concatenates_S16x128_S16x128_S32x128_d0 = rowsK raw := rfl

theorem groupK_fold (lo hi : FVec Ideal S32x128 .bf16) (sl zl sh zh : Vec Ideal S1x2x128 .bf16) :
    concatenate S32x256 1 [⟨S32x128, addf (mulf lo (rowsK sl)) (rowsK zl)⟩, ⟨S32x128, addf (mulf hi (rowsK sh)) (rowsK zh)⟩]
      concatenates_S32x128_S32x128_S32x256_d1 = groupK lo hi sl zl sh zh := rfl

theorem pay78_fold (raw : Vec Ideal S1x8x128 .f32) :
    (truncf .bf16 (extf .f32 (truncf .bf16 (shapeCast S8x128 raw shapeCasts_S1x8x128_S8x128) bitsLt_bf16_f32) bitsLt_bf16_f32) bitsLt_bf16_f32 : FVec Ideal S8x128 .bf16) = k0_pay78 raw := rfl

theorem vTile_fold (lo hi : FVec Ideal S128x128 .bf16) (s z : Vec Ideal S1x8x128 .f32) :
    concatenate S128x256 1 [⟨S128x128, addf (mulf lo (rowsV s)) (rowsV z)⟩, ⟨S128x128, addf (mulf hi (rowsV s)) (rowsV z)⟩]
      concatenates_S128x128_S128x128_S128x256_d1 = vTile lo hi s z := rfl

theorem rowsV_fold (raw : Vec Ideal S1x8x128 .f32) :
    transpose S128x128 [1, 0] (concatenate S128x128 0
    [⟨S16x128, pairRows (extractStridedSlice S1x128 ![0, 0] (k0_pay78 raw) slices_S8x128_o0_0_S1x128) (extractStridedSlice S1x128 ![0, 0] (k0_pay78 raw) slices_S8x128_o0_0_S1x128)⟩,
     ⟨S16x128, pairRows (extractStridedSlice S1x128 ![1, 0] (k0_pay78 raw) slices_S8x128_o1_0_S1x128) (extractStridedSlice S1x128 ![1, 0] (k0_pay78 raw) slices_S8x128_o1_0_S1x128)⟩,
     ⟨S16x128, pairRows (extractStridedSlice S1x128 ![2, 0] (k0_pay78 raw) slices_S8x128_o2_0_S1x128) (extractStridedSlice S1x128 ![2, 0] (k0_pay78 raw) slices_S8x128_o2_0_S1x128)⟩,
     ⟨S16x128, pairRows (extractStridedSlice S1x128 ![3, 0] (k0_pay78 raw) slices_S8x128_o3_0_S1x128) (extractStridedSlice S1x128 ![3, 0] (k0_pay78 raw) slices_S8x128_o3_0_S1x128)⟩,
     ⟨S16x128, pairRows (extractStridedSlice S1x128 ![4, 0] (k0_pay78 raw) slices_S8x128_o4_0_S1x128) (extractStridedSlice S1x128 ![4, 0] (k0_pay78 raw) slices_S8x128_o4_0_S1x128)⟩,
     ⟨S16x128, pairRows (extractStridedSlice S1x128 ![5, 0] (k0_pay78 raw) slices_S8x128_o5_0_S1x128) (extractStridedSlice S1x128 ![5, 0] (k0_pay78 raw) slices_S8x128_o5_0_S1x128)⟩,
     ⟨S16x128, pairRows (extractStridedSlice S1x128 ![6, 0] (k0_pay78 raw) slices_S8x128_o6_0_S1x128) (extractStridedSlice S1x128 ![6, 0] (k0_pay78 raw) slices_S8x128_o6_0_S1x128)⟩,
     ⟨S16x128, pairRows (extractStridedSlice S1x128 ![7, 0] (k0_pay78 raw) slices_S8x128_o7_0_S1x128) (extractStridedSlice S1x128 ![7, 0] (k0_pay78 raw) slices_S8x128_o7_0_S1x128)⟩]
    concatenates_S16x128_S16x128_S16x128_S16x128_S16x128_S16x128_S16x128_S16x128_S128x128_d0) transposes_S128x128_p1_0_S128x128 = rowsV raw := rfl

end Cert.KernelIdeal.Hand

end
-- ==== Proof.PI.Loads.lean ====
/-
  What the trips of the two loops load, read at an index.
-/
module

public import proofs.«01_k».proof.Proof.PI.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)
variable (c : Dev nD) (i : grid0.Coords) (v0 : BitVec 1) (v13 : FVec Ideal S256x256 .bf16) (v14 : BitVec 32) (v18 : Vec Ideal S64x256 .bf16) (v51 : FVec Ideal S64x128 .f32) (z v52 : BitVec 32)

theorem trips_t1 (i : grid0.Coords) : (k0_t1_loop i).trips = if (i 1).val = 7 then 31 else 32 := by
  obtain ⟨v, hv⟩ : ∃ v : Fin 8, (i 1).val = v.val := ⟨i 1, rfl⟩
  simp only [k0_t1_loop, hv]; clear hv; revert v; decide

theorem trips_t3 (i : grid0.Coords) : (k0_t3_loop i).trips = if (i 1).val = 7 then 31 else 32 := by
  obtain ⟨v, hv⟩ : ∃ v : Fin 8, (i 1).val = v.val := ⟨i 1, rfl⟩
  simp only [k0_t3_loop, hv]; clear hv; revert v; decide

theorem trips_t1_le (i : grid0.Coords) : (k0_t1_loop i).trips ≤ 32 := by rw [trips_t1]; split <;> decide
theorem trips_t3_le (i : grid0.Coords) : (k0_t3_loop i).trips ≤ 32 := by rw [trips_t3]; split <;> decide

/-- The first token of a trip and the first stored pair of rows of one of its groups, as numbers. -/
theorem off_token (k : ℕ) (hk : k < 32) : BitVec.toNat (Scalar.indexCast (Scalar.muli (Scf.iv 0#32 1#32 k) 256#32)) = 256 * k := by
  revert hk k; decide
theorem off_group (g : Fin 8) (k : ℕ) (hk : k < 32) :
    BitVec.toNat (Scalar.indexCast (Scalar.addi (Scalar.muli (Scf.iv 0#32 1#32 k) 8#32) (BitVec.ofNat 32 g.val))) = 8 * k + g.val := by
  revert hk k g; decide
theorem off_part (k : ℕ) (hk : k < 32) (g : Fin 2) :
    BitVec.toNat (Scalar.indexCast (Scalar.addi (Scalar.muli (Scf.iv 0#32 1#32 k) 256#32) (BitVec.ofNat 32 (128 * g.val)))) = 256 * k + 128 * g.val := by
  revert hk k g; decide

/-- A key's entry at a token of a block, from the block's codes and the four tables of its groups. -/
def keyEntry (codes : Vec Ideal S1x8192x128 .i8) (wsl wzl wsh wzh : Fin 256 → Fin 128 → EReal) (t : Fin 8192) (j : Fin 256) : EReal :=
  keyAt (fun l => lowHalf (codes (ix3 0 t l))) (fun l => highHalf (codes (ix3 0 t l))) (wsl ⟨t / 32, by omega⟩) (wzl ⟨t / 32, by omega⟩)
    (wsh ⟨t / 32, by omega⟩) (wzh ⟨t / 32, by omega⟩) j

/-- A score: a row of the query against a key. -/
def score (q : Vec Ideal S64x256 .bf16) (key : Fin 8192 → Fin 256 → EReal) (r : Fin 64) (t : Fin 8192) : EReal :=
  ∑ j : Fin 256, q (ix2 r j) * key t j

/-- The scores of a trip as one vector operation. -/
def trip1Scores (codes : Vec Ideal S1x256x128 .i8) (sl zl sh zh : Fin 8 → Vec Ideal S1x2x128 .bf16) (q : FVec Ideal S64x256 .bf16) : FVec Ideal S64x256 .f32 :=
  matmul dot_S64x256_S256x256_S64x256_1_1_0_0_n_n none q (kTile (k0_pay7 codes) (k0_pay8 codes) sl zl sh zh) (constant S64x256 .f32 0x00000000#32)

def fold2 (x : FVec Ideal S64x256 .f32) : FVec Ideal S64x128 .f32 :=
  maximumf (extractStridedSlice S64x128 ![0, 0] x slices_S64x256_o0_0_S64x128) (extractStridedSlice S64x128 ![0, 128] x slices_S64x256_o0_128_S64x128)

/-- What the rows loaded for a group hold. -/
theorem load_pair (v : View sig .tc .vmem S256x2x128 .bf16) (X : BufTy.Contents (Elt Ideal) v.ty) (off : Fin 3 → ℕ) (inb : ∀ a, off a + S1x2x128.size a ≤ S256x2x128.size a)
    (n : Fin 256) (hn : off = ![n.val, 0, 0]) (p : Fin 2) (l : Fin 128) :
    View.readAt (Elt Ideal) v (Rect.unit (s := S256x2x128) off S1x2x128.size inb).toLoadRect X (ix3 0 p l) = v.read (Elt Ideal) X (ix3 n p l) := by
  subst hn
  rw [View.readAt_eq_ld]
  pointwise

theorem load_codes (v : View sig .tc .vmem S1x8192x128 .i8) (X : BufTy.Contents (Elt Ideal) v.ty) (off : Fin 3 → ℕ) (inb : ∀ a, off a + S1x256x128.size a ≤ S1x8192x128.size a)
    (n : ℕ) (hn : off = ![0, n, 0]) (t : Fin 256) (l : Fin 128) (h : n + t.val < 8192) :
    View.readAt (Elt Ideal) v (Rect.unit (s := S1x8192x128) off S1x256x128.size inb).toLoadRect X (ix3 0 t l) = v.read (Elt Ideal) X (ix3 0 ⟨n + t.val, h⟩ l) := by
  subst hn
  rw [View.readAt_eq_ld]
  pointwise

end Cert.KernelIdeal.Hand

end
-- ==== Proof.PI.TripK.lean ====
/-
  The loop over the keys, read at an index: what each trip stores into the scores and what the loop carries.
-/
module

public import proofs.«01_k».proof.Proof.PI.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)
variable (c : Dev nD) (i : grid0.Coords) (v0 : BitVec 1) (v13 : FVec Ideal S256x256 .bf16) (v14 : BitVec 32) (v18 : Vec Ideal S64x256 .bf16) (v51 : FVec Ideal S64x128 .f32) (z v52 : BitVec 32)

set_option maxHeartbeats 4000000 in
/-- A trip of the loop over the keys. -/
theorem trip1_eq (k : Fin (k0_t1_loop i).trips) (acc : FVec Ideal S64x128 .f32) :
    ∃ (codes : Vec Ideal S1x256x128 .i8) (sl zl sh zh : Fin 8 → Vec Ideal S1x2x128 .bf16) (off : Fin 2 → ℕ) (inb : ∀ a, off a + ![64, 256] a ≤ S64x8192.size a),
      (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 k).2.1 acc = [⟨Rect.unit off ![64, 256] inb, shapeCast S64x256 (trip1Scores codes sl zl sh zh v18) shapeCasts_S64x256_S64x256⟩] ∧
      (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 k).1 acc = maximumf acc (fold2 (trip1Scores codes sl zl sh zh v18)) ∧
      off = ![0, 256 * k.val] ∧
      (∀ (t : Fin 256) l (h : 256 * k.val + t.val < 8192), codes (ix3 0 t l) = arg3.view.read (Elt Ideal) X3 (ix3 0 ⟨256 * k.val + t.val, h⟩ l)) ∧
      (∀ (g : Fin 8) p l (h : 8 * k.val + g.val < 256), sl g (ix3 0 p l) = arg16.view.read (Elt Ideal) X16 (ix3 ⟨8 * k.val + g.val, h⟩ p l)) ∧
      (∀ (g : Fin 8) p l (h : 8 * k.val + g.val < 256), zl g (ix3 0 p l) = arg18.view.read (Elt Ideal) X18 (ix3 ⟨8 * k.val + g.val, h⟩ p l)) ∧
      (∀ (g : Fin 8) p l (h : 8 * k.val + g.val < 256), sh g (ix3 0 p l) = arg17.view.read (Elt Ideal) X17 (ix3 ⟨8 * k.val + g.val, h⟩ p l)) ∧
      (∀ (g : Fin 8) p l (h : 8 * k.val + g.val < 256), zh g (ix3 0 p l) = arg19.view.read (Elt Ideal) X19 (ix3 ⟨8 * k.val + g.val, h⟩ p l)) := by
  have hk : k.val < 32 := lt_of_lt_of_le k.isLt (trips_t1_le i)
  unfold trip_k0_t1
  dsimp only
  sl_unfold_words
  dsimp only [k0_pay205, k0_pay206, k0_pay207]
  dsimp only [low256_fold, high256_fold, rows8_fold, pairRows_fold, rowsK_fold, groupK_fold]
  refine ⟨_, ![_, _, _, _, _, _, _, _], ![_, _, _, _, _, _, _, _], ![_, _, _, _, _, _, _, _], ![_, _, _, _, _, _, _, _], _, _, rfl, ?_, ?_, ?_, ?_, ?_, ?_, ?_⟩
  · rfl
  · exact congrArg (fun n => ![0, n]) (off_token k hk)
  · intro t l h
    exact load_codes _ _ _ _ _ (congrArg (fun n => ![0, n, 0]) (off_token k hk)) t l h
  all_goals
    intro g p l h
    fin_cases g <;> exact load_pair _ _ _ _ ⟨_, h⟩ (congrArg (fun n => ![n, 0, 0]) (off_group _ k hk)) p l

end Cert.KernelIdeal.Hand

end
-- ==== Proof.Softmax.lean ====
/-
  A softmax-weighted sum over a sequence taken in pieces, on the extended reals: the running maximum, the weighted sums kept
  relative to it, how a further piece changes them, and what the quotient at the end is.
-/
module

public import Idealize.ShloMosaic.Lib.Pointwise

@[expose] public section

noncomputable section

namespace Cert.Softmax

open Idealize.ShloMosaic

theorem minus_inf : Ideal.ofBits .f32 4286578688#32 = ⊥ := by
  simp [Ideal.ofBits, Ideal.ieee]

theorem one_sixteenth : Ideal.ofBits .f32 1031798784#32 = ((16⁻¹ : ℝ) : EReal) := by
  simp [Ideal.ofBits, Ideal.ieee, -EReal.coe_mul]
  norm_num

/-- `exp (x / 16)`. -/
def ex (x : EReal) : EReal := Ideal.exp (x * ((16⁻¹ : ℝ) : EReal))

theorem ex_bot : ex ⊥ = 0 := by
  unfold ex; rw [EReal.bot_mul_coe_of_pos (by norm_num)]; rfl

theorem ex_coe (x : ℝ) : ex x = ((Real.exp (x * 16⁻¹) : ℝ) : EReal) := by
  unfold ex; rw [← EReal.coe_mul]; rfl

theorem exp2_scaled (x : EReal) : Ideal.exp2 (x * (((Real.log 2)⁻¹ * 16⁻¹ : ℝ) : EReal)) = ex x := by
  have hl : 0 < Real.log 2 := Real.log_pos (by norm_num)
  have hc : 0 < (Real.log 2)⁻¹ * 16⁻¹ := by positivity
  induction x using EReal.rec with
  | bot => rw [ex_bot, EReal.bot_mul_coe_of_pos hc]; rfl
  | top => unfold ex; rw [EReal.top_mul_coe_of_pos hc, EReal.top_mul_coe_of_pos (by norm_num)]; rfl
  | coe r =>
    rw [ex_coe, ← EReal.coe_mul]
    show ((Real.rpow 2 _ : ℝ) : EReal) = _
    congr 1
    show (2 : ℝ) ^ (r * ((Real.log 2)⁻¹ * 16⁻¹)) = _
    rw [Real.rpow_def_of_pos (by norm_num)]
    congr 1
    field_simp

theorem ex_nonneg (x : EReal) : 0 ≤ ex x := by
  induction x using EReal.rec with
  | bot => rw [ex_bot]
  | top => unfold ex; rw [EReal.top_mul_coe_of_pos (by norm_num)]; exact le_top
  | coe r => rw [ex_coe]; exact_mod_cast (Real.exp_pos _).le

theorem ex_sub_ne_top {s m : EReal} (h : s ≤ m) : ex (s - m) ≠ ⊤ := by
  induction m using EReal.rec with
  | bot => rw [le_bot_iff.1 h, EReal.bot_sub, ex_bot]; exact EReal.zero_ne_top
  | top => rw [EReal.sub_top, ex_bot]; exact EReal.zero_ne_top
  | coe m =>
    induction s using EReal.rec with
    | bot => rw [EReal.bot_sub, ex_bot]; exact EReal.zero_ne_top
    | top => exact absurd h (not_le.2 (EReal.coe_lt_top m))
    | coe s => rw [← EReal.coe_sub, ex_coe]; exact EReal.coe_ne_top _

/-- Changing the maximum a weight is relative to. -/
theorem ex_merge {s m m' : EReal} (h : s ≤ m) (h' : m ≤ m') : ex (s - m) * ex (m - m') = ex (s - m') := by
  induction m' using EReal.rec with
  | bot =>
    obtain rfl := le_bot_iff.1 h'
    rw [le_bot_iff.1 h, EReal.bot_sub, ex_bot, mul_zero]
  | top => rw [EReal.sub_top, EReal.sub_top, ex_bot, mul_zero]
  | coe m' =>
    induction m using EReal.rec with
    | bot => rw [le_bot_iff.1 h, EReal.bot_sub, EReal.bot_sub, ex_bot, mul_zero]
    | top => exact absurd h' (not_le.2 (EReal.coe_lt_top m'))
    | coe m =>
      induction s using EReal.rec with
      | bot => rw [EReal.bot_sub, EReal.bot_sub, ex_bot, zero_mul]
      | top => exact absurd h (not_le.2 (EReal.coe_lt_top m))
      | coe s =>
        rw [← EReal.coe_sub, ← EReal.coe_sub, ← EReal.coe_sub, ex_coe, ex_coe, ex_coe, ← EReal.coe_mul, ← Real.exp_add]
        congr 2; ring

/-- The weight the plain softmax gives, of scores scaled before the maximum is taken. -/
theorem exp_scaled_sub {s m : EReal} (h : s ≤ m) :
    Ideal.exp (s * ((16⁻¹ : ℝ) : EReal) - m * ((16⁻¹ : ℝ) : EReal)) = ex (s - m) := by
  have hc : (0 : ℝ) < 16⁻¹ := by norm_num
  induction m using EReal.rec with
  | bot => rw [le_bot_iff.1 h, EReal.bot_mul_coe_of_pos hc, EReal.bot_sub, ex_bot]; rfl
  | top => rw [EReal.top_mul_coe_of_pos hc, EReal.sub_top, EReal.sub_top, ex_bot]; rfl
  | coe m =>
    induction s using EReal.rec with
    | bot => rw [EReal.bot_mul_coe_of_pos hc, EReal.bot_sub, EReal.bot_sub, ex_bot]; rfl
    | top => exact absurd h (not_le.2 (EReal.coe_lt_top m))
    | coe s =>
      rw [← EReal.coe_mul, ← EReal.coe_mul, ← EReal.coe_sub, ← EReal.coe_sub, ex_coe]
      show ((Real.exp _ : ℝ) : EReal) = _
      congr 2; ring

/-- The maximum of the first scores of a sequence. -/
def top (s : ℕ → EReal) (n : ℕ) : EReal := (Finset.range n).sup s

theorem le_top' (s : ℕ → EReal) {n t : ℕ} (h : t < n) : s t ≤ top s n := Finset.le_sup (Finset.mem_range.2 h)

/-- A weighted sum over the first tokens, relative to a maximum. -/
def wsum (s : ℕ → EReal) (w : ℕ → EReal) (m : EReal) (n : ℕ) : EReal := ∑ t ∈ Finset.range n, ex (s t - m) * w t

theorem wsum_rescale (s w : ℕ → EReal) {m m' : EReal} (n : ℕ) (h : ∀ t < n, s t ≤ m) (h' : m ≤ m') :
    wsum s w m n * ex (m - m') = wsum s w m' n := by
  unfold wsum
  induction n with
  | zero => simp
  | succ n ih =>
    rw [Finset.sum_range_succ, Finset.sum_range_succ, EReal.right_distrib_of_nonneg_of_ne_top (ex_nonneg _) (ex_sub_ne_top h'),
      ih (fun t ht => h t (by omega)), mul_right_comm, ex_merge (h n (by omega)) h']

theorem top_add (s : ℕ → EReal) (n k : ℕ) : top s (n + k) = max (top s n) ((Finset.range k).sup fun i => s (n + i)) := by
  unfold top
  apply le_antisymm
  · refine Finset.sup_le fun t ht => ?_
    rw [Finset.mem_range] at ht
    by_cases h : t < n
    · exact le_max_of_le_left (Finset.le_sup (f := s) (Finset.mem_range.2 h))
    · refine le_max_of_le_right ?_
      have := Finset.le_sup (f := fun i => s (n + i)) (Finset.mem_range.2 (show t - n < k by omega))
      rwa [show n + (t - n) = t by omega] at this
  · refine max_le (Finset.sup_mono (Finset.range_mono (by omega))) (Finset.sup_le fun t ht => ?_)
    rw [Finset.mem_range] at ht
    exact Finset.le_sup (f := s) (Finset.mem_range.2 (by omega))

theorem wsum_add (s w : ℕ → EReal) (m : EReal) (n k : ℕ) :
    wsum s w m (n + k) = wsum s w m n + ∑ i ∈ Finset.range k, ex (s (n + i) - m) * w (n + i) := Finset.sum_range_add _ _ _

/-- A further piece of the sequence. -/
theorem wsum_step (s w : ℕ → EReal) (n k : ℕ) :
    wsum s w (top s n) n * ex (top s n - top s (n + k)) + (∑ i ∈ Finset.range k, ex (s (n + i) - top s (n + k)) * w (n + i))
      = wsum s w (top s (n + k)) (n + k) := by
  rw [wsum_rescale s w n (fun t ht => le_top' s ht) (by rw [top_add]; exact le_max_left _ _), wsum_add]

/-- The lane of a token. -/
def lane (l : Fin 128) (t : ℕ) : EReal := if t % 128 = l.val then 1 else 0

/-- The tokens of a piece that lie on a lane. -/
theorem sum_lane (f : ℕ → EReal) (n k : ℕ) (hn : n % 128 = 0) (l : Fin 128) :
    ∑ i ∈ Finset.range (128 * k), f i * lane l (n + i) = ∑ i ∈ Finset.range k, f (128 * i + l.val) := by
  induction k with
  | zero => simp
  | succ k ih =>
    rw [Nat.mul_succ, Finset.sum_range_add, ih, Finset.sum_range_succ _ k]
    congr 1
    rw [Finset.sum_eq_single_of_mem l.val (Finset.mem_range.2 l.isLt)]
    · unfold lane; rw [if_pos (by omega), mul_one]
    · intro b hb hbl
      rw [Finset.mem_range] at hb
      unfold lane; rw [if_neg (by omega), mul_zero]

/-- The lanes together. -/
theorem sum_lanes (s : ℕ → EReal) (m : EReal) (n : ℕ) :
    ∑ l : Fin 128, wsum s (lane l) m n = wsum s (fun _ => 1) m n := by
  unfold wsum
  rw [Finset.sum_comm]
  refine Finset.sum_congr rfl fun t _ => ?_
  rw [Finset.sum_eq_single_of_mem (⟨t % 128, Nat.mod_lt _ (by decide)⟩ : Fin 128) (Finset.mem_univ _)]
  · unfold lane; rw [if_pos rfl]
  · intro b _ hb
    unfold lane; rw [if_neg (fun h => hb (Fin.ext h.symm)), mul_zero]

end Cert.Softmax

end
-- ==== Proof.PI.LoopK.lean ====
/-
  The loop over the keys of a block: the scores it stores and the maxima it carries.
-/
module

public import proofs.«01_k».proof.Proof.PI.TripK
public import proofs.«01_k».proof.Proof.Softmax
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)
variable (c : Dev nD) (i : grid0.Coords) (v0 : BitVec 1) (v13 : FVec Ideal S256x256 .bf16) (v14 : BitVec 32) (v18 : Vec Ideal S64x256 .bf16) (v51 : FVec Ideal S64x128 .f32) (z v52 : BitVec 32)

theorem trip1Scores_apply (codes : Vec Ideal S1x256x128 .i8) (sl zl sh zh : Fin 8 → Vec Ideal S1x2x128 .bf16) (q : FVec Ideal S64x256 .bf16)
    (wsl wzl wsh wzh : Fin 8 → Fin 128 → EReal)
    (h1 : ∀ g p l, sl g (ix3 0 p l) = wsl g l) (h2 : ∀ g p l, zl g (ix3 0 p l) = wzl g l) (h3 : ∀ g p l, sh g (ix3 0 p l) = wsh g l)
    (h4 : ∀ g p l, zh g (ix3 0 p l) = wzh g l) (r : Fin 64) (t : Fin 256) :
    trip1Scores codes sl zl sh zh q (ix2 r t)
      = ∑ j : Fin 256, q (ix2 r j) * keyAt (fun l => lowHalf (codes (ix3 0 t l))) (fun l => highHalf (codes (ix3 0 t l)))
          (wsl ⟨t / 32, by omega⟩) (wzl ⟨t / 32, by omega⟩) (wsh ⟨t / 32, by omega⟩) (wzh ⟨t / 32, by omega⟩) j := by
  unfold trip1Scores
  pointwise [kTile_apply _ _ _ _ _ _ _ _ _ _ h1 h2 h3 h4, low256_apply, high256_apply]

theorem fold2_apply (x : FVec Ideal S64x256 .f32) (r : Fin 64) (l : Fin 128) :
    fold2 x (ix2 r l) = max (x (ix2 r ⟨l, by omega⟩)) (x (ix2 r ⟨128 + l, by omega⟩)) := by
  unfold fold2
  pointwise

/-- The loop: the scores of the tokens so far are stored, and each lane carries the greatest of its own. -/
theorem loop1 (wsl wzl wsh wzh : Fin 256 → Fin 128 → EReal) (s : Fin 64 → ℕ → EReal) (init : FVec Ideal S64x128 .f32)
    (hs : ∀ r (t : Fin 8192), t.val < 256 * (k0_t1_loop i).trips → score v18 (keyEntry (arg3.view.read (Elt Ideal) X3) wsl wzl wsh wzh) r t = s r t)
    (h16 : ∀ n p l, arg16.view.read (Elt Ideal) X16 (ix3 n p l) = wsl n l) (h18 : ∀ n p l, arg18.view.read (Elt Ideal) X18 (ix3 n p l) = wzl n l)
    (h17 : ∀ n p l, arg17.view.read (Elt Ideal) X17 (ix3 n p l) = wsh n l) (h19 : ∀ n p l, arg19.view.read (Elt Ideal) X19 (ix3 n p l) = wzh n l)
    (n : ℕ) (hn : n ≤ (k0_t1_loop i).trips) :
    (∀ Y r (t : Fin 8192), t.val < 256 * n →
      arg15.view.read (Elt Ideal) (arg15.view.writes (Elt Ideal) Y (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init n).2) (ix2 r t) = s r t) ∧
    ∀ r l, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init n).1 (ix2 r l) = max (init (ix2 r l)) ((Finset.range (2 * n)).sup fun m => s r (128 * m + l.val)) := by
  have htr := trips_t1_le i
  induction n with
  | zero =>
    refine ⟨fun Y r t ht => absurd ht (by omega), fun r l => ?_⟩
    show init (ix2 r l) = _
    simp
  | succ k ih =>
    obtain ⟨ihw, ihm⟩ := ih (by omega)
    obtain ⟨codes, sl, zl, sh, zh, off, inb, hL, hR, hoff, hc, hsl, hzl, hsh, hzh⟩ :=
      trip1_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X16 X17 X18 X19 c i v0 v13 v14 v18 v51 z v52 ⟨k, by omega⟩ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init k).1
    have hsc : ∀ r (t : Fin 256), trip1Scores codes sl zl sh zh v18 (ix2 r t) = s r (256 * k + t.val) := by
      intro r t
      rw [trip1Scores_apply codes sl zl sh zh v18 (fun g l => wsl ⟨8 * k + g.val, by omega⟩ l) (fun g l => wzl ⟨8 * k + g.val, by omega⟩ l)
        (fun g l => wsh ⟨8 * k + g.val, by omega⟩ l) (fun g l => wzh ⟨8 * k + g.val, by omega⟩ l)
        (fun g p l => (hsl g p l (by have := g.isLt; omega)).trans (h16 _ _ _)) (fun g p l => (hzl g p l (by have := g.isLt; omega)).trans (h18 _ _ _))
        (fun g p l => (hsh g p l (by have := g.isLt; omega)).trans (h17 _ _ _)) (fun g p l => (hzh g p l (by have := g.isLt; omega)).trans (h19 _ _ _))]
      have hb : 256 * k + t.val < 8192 := by omega
      refine Eq.trans ?_ (hs r ⟨256 * k + t.val, hb⟩ (by show 256 * k + t.val < _; omega))
      unfold score keyEntry
      have hg : (⟨8 * k + t.val / 32, by omega⟩ : Fin 256) = ⟨(256 * k + t.val) / 32, by omega⟩ := Fin.ext (by show 8 * k + t.val / 32 = (256 * k + t.val) / 32; omega)
      simp only [hc t _ hb, hg]
    have hstep := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init ⟨k, by omega⟩
    rw [show st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init (k + 1) = _ from hstep]
    constructor
    · intro Y r t ht
      show arg15.view.read (Elt Ideal) (arg15.view.writes (Elt Ideal) Y ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 ⟨k, by omega⟩).2.1 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init k).1 ++ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init k).2)) (ix2 r t) = _
      rw [hL]
      by_cases h : t.val < 256 * k
      · refine (View.read_writes_cons_unit_of_not_mem _ _ inb _ _ _ hoff 1 (.inl h)).trans (ihw Y r t h)
      · refine (View.read_writes_cons_unit_of_mem _ _ inb _ _ (ix2 r t) (ix2 r (⟨t.val - 256 * k, by omega⟩ : Fin 256)) hoff ?_).trans ?_
        · intro a
          match a with
          | ⟨0, _⟩ => exact (Nat.zero_add _).symm
          | ⟨1, _⟩ => show t.val = 256 * k + (t.val - 256 * k); omega
        · have := hsc r ⟨t.val - 256 * k, by omega⟩
          rw [show 256 * k + (t.val - 256 * k) = t.val by omega] at this
          rw [← this]
          pointwise
    · intro r l
      show (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 ⟨k, by omega⟩).1 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init k).1 (ix2 r l) = _
      rw [hR]
      show max ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 X3 X16 X17 X18 X19 init k).1 (ix2 r l)) (fold2 _ (ix2 r l)) = _
      rw [ihm, fold2_apply, hsc, hsc, show 2 * (k + 1) = 2 * k + 1 + 1 by ring, Finset.range_add_one, Finset.sup_insert, Finset.range_add_one, Finset.sup_insert]
      simp only []
      rw [show 128 * (2 * k + 1) + l.val = 256 * k + (128 + l.val) by ring, show 128 * (2 * k) + l.val = 256 * k + l.val by ring]
      simp only [max_comm, max_left_comm, max_assoc]

end Cert.KernelIdeal.Hand

end
-- ==== Proof.PI.TripV.lean ====
/-
  The loop over the values, read at an index: what each trip adds to the sums it carries.
-/
module

public import proofs.«01_k».proof.Proof.PI.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)
variable (c : Dev nD) (i : grid0.Coords) (v0 : BitVec 1) (v13 : FVec Ideal S256x256 .bf16) (v14 : BitVec 32) (v18 : Vec Ideal S64x256 .bf16) (v51 : FVec Ideal S64x128 .f32) (z v52 : BitVec 32) (v64 v65 : Vec Ideal S64x128 .f32)

theorem pay75_eq (codes : Vec Ideal S1x256x128 .i8) : k0_pay75 (F := Ideal) codes = k0_pay7 codes := by
  unfold k0_pay75 k0_pay7 k0_pay74 k0_pay6; rfl
theorem pay76_eq (codes : Vec Ideal S1x256x128 .i8) : k0_pay76 (F := Ideal) codes = k0_pay8 codes := by
  unfold k0_pay76 k0_pay8 k0_pay74 k0_pay6; rfl

/-- 256 tokens' values: two tiles of 128. -/
def vTiles (codes : Vec Ideal S1x256x128 .i8) (s z : Fin 2 → Vec Ideal S1x8x128 .f32) : FVec Ideal S256x256 .bf16 :=
  concatenate S256x256 0
    [⟨S128x256, vTile (extractStridedSlice S128x128 ![0, 0] (k0_pay75 codes) slices_S256x128_o0_0_S128x128) (extractStridedSlice S128x128 ![0, 0] (k0_pay76 codes) slices_S256x128_o0_0_S128x128) (s 0) (z 0)⟩,
     ⟨S128x256, vTile (extractStridedSlice S128x128 ![128, 0] (k0_pay75 codes) slices_S256x128_o128_0_S128x128) (extractStridedSlice S128x128 ![128, 0] (k0_pay76 codes) slices_S256x128_o128_0_S128x128) (s 1) (z 1)⟩]
    concatenates_S128x256_S128x256_S256x256_d0

theorem vTiles_apply (codes : Vec Ideal S1x256x128 .i8) (s z : Fin 2 → Vec Ideal S1x8x128 .f32) (t j : Fin 256) :
    vTiles codes s z (ix2 t j)
      = keyAt (fun l => lowHalf (codes (ix3 0 t l))) (fun l => highHalf (codes (ix3 0 t l)))
          (fun l => s ⟨t / 128, by omega⟩ (ix3 0 ⟨l / 16, by omega⟩ ⟨t % 128, by omega⟩)) (fun l => z ⟨t / 128, by omega⟩ (ix3 0 ⟨l / 16, by omega⟩ ⟨t % 128, by omega⟩))
          (fun l => s ⟨t / 128, by omega⟩ (ix3 0 ⟨l / 16, by omega⟩ ⟨t % 128, by omega⟩)) (fun l => z ⟨t / 128, by omega⟩ (ix3 0 ⟨l / 16, by omega⟩ ⟨t % 128, by omega⟩)) j := by
  unfold vTiles
  rw [pay75_eq, pay76_eq]
  by_cases ht : t.val < 128
  · have h0 : (⟨t / 128, by omega⟩ : Fin 2) = 0 := Fin.ext (by show t.val / 128 = 0; omega)
    have h1 : (⟨t % 128, by omega⟩ : Fin 128) = ⟨t, ht⟩ := Fin.ext (by show t.val % 128 = t; omega)
    rw [h0, h1]
    pointwise [vTile_apply, low256_apply, high256_apply]
    rw [dif_pos ht]
  · have h0 : (⟨t / 128, by omega⟩ : Fin 2) = 1 := Fin.ext (by show t.val / 128 = 1; omega)
    have h1 : (⟨t % 128, by omega⟩ : Fin 128) = ⟨t - 128, by omega⟩ := Fin.ext (by show t.val % 128 = t.val - 128; omega)
    rw [h0, h1]
    have h2 : (⟨128 + (t.val - 128), by omega⟩ : Fin 256) = t := Fin.ext (by show 128 + (t.val - 128) = t; omega)
    pointwise [vTile_apply, low256_apply, high256_apply]
    rw [dif_neg ht]
    try simp only [h2]

theorem load_scores (v : View sig .tc .vmem S64x8192 .f32) (X : BufTy.Contents (Elt Ideal) v.ty) (off : Fin 2 → ℕ) (inb : ∀ a, off a + S64x256.size a ≤ S64x8192.size a)
    (n : ℕ) (hn : off = ![0, n]) (r : Fin 64) (t : Fin 256) (h : n + t.val < 8192) :
    View.readAt (Elt Ideal) v (Rect.unit (s := S64x8192) off S64x256.size inb).toLoadRect X (ix2 r t) = v.read (Elt Ideal) X (ix2 r ⟨n + t.val, h⟩) := by
  subst hn
  rw [View.readAt_eq_ld]
  pointwise

theorem load_part (v : View sig .tc .vmem S1x8x8192 .f32) (X : BufTy.Contents (Elt Ideal) v.ty) (off : Fin 3 → ℕ) (inb : ∀ a, off a + S1x8x128.size a ≤ S1x8x8192.size a)
    (n : ℕ) (hn : off = ![0, 0, n]) (g : Fin 8) (t : Fin 128) (h : n + t.val < 8192) :
    View.readAt (Elt Ideal) v (Rect.unit (s := S1x8x8192) off S1x8x128.size inb).toLoadRect X (ix3 0 g t) = v.read (Elt Ideal) X (ix3 0 g ⟨n + t.val, h⟩) := by
  subst hn
  rw [View.readAt_eq_ld]
  pointwise

/-- The two halves of a trip's weights, added. -/
def add2 (x : FVec Ideal S64x256 .f32) : FVec Ideal S64x128 .f32 :=
  addf (extractStridedSlice S64x128 ![0, 0] x slices_S64x256_o0_0_S64x128) (extractStridedSlice S64x128 ![0, 128] x slices_S64x256_o0_128_S64x128)

set_option maxHeartbeats 4000000 in
/-- A trip of the loop over the values. -/
theorem trip3_eq (k : Fin (k0_t3_loop i).trips) (acc : FVec Ideal S64x128 .f32 × FVec Ideal S64x256 .f32) :
    ∃ (sc : Vec Ideal S64x256 .f32) (codes : Vec Ideal S1x256x128 .i8) (s zs : Fin 2 → Vec Ideal S1x8x128 .f32),
      (trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 k).1 acc
        = (addf acc.1 (add2 (k0_pay73 (k0_pay215 v64 v65) sc)),
           addf acc.2 (matmul dot_S64x256_S256x256_S64x256_1_0_0_1_n_n none (truncf .bf16 (k0_pay73 (k0_pay215 v64 v65) sc) bitsLt_bf16_f32) (vTiles codes s zs) (constant S64x256 .f32 0x00000000#32))) ∧
      (∀ r (t : Fin 256) (h : 256 * k.val + t.val < 8192), sc (ix2 r t) = arg15.view.read (Elt Ideal) X15 (ix2 r ⟨256 * k.val + t.val, h⟩)) ∧
      (∀ (t : Fin 256) l (h : 256 * k.val + t.val < 8192), codes (ix3 0 t l) = arg6.view.read (Elt Ideal) X6 (ix3 0 ⟨256 * k.val + t.val, h⟩ l)) ∧
      (∀ (g : Fin 2) a (t : Fin 128) (h : 256 * k.val + 128 * g.val + t.val < 8192), s g (ix3 0 a t) = arg7.view.read (Elt Ideal) X7 (ix3 0 a ⟨256 * k.val + 128 * g.val + t.val, h⟩)) ∧
      (∀ (g : Fin 2) a (t : Fin 128) (h : 256 * k.val + 128 * g.val + t.val < 8192), zs g (ix3 0 a t) = arg8.view.read (Elt Ideal) X8 (ix3 0 a ⟨256 * k.val + 128 * g.val + t.val, h⟩)) := by
  have hk : k.val < 32 := lt_of_lt_of_le k.isLt (trips_t3_le i)
  unfold trip_k0_t3
  dsimp only
  sl_unfold_words
  dsimp only [k0_pay220, k0_pay221, k0_pay80, k0_pay81, k0_pay82, k0_pay83, k0_pay84, k0_pay79, k0_pay78, k0_pay77]
  dsimp only [pay78_fold, rows8_fold, pairRows_fold, rowsV_fold, vTile_fold]
  refine ⟨_, _, ![_, _], ![_, _], rfl, ?_, ?_, ?_, ?_⟩
  · intro r t h
    exact load_scores _ _ _ _ _ (congrArg (fun n => ![0, n]) (off_token k hk)) r t h
  · intro t l h
    exact load_codes _ _ _ _ _ (congrArg (fun n => ![0, n, 0]) (off_token k hk)) t l h
  all_goals
    intro g a t h
    fin_cases g <;> exact load_part _ _ _ _ _ (congrArg (fun n => ![0, 0, n]) (off_part k hk _)) a t h

end Cert.KernelIdeal.Hand

end
-- ==== Proof.PI.LoopV.lean ====
/-
  The loop over the values of a block: the weights it adds up and the weighted values.
-/
module

public import proofs.«01_k».proof.Proof.PI.TripV
public import proofs.«01_k».proof.Proof.Softmax

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)
variable (c : Dev nD) (i : grid0.Coords) (v0 : BitVec 1) (v13 : FVec Ideal S256x256 .bf16) (v14 : BitVec 32) (v18 : Vec Ideal S64x256 .bf16) (v51 : FVec Ideal S64x128 .f32) (z v52 : BitVec 32) (v64 v65 : Vec Ideal S64x128 .f32)

/-- The scale of a score as the kernel writes it, for the base-two exponential. -/
theorem named_c : Named.named (F := Ideal) κ "c" (φ := .f32) 0x3DB8AA3B#32 = (((Real.log 2)⁻¹ * 16⁻¹ : ℝ) : EReal) :=
  IdealRules.named_const.ideal_named_scalar _ _ _ _ rfl

/-- The weights of 256 scores against a maximum. -/
theorem pay73_apply (m : FVec Ideal S64x128 .f32) (sc : Vec Ideal S64x256 .f32) (M : Fin 64 → EReal) (hm : ∀ r l, m (ix2 r l) = M r) (r : Fin 64) (t : Fin 256) :
    k0_pay73 m sc (ix2 r t) = ex (sc (ix2 r t) - M r) := by
  rw [← exp2_scaled, ← named_c]
  unfold k0_pay73
  show Ideal.exp2 ((sc (ix2 r t) - concatenate S64x256 1 [⟨S64x128, m⟩, ⟨S64x128, m⟩] concatenates_S64x128_S64x128_S64x256_d1 (ix2 r t)) * _) = _
  rw [show concatenate S64x256 1 [⟨S64x128, m⟩, ⟨S64x128, m⟩] concatenates_S64x128_S64x128_S64x256_d1 (ix2 r t) = M r by
    pointwise
    split <;> exact hm _ _]
  rfl

theorem add2_apply (x : FVec Ideal S64x256 .f32) (r : Fin 64) (l : Fin 128) :
    add2 x (ix2 r l) = x (ix2 r ⟨l, by omega⟩) + x (ix2 r ⟨128 + l, by omega⟩) := by
  unfold add2
  pointwise

/-- A value's entry at a token of a block, from the block's codes, scales and zeros. -/
def valueEntry (codes : Vec Ideal S1x8192x128 .i8) (s zs : Vec Ideal S1x8x8192 .f32) (t : Fin 8192) (j : Fin 256) : EReal :=
  keyAt (fun l => lowHalf (codes (ix3 0 t l))) (fun l => highHalf (codes (ix3 0 t l)))
    (fun l => s (ix3 0 ⟨l / 16, by omega⟩ t)) (fun l => zs (ix3 0 ⟨l / 16, by omega⟩ t))
    (fun l => s (ix3 0 ⟨l / 16, by omega⟩ t)) (fun l => zs (ix3 0 ⟨l / 16, by omega⟩ t)) j

theorem weighted_apply (p : FVec Ideal S64x256 .f32) (v : FVec Ideal S256x256 .bf16) (r : Fin 64) (j : Fin 256) :
    matmul dot_S64x256_S256x256_S64x256_1_0_0_1_n_n none (truncf .bf16 p bitsLt_bf16_f32) v (constant S64x256 .f32 0x00000000#32) (ix2 r j)
      = ∑ t : Fin 256, p (ix2 r t) * v (ix2 t j) := by
  pointwise

/-- The loop: each lane gains its tokens' weights, and the accumulator their weighted values. -/
theorem loop3 (M : Fin 64 → EReal) (s : Fin 64 → ℕ → EReal) (v : ℕ → Fin 256 → EReal) (init : FVec Ideal S64x128 .f32 × FVec Ideal S64x256 .f32)
    (hm : ∀ r l, k0_pay215 v64 v65 (ix2 r l) = M r)
    (hs : ∀ r (t : Fin 8192), t.val < 256 * (k0_t3_loop i).trips → arg15.view.read (Elt Ideal) X15 (ix2 r t) = s r t)
    (hv : ∀ (t : Fin 8192) j, t.val < 256 * (k0_t3_loop i).trips →
      valueEntry (arg6.view.read (Elt Ideal) X6) (arg7.view.read (Elt Ideal) X7) (arg8.view.read (Elt Ideal) X8) t j = v t j)
    (n : ℕ) (hn : n ≤ (k0_t3_loop i).trips) :
    (∀ r l, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init n).1 (ix2 r l) = init.1 (ix2 r l) + ∑ m ∈ Finset.range (2 * n), ex (s r (128 * m + l.val) - M r)) ∧
    ∀ r j, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init n).2 (ix2 r j) = init.2 (ix2 r j) + ∑ t ∈ Finset.range (256 * n), ex (s r t - M r) * v t j := by
  have htr := trips_t3_le i
  induction n with
  | zero =>
    constructor
    · intro r l
      show init.1 (ix2 r l) = _
      simp
    · intro r l
      show init.2 (ix2 r l) = _
      simp
  | succ k ih =>
    obtain ⟨ihl, iha⟩ := ih (by omega)
    obtain ⟨sc, codes, sv, zv, hR, hsc, hc, hsv, hzv⟩ :=
      trip3_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 X15 c i v0 v13 v14 v18 v51 z v52 v64 v65 ⟨k, by omega⟩ (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init k)
    have hp : ∀ r (t : Fin 256), k0_pay73 (k0_pay215 v64 v65) sc (ix2 r t) = ex (s r (256 * k + t.val) - M r) := by
      intro r t
      have hb : 256 * k + t.val < 8192 := by omega
      rw [pay73_apply _ _ M hm, hsc r t hb, hs r ⟨_, hb⟩ (by show 256 * k + t.val < _; omega)]
    have hvt : ∀ (t j : Fin 256), vTiles codes sv zv (ix2 t j) = v (256 * k + t.val) j := by
      intro t j
      have hb : 256 * k + t.val < 8192 := by omega
      rw [vTiles_apply, ← hv ⟨_, hb⟩ j (by show 256 * k + t.val < _; omega)]
      unfold valueEntry
      have hp : ∀ (g : Fin 2) a (u : Fin 128) (hu : 128 * g.val + u.val = t.val), sv g (ix3 0 a u) = arg7.view.read (Elt Ideal) X7 (ix3 0 a ⟨256 * k + t.val, hb⟩) := by
        intro g a u hu
        rw [hsv g a u (by show 256 * k + 128 * g.val + u.val < _; omega)]
        exact congrArg (fun n => arg7.view.read (Elt Ideal) X7 (ix3 0 a n)) (Fin.ext (by show 256 * k + 128 * g.val + u.val = 256 * k + t.val; omega))
      have hz : ∀ (g : Fin 2) a (u : Fin 128) (hu : 128 * g.val + u.val = t.val), zv g (ix3 0 a u) = arg8.view.read (Elt Ideal) X8 (ix3 0 a ⟨256 * k + t.val, hb⟩) := by
        intro g a u hu
        rw [hzv g a u (by show 256 * k + 128 * g.val + u.val < _; omega)]
        exact congrArg (fun n => arg8.view.read (Elt Ideal) X8 (ix3 0 a n)) (Fin.ext (by show 256 * k + 128 * g.val + u.val = 256 * k + t.val; omega))
      have hu : 128 * (t.val / 128) + t.val % 128 = t.val := Nat.div_add_mod _ _
      simp only [hc t _ hb, fun a => hp ⟨t / 128, by omega⟩ a ⟨t % 128, by omega⟩ hu, fun a => hz ⟨t / 128, by omega⟩ a ⟨t % 128, by omega⟩ hu]
    have hstep := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init ⟨k, by omega⟩
    rw [show st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init (k + 1) = _ from hstep]
    show (∀ r l, ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 ⟨k, by omega⟩).1 (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init k)).1 (ix2 r l) = _) ∧ (∀ r j, ((trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 ⟨k, by omega⟩).1 (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init k)).2 (ix2 r j) = _)
    rw [hR]
    constructor
    · intro r l
      show (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init k).1 (ix2 r l) + add2 _ (ix2 r l) = _
      rw [ihl, add2_apply, hp, hp, show 2 * (k + 1) = 2 * k + 1 + 1 by ring, Finset.sum_range_succ, Finset.sum_range_succ]
      simp only []
      rw [show 128 * (2 * k + 1) + l.val = 256 * k + (128 + l.val) by ring, show 128 * (2 * k) + l.val = 256 * k + l.val by ring]
      simp only [add_assoc]
    · intro r j
      show (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v0 v13 v14 v18 v51 z v52 v64 v65 X6 X7 X8 X15 init k).2 (ix2 r j) + _ = _
      rw [iha, weighted_apply, Nat.mul_succ, Finset.sum_range_add, add_assoc]
      congr 1
      rw [← Fin.sum_univ_eq_sum_range (fun m => ex (s r (256 * k + m) - M r) * v (256 * k + m) j)]
      congr 1
      exact Finset.sum_congr rfl fun t _ => by rw [hp, hvt]

end Cert.KernelIdeal.Hand

end
-- ==== Proof.PI.Perm.lean ====
/-
  The even-channels-first order, the tables of scales and zeros in it, and the small vector steps of the attention kernel, read at
  an index.
-/
module

public import proofs.«01_k».proof.Proof.PI.LoopK
public import proofs.«01_k».proof.Proof.PI.LoopV

@[expose] public section

set_option maxRecDepth 16384

noncomputable section

namespace Cert.KernelIdeal.Hand

open Cert.KernelIdeal Cert.KernelIdeal.Gen Cert.Softmax
open Idealize.ShloMosaic Idealize.ShloMosaic.TcCoe Idealize.ShloMosaic.Tactic

/-- The channel a column holds, the even channels coming first. -/
def chan (j : Fin 256) : Fin 256 := if h : j.val < 128 then ⟨2 * j.val, by omega⟩ else ⟨2 * (j.val - 128) + 1, by omega⟩

/-- The column of a channel. -/
def slot (d : Fin 256) : Fin 256 := ⟨d.val / 2 + 128 * (d.val % 2), by omega⟩

theorem chan_slot (d : Fin 256) : chan (slot d) = d := by
  refine Fin.ext ?_
  unfold chan slot
  split
  · rename_i h; replace h : d.val / 2 + 128 * (d.val % 2) < 128 := h; show 2 * (d.val / 2 + 128 * (d.val % 2)) = d.val; omega
  · rename_i h; replace h : ¬ d.val / 2 + 128 * (d.val % 2) < 128 := h; show 2 * (d.val / 2 + 128 * (d.val % 2) - 128) + 1 = d.val; omega

theorem slot_chan (j : Fin 256) : slot (chan j) = j := by
  refine Fin.ext ?_
  unfold chan slot
  split
  · show 2 * j.val / 2 + 128 * (2 * j.val % 2) = j.val; omega
  · show (2 * (j.val - 128) + 1) / 2 + 128 * ((2 * (j.val - 128) + 1) % 2) = j.val; omega

/-- A sum over the channels, taken over the columns. -/
theorem sum_chan (f : Fin 256 → EReal) : ∑ j : Fin 256, f (chan j) = ∑ d : Fin 256, f d :=
  Equiv.sum_comp ⟨chan, slot, slot_chan, chan_slot⟩ f

theorem slot_word (d : Fin 256) :
    IntOp.addi (IntOp.shrsi .vector (BitVec.ofNat 32 d.val) 1#32) (IntOp.muli 128#32 (IntOp.andi (BitVec.ofNat 32 d.val) 1#32)) = BitVec.ofNat 32 (slot d).val := by
  revert d; decide +kernel

theorem perm_apply (d j : Fin 256) : k0_pay189 (F := Ideal) (ix2 d j) = if d = chan j then 1 else 0 := by
  have h1 : k0_pay189 (F := Ideal) (ix2 d j)
      = ((((IntOp.cmpi .eq (BitVec.ofNat 32 (slot d).val) (BitVec.ofNat 32 j.val)).setWidth 32).toInt : ℝ) : EReal) := by
    rw [← slot_word]
    unfold k0_pay189
    pointwise
    rfl
  rw [h1]
  by_cases h : d = chan j
  · subst h
    rw [slot_chan, if_pos rfl]
    simp [IntOp.cmpi]
  · rw [if_neg h]
    have hb : ¬ BitVec.ofNat 32 (slot d).val = BitVec.ofNat 32 j.val := by
      intro hb
      have := congrArg BitVec.toNat hb
      rw [BitVec.toNat_ofNat, BitVec.toNat_ofNat, Nat.mod_eq_of_lt (by omega), Nat.mod_eq_of_lt (by omega)] at this
      exact h (by rw [← chan_slot d, Fin.ext this])
    simp [IntOp.cmpi, beq_eq_false_iff_ne.mpr hb]

theorem sum_perm (a : Fin 256 → EReal) (j : Fin 256) : ∑ d : Fin 256, a d * k0_pay189 (F := Ideal) (ix2 d j) = a (chan j) := by
  simp [perm_apply]

theorem sum_perm' (a : Fin 256 → EReal) (d : Fin 256) : ∑ j : Fin 256, a j * k0_pay189 (F := Ideal) (ix2 d j) = a (slot d) := by
  rw [Finset.sum_eq_single_of_mem (slot d) (Finset.mem_univ _)]
  · rw [perm_apply, chan_slot, if_pos rfl, mul_one]
  · intro b _ hb
    rw [perm_apply, if_neg (fun h => hb (by rw [h, slot_chan])), mul_zero]

/-- A scale (or zero) of a block's groups: two rows of 128 channels for each group, even channels and odd ones apart. -/
def tab (y : Vec Ideal S1x512x128 .f32) (p : Fin 2) (n : Fin 256) (l : Fin 128) : EReal :=
  y (ix3 0 ⟨2 * n.val + l.val / 64, by omega⟩ ⟨2 * (l.val % 64) + p.val, by omega⟩)

/-- The two halves of the reordered rows. -/
def rowsOf (e d : Vec Ideal S1x256x128 .f32) : FVec Ideal S256x256 .bf16 :=
  truncf .bf16 (matmul dot_S256x256_S256x256_S256x256_1_0_0_1_n_n none
    (truncf .bf16 (concatenate S256x256 1 [⟨S256x128, shapeCast S256x128 e shapeCasts_S1x256x128_S256x128⟩, ⟨S256x128, shapeCast S256x128 d shapeCasts_S1x256x128_S256x128⟩]
      concatenates_S256x128_S256x128_S256x256_d1) bitsLt_bf16_f32) (k0_pay189 (F := Ideal)) (constant S256x256 .f32 0x00000000#32)) bitsLt_bf16_f32

def tableOf (x : FVec Ideal S256x128 .bf16) : FVec Ideal S256x2x128 .bf16 :=
  interleaveRows S256x2x128 (shapeCast S256x1x128 x shapeCasts_S256x128_S256x1x128) (shapeCast S256x1x128 x shapeCasts_S256x128_S256x1x128) bitcasts_S256x2x128_w16_S256x1x128_w32

theorem tableOf_apply (x : FVec Ideal S256x128 .bf16) (n : Fin 256) (p : Fin 2) (l : Fin 128) : tableOf x (ix3 n p l) = x (ix2 n l) := by
  unfold tableOf
  pointwise
  try simp

theorem rowsOf_apply (e d : Vec Ideal S1x256x128 .f32) (y : Vec Ideal S1x512x128 .f32) (he : ∀ (n : Fin 256) l, e (ix3 0 n l) = y (ix3 0 ⟨2 * n.val, by omega⟩ l))
    (hd : ∀ (n : Fin 256) l, d (ix3 0 n l) = y (ix3 0 ⟨2 * n.val + 1, by omega⟩ l)) (n j : Fin 256) :
    rowsOf e d (ix2 n j) = y (ix3 0 ⟨2 * n.val + (chan j).val / 128, by omega⟩ ⟨(chan j).val % 128, by omega⟩) := by
  have h1 : rowsOf e d (ix2 n j) = ∑ k : Fin 256, (if h : k.val < 128 then e (ix3 0 n ⟨k, h⟩) else d (ix3 0 n ⟨k - 128, by omega⟩)) * k0_pay189 (F := Ideal) (ix2 k j) := by
    unfold rowsOf
    pointwise
  rw [h1, sum_perm (fun k => if h : k.val < 128 then e (ix3 0 n ⟨k, h⟩) else d (ix3 0 n ⟨k - 128, by omega⟩))]
  split
  · rename_i h
    rw [he]
    exact congrArg y (by congr 1 <;> exact Fin.ext (by simp only []; omega))
  · rename_i h
    rw [hd]
    exact congrArg y (by congr 1 <;> exact Fin.ext (by simp only []; omega))

theorem rowsOf_low (e d : Vec Ideal S1x256x128 .f32) (y : Vec Ideal S1x512x128 .f32) (he : ∀ (n : Fin 256) l, e (ix3 0 n l) = y (ix3 0 ⟨2 * n.val, by omega⟩ l))
    (hd : ∀ (n : Fin 256) l, d (ix3 0 n l) = y (ix3 0 ⟨2 * n.val + 1, by omega⟩ l)) (n : Fin 256) (l : Fin 128) :
    extractStridedSlice S256x128 ![0, 0] (rowsOf e d) slices_S256x256_o0_0_S256x128 (ix2 n l) = tab y 0 n l := by
  rw [show extractStridedSlice S256x128 ![0, 0] (rowsOf e d) slices_S256x256_o0_0_S256x128 (ix2 n l) = rowsOf e d (ix2 n ⟨l.val, by omega⟩) by pointwise,
    rowsOf_apply e d y he hd]
  have hv : (chan ⟨l.val, by omega⟩).val = 2 * l.val := by unfold chan; rw [dif_pos l.isLt]
  unfold tab
  exact congrArg y (by congr 1 <;> exact Fin.ext (by simp only [hv, Fin.val_zero, Fin.val_one]; omega))

theorem rowsOf_high (e d : Vec Ideal S1x256x128 .f32) (y : Vec Ideal S1x512x128 .f32) (he : ∀ (n : Fin 256) l, e (ix3 0 n l) = y (ix3 0 ⟨2 * n.val, by omega⟩ l))
    (hd : ∀ (n : Fin 256) l, d (ix3 0 n l) = y (ix3 0 ⟨2 * n.val + 1, by omega⟩ l)) (n : Fin 256) (l : Fin 128) :
    extractStridedSlice S256x128 ![0, 128] (rowsOf e d) slices_S256x256_o0_128_S256x128 (ix2 n l) = tab y 1 n l := by
  rw [show extractStridedSlice S256x128 ![0, 128] (rowsOf e d) slices_S256x256_o0_128_S256x128 (ix2 n l) = rowsOf e d (ix2 n ⟨128 + l.val, by omega⟩) by pointwise,
    rowsOf_apply e d y he hd]
  have hv : (chan ⟨128 + l.val, by omega⟩).val = 2 * l.val + 1 := by
    unfold chan; rw [dif_neg (by simp)]; simp
  unfold tab
  exact congrArg y (by congr 1 <;> exact Fin.ext (by simp only [hv, Fin.val_zero, Fin.val_one]; omega))

/-- The even rows of a block's scales, and the odd ones. -/
theorem load_even (v : View sig .tc .vmem S1x512x128 .f32) (X : BufTy.Contents (Elt Ideal) v.ty) (inb) (n : Fin 256) (l : Fin 128) :
    View.readAt (Elt Ideal) v (⟨![0, 0, 0], S1x256x128.size, ![1, 2, 1], inb⟩ : LoadRect S1x512x128) X (ix3 0 n l)
      = v.read (Elt Ideal) X (ix3 0 ⟨2 * n.val, by omega⟩ l) := by
  refine congrArg (v.read (Elt Ideal) X) (funext fun a => Fin.ext ?_)
  match a with
  | ⟨0, _⟩ => rfl
  | ⟨1, _⟩ => show 0 + 2 * n.val = 2 * n.val; omega
  | ⟨2, _⟩ => show 0 + 1 * l.val = l.val; omega

theorem load_odd (v : View sig .tc .vmem S1x512x128 .f32) (X : BufTy.Contents (Elt Ideal) v.ty) (inb) (n : Fin 256) (l : Fin 128) :
    View.readAt (Elt Ideal) v (⟨![0, 1, 0], S1x256x128.size, ![1, 2, 1], inb⟩ : LoadRect S1x512x128) X (ix3 0 n l)
      = v.read (Elt Ideal) X (ix3 0 ⟨2 * n.val + 1, by omega⟩ l) := by
  refine congrArg (v.read (Elt Ideal) X) (funext fun a => Fin.ext ?_)
  match a with
  | ⟨0, _⟩ => rfl
  | ⟨1, _⟩ => show 1 + 2 * n.val = 2 * n.val + 1; omega
  | ⟨2, _⟩ => show 0 + 1 * l.val = l.val; omega

/-- The running maximum after a block. -/
theorem pay215_apply (v64 v65 : Vec Ideal S64x128 .f32) (r : Fin 64) (l : Fin 128) :
    k0_pay215 v64 v65 (ix2 r l) = max (v64 (ix2 r l)) (Finset.univ.sup fun m : Fin 128 => v65 (ix2 r m)) := by
  unfold k0_pay215
  pointwise
  rw [minus_inf]
  rfl

theorem pay216_apply (v64 v65 : Vec Ideal S64x128 .f32) (m M : Fin 64 → EReal) (hm : ∀ r l, v64 (ix2 r l) = m r) (hM : ∀ r l, k0_pay215 v64 v65 (ix2 r l) = M r) (r : Fin 64) (l : Fin 128) :
    k0_pay216 v64 v65 (ix2 r l) = ex (m r - M r) := by
  rw [← exp2_scaled, ← named_c, ← hm r l, ← hM r l]
  unfold k0_pay216
  rfl

theorem pay219_apply (v64 v65 : Vec Ideal S64x128 .f32) (v79 : Vec Ideal S64x256 .f32) (m M : Fin 64 → EReal) (hm : ∀ r l, v64 (ix2 r l) = m r) (hM : ∀ r l, k0_pay215 v64 v65 (ix2 r l) = M r)
    (r : Fin 64) (j : Fin 256) : k0_pay219 v64 v65 v79 (ix2 r j) = v79 (ix2 r j) * ex (m r - M r) := by
  unfold k0_pay219
  pointwise [pay216_apply v64 v65 m M hm hM]
  split <;> rfl

/-- The lanes' maxima together. -/
theorem sup_lanes (f : ℕ → EReal) (k : ℕ) :
    (Finset.univ.sup fun l : Fin 128 => (Finset.range k).sup fun m => f (128 * m + l.val)) = top f (128 * k) := by
  unfold top
  apply le_antisymm
  · refine Finset.sup_le fun l _ => Finset.sup_le fun m hm => ?_
    rw [Finset.mem_range] at hm
    exact Finset.le_sup (f := f) (Finset.mem_range.2 (by have := l.isLt; omega))
  · refine Finset.sup_le fun t ht => ?_
    rw [Finset.mem_range] at ht
    refine le_trans ?_ (Finset.le_sup (f := fun l : Fin 128 => (Finset.range k).sup fun m => f (128 * m + l.val)) (Finset.mem_univ ⟨t % 128, by omega⟩))
    refine le_trans (le_of_eq ?_) (Finset.le_sup (f := fun m => f (128 * m + t % 128)) (Finset.mem_range.2 (show t / 128 < k by omega)))
    show f t = f (128 * (t / 128) + t % 128)
    rw [Nat.div_add_mod]

theorem last_iff (i : grid0.Coords) : Last i ↔ (i 1).val = 7 := by
  obtain ⟨v, hv⟩ : ∃ v : Fin 8, (i 1).val = v.val := ⟨i 1, rfl⟩
  unfold Last; simp only [hv]; clear hv; revert v; decide

theorem first_iff (i : grid0.Coords) : First i ↔ (i 1).val = 0 := by
  obtain ⟨v, hv⟩ : ∃ v : Fin 8, (i 1).val = v.val := ⟨i 1, rfl⟩
  unfold First; simp only [hv]; clear hv; revert v; decide

end Cert.KernelIdeal.Hand

end
-- ==== Proof.PI.Point.lean ====
/-
  What the first and the middle blocks of a batch leave in the buffers that are carried on.
-/
module

public import proofs.«01_k».proof.Proof.PI.Perm
public import proofs.«01_k».proof.Proof.PI.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

theorem pay211_eq (x : FVec Ideal S64x128 .f32) : k0_pay211 x = x := by
  unfold k0_pay211
  exact shapeCast_self _ _

theorem pay3_eq (x : FVec Ideal S64x128 .f32) : k0_pay3 x = x := by
  unfold k0_pay3
  exact shapeCast_self _ _

theorem pay4_eq (x : FVec Ideal S64x256 .f32) : k0_pay4 x = x := by
  unfold k0_pay4
  exact shapeCast_self _ _

theorem pay217_eq (x y : Vec Ideal S64x128 .f32) : k0_pay217 x y = k0_pay215 x y := by
  unfold k0_pay217 k0_pay215
  exact shapeCast_self _ _

set_option maxHeartbeats 400000 in
/-- What a middle block of a batch leaves: the running maximum, the lanes' sums and the accumulator take in its tokens. -/
theorem leavesMiddle (c : Dev nD) (i : grid0.Coords) (hf : ¬First i) (hl : ¬Last i) (y2 : Vec Ideal S1x64x256 .bf16) (y3 : Vec Ideal S1x8192x128 .i8) (y4 : Vec Ideal S1x512x128 .f32) (y5 : Vec Ideal S1x512x128 .f32) (y6 : Vec Ideal S1x8192x128 .i8) (y7 : Vec Ideal S1x8x8192 .f32) (y8 : Vec Ideal S1x8x8192 .f32) (y9 : Vec Ideal S1x128x256 .bf16) (y10 : Vec Ideal S1x128x256 .bf16) (y11 : Vec Ideal S1x4x256 .bf16) (y12 : Vec Ideal S1x4x256 .bf16) (y13 : Vec Ideal S1x64x256 .bf16) (y14 : Vec Ideal S64x256 .bf16) (y21 : Vec Ideal S64x128 .f32) (y22 : Vec Ideal S64x128 .f32) (y23 : Vec Ideal S64x256 .f32)
    (s : Fin 64 → ℕ → EReal) (v : ℕ → Fin 256 → EReal) (m : Fin 64 → EReal)
    (hs : ∀ r (t : Fin 8192), score y14 (keyEntry y3 (tab y4 0) (tab y5 0) (tab y4 1) (tab y5 1)) r t = s r t)
    (hv : ∀ (t : Fin 8192) j, valueEntry y6 y7 y8 t j = v t j) (hm : ∀ r l, y21 (ix2 r l) = m r) :
    LeavesMiddle y2 y3 y4 y5 y6 y7 y8 y9 y10 y11 y12 y13 y14 y21 y22 y23 c i hf hl fun x13 x14 x21 x22 x23 =>
      x14 = y14 ∧ (∀ r l, x21 (ix2 r l) = max (m r) (top (s r) 8192)) ∧
      (∀ r l, x22 (ix2 r l) = y22 (ix2 r l) * ex (m r - max (m r) (top (s r) 8192)) + ∑ k ∈ Finset.range 64, ex (s r (128 * k + l.val) - max (m r) (top (s r) 8192))) ∧
      ∀ r j, x23 (ix2 r j) = y23 (ix2 r j) * ex (m r - max (m r) (top (s r) 8192)) + ∑ t ∈ Finset.range 8192, ex (s r t - max (m r) (top (s r) 8192)) * v t j := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 e2 e3 e4 e5 e6 e7 e8 e9 e10 e11 e12 e13 e14 e21 e22 e23
  subst e2 e3 e4 e5 e6 e7 e8 e9 e10 e11 e12 e13 e14 e21 e22 e23
  have h7 : (i 1).val ≠ 7 := fun h => hl ((last_iff i).2 h)
  have n1 : (k0_t1_loop i).trips = 32 := by rw [trips_t1, if_neg h7]
  have n3 : (k0_t3_loop i).trips = 32 := by rw [trips_t3, if_neg h7]
  have h16 : ∀ n p l, arg16.view.read (Elt Ideal) (arg16.view.writes (Elt Ideal) arg16.view.junk (runMiddle.sl.H16_1 arg4 X4)) (ix3 n p l) = tab (arg4.view.read (Elt Ideal) X4) 0 n l := by
    intro n p l
    unfold runMiddle.sl.H16_1
    rw [View.read_writes_full]
    exact (tableOf_apply _ n p l).trans (rowsOf_low _ _ _ (load_even arg4.view X4 _) (load_odd arg4.view X4 _) n l)
  have h17 : ∀ n p l, arg17.view.read (Elt Ideal) (arg17.view.writes (Elt Ideal) arg17.view.junk (runMiddle.sl.H17_1 arg4 X4)) (ix3 n p l) = tab (arg4.view.read (Elt Ideal) X4) 1 n l := by
    intro n p l
    unfold runMiddle.sl.H17_1
    rw [View.read_writes_full]
    exact (tableOf_apply _ n p l).trans (rowsOf_high _ _ _ (load_even arg4.view X4 _) (load_odd arg4.view X4 _) n l)
  have h18 : ∀ n p l, arg18.view.read (Elt Ideal) (arg18.view.writes (Elt Ideal) arg18.view.junk (runMiddle.sl.H18_1 arg5 X5)) (ix3 n p l) = tab (arg5.view.read (Elt Ideal) X5) 0 n l := by
    intro n p l
    unfold runMiddle.sl.H18_1
    rw [View.read_writes_full]
    exact (tableOf_apply _ n p l).trans (rowsOf_low _ _ _ (load_even arg5.view X5 _) (load_odd arg5.view X5 _) n l)
  have h19 : ∀ n p l, arg19.view.read (Elt Ideal) (arg19.view.writes (Elt Ideal) arg19.view.junk (runMiddle.sl.H19_1 arg5 X5)) (ix3 n p l) = tab (arg5.view.read (Elt Ideal) X5) 1 n l := by
    intro n p l
    unfold runMiddle.sl.H19_1
    rw [View.read_writes_full]
    exact (tableOf_apply _ n p l).trans (rowsOf_high _ _ _ (load_even arg5.view X5 _) (load_odd arg5.view X5 _) n l)
  have hq : runMiddle.sl.r arg14 X14 = arg14.view.read (Elt Ideal) X14 := View.readAt_full arg14.view X14 _
  have hv64 : ∀ r l, arg21.view.readAt (Elt Ideal) (Rect.unit (s := S64x128) ![0, 0] S64x128.size Gen.inb_S64x128_S64x128_0_0).toLoadRect X21 (ix2 r l) = m r := by
    intro r l
    rw [View.readAt_full]
    exact hm r l
  have hs' : ∀ r (t : Fin 8192), t.val < 256 * (k0_t1_loop i).trips → score (runMiddle.sl.r arg14 X14) (keyEntry (arg3.view.read (Elt Ideal) X3) (tab (arg4.view.read (Elt Ideal) X4) 0) (tab (arg5.view.read (Elt Ideal) X5) 0)
    (tab (arg4.view.read (Elt Ideal) X4) 1) (tab (arg5.view.read (Elt Ideal) X5) 1)) r t = s r t := by
    intro r t _
    rw [hq]
    exact hs r t
  have hk := loop1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 _ _ _ _ c i (runMiddle.sl.v0 i) (runMiddle.sl.v13 (F := Ideal)) (runMiddle.sl.v14 i) (runMiddle.sl.r arg14 X14) (runMiddle.sl.v51 (F := Ideal)) 0#32 (runMiddle.sl.v52 i) (tab (arg4.view.read (Elt Ideal) X4) 0) (tab (arg5.view.read (Elt Ideal) X5) 0)
    (tab (arg4.view.read (Elt Ideal) X4) 1) (tab (arg5.view.read (Elt Ideal) X5) 1) s (runMiddle.sl.v51 (F := Ideal)) hs' h16 h18 h17 h19 32 (le_of_eq n1.symm)
  obtain ⟨hw, hmx⟩ := hk
  have hv65 : ∀ r l, (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (ix2 r l) = (Finset.range 64).sup fun m => s r (128 * m + l.val) := by
    intro r l
    unfold runMiddle.sl.v65 runMiddle.sl.H20_1
    rw [View.readCov_full, pay211_eq]
    refine Eq.trans ?_ ((hmx r l).trans ?_)
    · rw [show Scf.trips (k0_t2_loop i).lb (k0_t2_loop i).ub (k0_t2_loop i).st = 0 from trips_t2 i, show Scf.trips (k0_t1_loop i).lb (k0_t1_loop i).ub (k0_t1_loop i).st = 32 from n1]
      rfl
    · rw [show (runMiddle.sl.v51 (F := Ideal)) (ix2 r l) = (⊥ : EReal) from minus_inf]
      exact max_eq_right bot_le
  have hM : ∀ r l, k0_pay215 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (ix2 r l) = (fun r => max (m r) (top (s r) 8192)) r := by
    intro r l
    rw [pay215_apply, hv64]
    simp only [hv65]
    rw [sup_lanes]
  have hst : ∀ r (t : Fin 8192), arg15.view.read (Elt Ideal) (arg15.view.writes (Elt Ideal) X15 ([] ++ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (runMiddle.sl.v0 i) (runMiddle.sl.v13 (F := Ideal)) (runMiddle.sl.v14 i) (runMiddle.sl.r arg14 X14) (runMiddle.sl.v51 (F := Ideal)) 0#32 (runMiddle.sl.v52 i) X3 (arg16.view.writes (Elt Ideal) arg16.view.junk (runMiddle.sl.H16_1 arg4 X4)) (arg17.view.writes (Elt Ideal) arg17.view.junk (runMiddle.sl.H17_1 arg4 X4)) (arg18.view.writes (Elt Ideal) arg18.view.junk (runMiddle.sl.H18_1 arg5 X5)) (arg19.view.writes (Elt Ideal) arg19.view.junk (runMiddle.sl.H19_1 arg5 X5)) (runMiddle.sl.v51 (F := Ideal)) 32).2)) (ix2 r t) = s r t :=
    fun r t => hw X15 r t (by have := t.isLt; omega)
  unfold runMiddle
  dsimp only
  refine ⟨?_, ?_, ?_, ?_⟩
  · rfl
  · intro r l
    unfold runMiddle.sl.H21_1
    rw [View.read_writes_full, pay217_eq]
    exact (hM r l)
  · intro r l
    rw [View.read_writes_full, pay3_eq]
    rw [show Scf.trips (k0_t4_loop i).lb (k0_t4_loop i).ub (k0_t4_loop i).st = 0 from trips_t4 i]
    change (runMiddle.sl.r_2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X14 X15 X21 X22 X23 c i) (ix2 r l) = _
    unfold runMiddle.sl.r_2
    rw [show Scf.trips (k0_t3_loop i).lb (k0_t3_loop i).ub (k0_t3_loop i).st = 32 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runMiddle.sl.v0 i) (runMiddle.sl.v13 (F := Ideal)) (runMiddle.sl.v14 i) (runMiddle.sl.r arg14 X14) (runMiddle.sl.v51 (F := Ideal)) 0#32 (runMiddle.sl.v52 i) (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (fun r => max (m r) (top (s r) 8192)) s v
      (k0_pay218 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg22.view.readAt (Elt Ideal) (Rect.unit (s := S64x128) ![0, 0] S64x128.size Gen.inb_S64x128_S64x128_0_0).toLoadRect X22), k0_pay219 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg23.view.readAt (Elt Ideal) (Rect.unit (s := S64x256) ![0, 0] S64x256.size Gen.inb_S64x256_S64x256_0_0).toLoadRect X23)) hM (fun r t _ => hst r t) (fun t j _ => hv t j) 32 (le_of_eq n3.symm)).1 r l).trans ?_
    show k0_pay218 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg22.view.readAt (Elt Ideal) (Rect.unit (s := S64x128) ![0, 0] S64x128.size Gen.inb_S64x128_S64x128_0_0).toLoadRect X22) (ix2 r l) + ∑ k ∈ Finset.range 64, _ = _
    rw [show k0_pay218 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg22.view.readAt (Elt Ideal) (Rect.unit (s := S64x128) ![0, 0] S64x128.size Gen.inb_S64x128_S64x128_0_0).toLoadRect X22) (ix2 r l) = (arg22.view.readAt (Elt Ideal) (Rect.unit (s := S64x128) ![0, 0] S64x128.size Gen.inb_S64x128_S64x128_0_0).toLoadRect X22) (ix2 r l) * k0_pay216 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (ix2 r l) from rfl, pay216_apply (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) m (fun r => max (m r) (top (s r) 8192)) hv64 hM]
    rw [View.readAt_full] <;> try rfl
  · intro r j
    rw [View.read_writes_full, pay4_eq]
    rw [show Scf.trips (k0_t4_loop i).lb (k0_t4_loop i).ub (k0_t4_loop i).st = 0 from trips_t4 i]
    change (runMiddle.sl.r_3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X14 X15 X21 X22 X23 c i) (ix2 r j) = _
    unfold runMiddle.sl.r_3
    rw [show Scf.trips (k0_t3_loop i).lb (k0_t3_loop i).ub (k0_t3_loop i).st = 32 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runMiddle.sl.v0 i) (runMiddle.sl.v13 (F := Ideal)) (runMiddle.sl.v14 i) (runMiddle.sl.r arg14 X14) (runMiddle.sl.v51 (F := Ideal)) 0#32 (runMiddle.sl.v52 i) (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (fun r => max (m r) (top (s r) 8192)) s v
      (k0_pay218 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg22.view.readAt (Elt Ideal) (Rect.unit (s := S64x128) ![0, 0] S64x128.size Gen.inb_S64x128_S64x128_0_0).toLoadRect X22), k0_pay219 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg23.view.readAt (Elt Ideal) (Rect.unit (s := S64x256) ![0, 0] S64x256.size Gen.inb_S64x256_S64x256_0_0).toLoadRect X23)) hM (fun r t _ => hst r t) (fun t j _ => hv t j) 32 (le_of_eq n3.symm)).2 r j).trans ?_
    show k0_pay219 (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg23.view.readAt (Elt Ideal) (Rect.unit (s := S64x256) ![0, 0] S64x256.size Gen.inb_S64x256_S64x256_0_0).toLoadRect X23) (ix2 r j) + ∑ k ∈ Finset.range 8192, _ = _
    rw [pay219_apply (arg21.view.readAt (Elt Ideal) (Rect.unit (s := S64x128) ![0, 0] S64x128.size Gen.inb_S64x128_S64x128_0_0).toLoadRect X21) (runMiddle.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i) (arg23.view.readAt (Elt Ideal) (Rect.unit (s := S64x256) ![0, 0] S64x256.size Gen.inb_S64x256_S64x256_0_0).toLoadRect X23) m (fun r => max (m r) (top (s r) 8192)) hv64 hM]
    rw [View.readAt_full] <;> try rfl

theorem query_apply (x : Vec Ideal S1x64x256 .bf16) (y : Vec Ideal S1x64x256 .bf16) (h : ∀ r d, x (ix3 0 r d) = y (ix3 0 r d)) (r : Fin 64) (j : Fin 256) :
    k0_pay190 x (ix2 r j) = y (ix3 0 r (chan j)) := by
  rw [← sum_perm (fun d => y (ix3 0 r d)) j]
  unfold k0_pay190
  pointwise [h]

set_option maxHeartbeats 400000 in
/-- What the first block of a batch leaves: the running maximum, the lanes' sums and the accumulator take in its tokens. -/
theorem leavesFirst (c : Dev nD) (i : grid0.Coords) (hf : First i) (hl : ¬Last i) (y2 : Vec Ideal S1x64x256 .bf16) (y3 : Vec Ideal S1x8192x128 .i8) (y4 : Vec Ideal S1x512x128 .f32) (y5 : Vec Ideal S1x512x128 .f32) (y6 : Vec Ideal S1x8192x128 .i8) (y7 : Vec Ideal S1x8x8192 .f32) (y8 : Vec Ideal S1x8x8192 .f32) (y9 : Vec Ideal S1x128x256 .bf16) (y10 : Vec Ideal S1x128x256 .bf16) (y11 : Vec Ideal S1x4x256 .bf16) (y12 : Vec Ideal S1x4x256 .bf16) (y13 : Vec Ideal S1x64x256 .bf16) (y14 : Vec Ideal S64x256 .bf16) (y21 : Vec Ideal S64x128 .f32) (y22 : Vec Ideal S64x128 .f32) (y23 : Vec Ideal S64x256 .f32)
    (s : Fin 64 → ℕ → EReal) (v : ℕ → Fin 256 → EReal)
    (hs : ∀ r (t : Fin 8192), score (fun y => y2 (ix3 0 (y 0) (chan (y 1)))) (keyEntry y3 (tab y4 0) (tab y5 0) (tab y4 1) (tab y5 1)) r t = s r t)
    (hv : ∀ (t : Fin 8192) j, valueEntry y6 y7 y8 t j = v t j) :
    LeavesFirst y2 y3 y4 y5 y6 y7 y8 y9 y10 y11 y12 y13 y14 y21 y22 y23 c i hf hl fun x13 x14 x21 x22 x23 =>
      x14 = (fun y => y2 (ix3 0 (y 0) (chan (y 1)))) ∧ (∀ r l, x21 (ix2 r l) = top (s r) 8192) ∧
      (∀ r l, x22 (ix2 r l) = ∑ k ∈ Finset.range 64, ex (s r (128 * k + l.val) - top (s r) 8192)) ∧
      ∀ r j, x23 (ix2 r j) = ∑ t ∈ Finset.range 8192, ex (s r t - top (s r) 8192) * v t j := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f14 f21 f22 f23 e2 e3 e4 e5 e6 e7 e8 e9 e10 e11 e12 e13 e14 e21 e22 e23
  subst e2 e3 e4 e5 e6 e7 e8 e9 e10 e11 e12 e13 e14 e21 e22 e23
  have h7 : (i 1).val ≠ 7 := fun h => hl ((last_iff i).2 h)
  have n1 : (k0_t1_loop i).trips = 32 := by rw [trips_t1, if_neg h7]
  have n3 : (k0_t3_loop i).trips = 32 := by rw [trips_t3, if_neg h7]
  have h16 : ∀ n p l, arg16.view.read (Elt Ideal) (arg16.view.writes (Elt Ideal) arg16.view.junk (runFirst.sl.H16_1 arg4 X4)) (ix3 n p l) = tab (arg4.view.read (Elt Ideal) X4) 0 n l := by
    intro n p l
    unfold runFirst.sl.H16_1
    rw [View.read_writes_full]
    exact (tableOf_apply _ n p l).trans (rowsOf_low _ _ _ (load_even arg4.view X4 _) (load_odd arg4.view X4 _) n l)
  have h17 : ∀ n p l, arg17.view.read (Elt Ideal) (arg17.view.writes (Elt Ideal) arg17.view.junk (runFirst.sl.H17_1 arg4 X4)) (ix3 n p l) = tab (arg4.view.read (Elt Ideal) X4) 1 n l := by
    intro n p l
    unfold runFirst.sl.H17_1
    rw [View.read_writes_full]
    exact (tableOf_apply _ n p l).trans (rowsOf_high _ _ _ (load_even arg4.view X4 _) (load_odd arg4.view X4 _) n l)
  have h18 : ∀ n p l, arg18.view.read (Elt Ideal) (arg18.view.writes (Elt Ideal) arg18.view.junk (runFirst.sl.H18_1 arg5 X5)) (ix3 n p l) = tab (arg5.view.read (Elt Ideal) X5) 0 n l := by
    intro n p l
    unfold runFirst.sl.H18_1
    rw [View.read_writes_full]
    exact (tableOf_apply _ n p l).trans (rowsOf_low _ _ _ (load_even arg5.view X5 _) (load_odd arg5.view X5 _) n l)
  have h19 : ∀ n p l, arg19.view.read (Elt Ideal) (arg19.view.writes (Elt Ideal) arg19.view.junk (runFirst.sl.H19_1 arg5 X5)) (ix3 n p l) = tab (arg5.view.read (Elt Ideal) X5) 1 n l := by
    intro n p l
    unfold runFirst.sl.H19_1
    rw [View.read_writes_full]
    exact (tableOf_apply _ n p l).trans (rowsOf_high _ _ _ (load_even arg5.view X5 _) (load_odd arg5.view X5 _) n l)
  have hq : runFirst.sl.v18 arg2 arg14 X2 = (fun y => arg2.view.read (Elt Ideal) X2 (ix3 0 (y 0) (chan (y 1)))) := by
    unfold runFirst.sl.v18 runFirst.sl.H14_1
    rw [View.readCov_full]
    funext y
    obtain ⟨r, j, rfl⟩ : ∃ r j, y = ix2 r j := ⟨y 0, y 1, eq_ix2 y⟩
    exact query_apply _ _ (fun r d => congrFun (View.readAt_full (Val := Elt Ideal) arg2.view X2 _) _) r j
  have hv64 : ∀ r l, runFirst.sl.v64 (F := Ideal) arg21 (ix2 r l) = (fun _ : Fin 64 => (⊥ : EReal)) r := by
    intro r l
    unfold runFirst.sl.v64 runFirst.sl.H21_1
    rw [View.readCov_full]
    exact minus_inf
  have hs' : ∀ r (t : Fin 8192), t.val < 256 * (k0_t1_loop i).trips → score (runFirst.sl.v18 arg2 arg14 X2) (keyEntry (arg3.view.read (Elt Ideal) X3) (tab (arg4.view.read (Elt Ideal) X4) 0) (tab (arg5.view.read (Elt Ideal) X5) 0)
    (tab (arg4.view.read (Elt Ideal) X4) 1) (tab (arg5.view.read (Elt Ideal) X5) 1)) r t = s r t := by
    intro r t _
    rw [hq]
    exact hs r t
  have hk := loop1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 _ _ _ _ c i (runFirst.sl.v0 i) (runFirst.sl.v13 (F := Ideal)) (runFirst.sl.v14 i) (runFirst.sl.v18 arg2 arg14 X2) (runFirst.sl.v104 (F := Ideal)) 0#32 (runFirst.sl.v52 i) (tab (arg4.view.read (Elt Ideal) X4) 0) (tab (arg5.view.read (Elt Ideal) X5) 0)
    (tab (arg4.view.read (Elt Ideal) X4) 1) (tab (arg5.view.read (Elt Ideal) X5) 1) s (runFirst.sl.v104 (F := Ideal)) hs' h16 h18 h17 h19 32 (le_of_eq n1.symm)
  obtain ⟨hw, hmx⟩ := hk
  have hv65 : ∀ r l, (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (ix2 r l) = (Finset.range 64).sup fun m => s r (128 * m + l.val) := by
    intro r l
    unfold runFirst.sl.v65 runFirst.sl.H20_1
    rw [View.readCov_full, pay211_eq]
    refine Eq.trans ?_ ((hmx r l).trans ?_)
    · rw [show Scf.trips (k0_t2_loop i).lb (k0_t2_loop i).ub (k0_t2_loop i).st = 0 from trips_t2 i, show Scf.trips (k0_t1_loop i).lb (k0_t1_loop i).ub (k0_t1_loop i).st = 32 from n1]
      rfl
    · rw [show (runFirst.sl.v104 (F := Ideal)) (ix2 r l) = (⊥ : EReal) from minus_inf]
      exact max_eq_right bot_le
  have hM : ∀ r l, k0_pay215 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (ix2 r l) = (fun r => max ((⊥ : EReal)) (top (s r) 8192)) r := by
    intro r l
    rw [pay215_apply, hv64]
    simp only [hv65]
    rw [sup_lanes]
  have hst : ∀ r (t : Fin 8192), arg15.view.read (Elt Ideal) (arg15.view.writes (Elt Ideal) X15 ([] ++ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (runFirst.sl.v0 i) (runFirst.sl.v13 (F := Ideal)) (runFirst.sl.v14 i) (runFirst.sl.v18 arg2 arg14 X2) (runFirst.sl.v104 (F := Ideal)) 0#32 (runFirst.sl.v52 i) X3 (arg16.view.writes (Elt Ideal) arg16.view.junk (runFirst.sl.H16_1 arg4 X4)) (arg17.view.writes (Elt Ideal) arg17.view.junk (runFirst.sl.H17_1 arg4 X4)) (arg18.view.writes (Elt Ideal) arg18.view.junk (runFirst.sl.H18_1 arg5 X5)) (arg19.view.writes (Elt Ideal) arg19.view.junk (runFirst.sl.H19_1 arg5 X5)) (runFirst.sl.v104 (F := Ideal)) 32).2)) (ix2 r t) = s r t :=
    fun r t => hw X15 r t (by have := t.isLt; omega)
  unfold runFirst
  dsimp only
  refine ⟨?_, ?_, ?_, ?_⟩
  · refine Eq.trans ?_ hq; unfold runFirst.sl.v18 runFirst.sl.H14_1; rw [View.readCov_full, View.read_writes_full]
  · intro r l
    skip
    rw [View.read_writes_full, pay217_eq]
    exact (hM r l).trans (max_eq_right bot_le)
  · intro r l
    rw [View.read_writes_full, pay3_eq]
    rw [show Scf.trips (k0_t4_loop i).lb (k0_t4_loop i).ub (k0_t4_loop i).st = 0 from trips_t4 i]
    change (runFirst.sl.r_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X15 c i) (ix2 r l) = _
    unfold runFirst.sl.r_1
    rw [show Scf.trips (k0_t3_loop i).lb (k0_t3_loop i).ub (k0_t3_loop i).st = 32 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runFirst.sl.v0 i) (runFirst.sl.v13 (F := Ideal)) (runFirst.sl.v14 i) (runFirst.sl.v18 arg2 arg14 X2) (runFirst.sl.v104 (F := Ideal)) 0#32 (runFirst.sl.v52 i) (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (fun r => max ((⊥ : EReal)) (top (s r) 8192)) s v
      (k0_pay218 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v77 (F := Ideal) arg22), k0_pay219 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v79 (F := Ideal) arg23)) hM (fun r t _ => hst r t) (fun t j _ => hv t j) 32 (le_of_eq n3.symm)).1 r l).trans ?_
    show k0_pay218 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v77 (F := Ideal) arg22) (ix2 r l) + ∑ k ∈ Finset.range 64, _ = _
    rw [show k0_pay218 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v77 (F := Ideal) arg22) (ix2 r l) = (runFirst.sl.v77 (F := Ideal) arg22) (ix2 r l) * k0_pay216 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (ix2 r l) from rfl, pay216_apply (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (fun _ : Fin 64 => (⊥ : EReal)) (fun r => max ((⊥ : EReal)) (top (s r) 8192)) hv64 hM]
    rw [show (runFirst.sl.v77 (F := Ideal) arg22) (ix2 r l) = 0 by unfold runFirst.sl.v77 runFirst.sl.H22_1; rw [View.readCov_full]; exact Ideal.ofBits_zero_f32, zero_mul, zero_add]
    simp only [max_eq_right bot_le] <;> try rfl
  · intro r j
    rw [View.read_writes_full, pay4_eq]
    rw [show Scf.trips (k0_t4_loop i).lb (k0_t4_loop i).ub (k0_t4_loop i).st = 0 from trips_t4 i]
    change (runFirst.sl.r_2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X15 c i) (ix2 r j) = _
    unfold runFirst.sl.r_2
    rw [show Scf.trips (k0_t3_loop i).lb (k0_t3_loop i).ub (k0_t3_loop i).st = 32 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runFirst.sl.v0 i) (runFirst.sl.v13 (F := Ideal)) (runFirst.sl.v14 i) (runFirst.sl.v18 arg2 arg14 X2) (runFirst.sl.v104 (F := Ideal)) 0#32 (runFirst.sl.v52 i) (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (fun r => max ((⊥ : EReal)) (top (s r) 8192)) s v
      (k0_pay218 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v77 (F := Ideal) arg22), k0_pay219 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v79 (F := Ideal) arg23)) hM (fun r t _ => hst r t) (fun t j _ => hv t j) 32 (le_of_eq n3.symm)).2 r j).trans ?_
    show k0_pay219 (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v79 (F := Ideal) arg23) (ix2 r j) + ∑ k ∈ Finset.range 8192, _ = _
    rw [pay219_apply (runFirst.sl.v64 (F := Ideal) arg21) (runFirst.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 c i) (runFirst.sl.v79 (F := Ideal) arg23) (fun _ : Fin 64 => (⊥ : EReal)) (fun r => max ((⊥ : EReal)) (top (s r) 8192)) hv64 hM]
    rw [show (runFirst.sl.v79 (F := Ideal) arg23) (ix2 r j) = 0 by unfold runFirst.sl.v79 runFirst.sl.H23_1; rw [View.readCov_full]; exact Ideal.ofBits_zero_f32, zero_mul, zero_add]
    simp only [max_eq_right bot_le] <;> try rfl

end Cert.KernelIdeal.Hand
-- ==== Proof.PI.Tail.lean ====
/-
  The tail of a batch's last block: the last cached tokens and those kept at full precision.
-/
module

public import proofs.«01_k».proof.Proof.PI.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

variable (arg2 : Memref sig .tc .vmem S1x64x256 .bf16) (harg2 : arg2.IsWhole)
variable (arg3 : Memref sig .tc .vmem S1x8192x128 .i8) (harg3 : arg3.IsWhole)
variable (arg4 : Memref sig .tc .vmem S1x512x128 .f32) (harg4 : arg4.IsWhole)
variable (arg5 : Memref sig .tc .vmem S1x512x128 .f32) (harg5 : arg5.IsWhole)
variable (arg6 : Memref sig .tc .vmem S1x8192x128 .i8) (harg6 : arg6.IsWhole)
variable (arg7 : Memref sig .tc .vmem S1x8x8192 .f32) (harg7 : arg7.IsWhole)
variable (arg8 : Memref sig .tc .vmem S1x8x8192 .f32) (harg8 : arg8.IsWhole)
variable (arg9 : Memref sig .tc .vmem S1x128x256 .bf16) (harg9 : arg9.IsWhole)
variable (arg10 : Memref sig .tc .vmem S1x128x256 .bf16) (harg10 : arg10.IsWhole)
variable (arg11 : Memref sig .tc .vmem S1x4x256 .bf16) (harg11 : arg11.IsWhole)
variable (arg12 : Memref sig .tc .vmem S1x4x256 .bf16) (harg12 : arg12.IsWhole)
variable (arg13 : Memref sig .tc .vmem S1x64x256 .bf16) (harg13 : arg13.IsWhole)
variable (arg14 : Memref sig .tc .vmem S64x256 .bf16) (harg14 : arg14.IsWhole)
variable (arg15 : Memref sig .tc .vmem S64x8192 .f32) (harg15 : arg15.IsWhole)
variable (arg16 : Memref sig .tc .vmem S256x2x128 .bf16) (harg16 : arg16.IsWhole)
variable (arg17 : Memref sig .tc .vmem S256x2x128 .bf16) (harg17 : arg17.IsWhole)
variable (arg18 : Memref sig .tc .vmem S256x2x128 .bf16) (harg18 : arg18.IsWhole)
variable (arg19 : Memref sig .tc .vmem S256x2x128 .bf16) (harg19 : arg19.IsWhole)
variable (arg20 : Memref sig .tc .vmem S64x128 .f32) (harg20 : arg20.IsWhole)
variable (arg21 : Memref sig .tc .vmem S64x128 .f32) (harg21 : arg21.IsWhole)
variable (arg22 : Memref sig .tc .vmem S64x128 .f32) (harg22 : arg22.IsWhole)
variable (arg23 : Memref sig .tc .vmem S64x256 .f32) (harg23 : arg23.IsWhole)
variable (X2 : BufTy.Contents (Elt Ideal) arg2.view.ty)
variable (X3 : BufTy.Contents (Elt Ideal) arg3.view.ty)
variable (X4 : BufTy.Contents (Elt Ideal) arg4.view.ty)
variable (X5 : BufTy.Contents (Elt Ideal) arg5.view.ty)
variable (X6 : BufTy.Contents (Elt Ideal) arg6.view.ty)
variable (X7 : BufTy.Contents (Elt Ideal) arg7.view.ty)
variable (X8 : BufTy.Contents (Elt Ideal) arg8.view.ty)
variable (X9 : BufTy.Contents (Elt Ideal) arg9.view.ty)
variable (X10 : BufTy.Contents (Elt Ideal) arg10.view.ty)
variable (X11 : BufTy.Contents (Elt Ideal) arg11.view.ty)
variable (X12 : BufTy.Contents (Elt Ideal) arg12.view.ty)
variable (X13 : BufTy.Contents (Elt Ideal) arg13.view.ty)
variable (X14 : BufTy.Contents (Elt Ideal) arg14.view.ty)
variable (X15 : BufTy.Contents (Elt Ideal) arg15.view.ty)
variable (X16 : BufTy.Contents (Elt Ideal) arg16.view.ty)
variable (X17 : BufTy.Contents (Elt Ideal) arg17.view.ty)
variable (X18 : BufTy.Contents (Elt Ideal) arg18.view.ty)
variable (X19 : BufTy.Contents (Elt Ideal) arg19.view.ty)
variable (X20 : BufTy.Contents (Elt Ideal) arg20.view.ty)
variable (X21 : BufTy.Contents (Elt Ideal) arg21.view.ty)
variable (X22 : BufTy.Contents (Elt Ideal) arg22.view.ty)
variable (X23 : BufTy.Contents (Elt Ideal) arg23.view.ty)

variable (c : Dev nD) (i : grid0.Coords)

theorem tailGroup0 : runLast.sl.v132 (F := Ideal) arg3 arg4 arg5 arg16 arg17 arg18 arg19 X3 X4 X5 = groupK (extractStridedSlice S32x128 ![0, 0] (k0_pay61 (F := Ideal) (arg3.view.readAt (Elt Ideal) (Rect.unit (s := S1x8192x128) ![0, 7936, 0] S1x128x128.size Gen.inb_S1x8192x128_S1x128x128_0_7936_0).toLoadRect X3)) slices_S128x128_o0_0_S32x128) (extractStridedSlice S32x128 ![0, 0] (k0_pay62 (F := Ideal) (arg3.view.readAt (Elt Ideal) (Rect.unit (s := S1x8192x128) ![0, 7936, 0] S1x128x128.size Gen.inb_S1x8192x128_S1x128x128_0_7936_0).toLoadRect X3)) slices_S128x128_o0_0_S32x128) (runLast.sl.v111_raw arg4 arg16 X4) (runLast.sl.v116_raw arg5 arg18 X5) (runLast.sl.v122_raw arg4 arg17 X4) (runLast.sl.v127_raw arg5 arg19 X5) := by
  rfl

theorem tailGroup1 : runLast.sl.v155 (F := Ideal) arg3 arg4 arg5 arg16 arg17 arg18 arg19 X3 X4 X5 = groupK (extractStridedSlice S32x128 ![32, 0] (k0_pay61 (F := Ideal) (arg3.view.readAt (Elt Ideal) (Rect.unit (s := S1x8192x128) ![0, 7936, 0] S1x128x128.size Gen.inb_S1x8192x128_S1x128x128_0_7936_0).toLoadRect X3)) slices_S128x128_o32_0_S32x128) (extractStridedSlice S32x128 ![32, 0] (k0_pay62 (F := Ideal) (arg3.view.readAt (Elt Ideal) (Rect.unit (s := S1x8192x128) ![0, 7936, 0] S1x128x128.size Gen.inb_S1x8192x128_S1x128x128_0_7936_0).toLoadRect X3)) slices_S128x128_o32_0_S32x128) (runLast.sl.v134_raw arg4 arg16 X4) (runLast.sl.v139_raw arg5 arg18 X5) (runLast.sl.v145_raw arg4 arg17 X4) (runLast.sl.v150_raw arg5 arg19 X5) := by
  rfl

theorem tailGroup2 : runLast.sl.v178 (F := Ideal) arg3 arg4 arg5 arg16 arg17 arg18 arg19 X3 X4 X5 = groupK (extractStridedSlice S32x128 ![64, 0] (k0_pay61 (F := Ideal) (arg3.view.readAt (Elt Ideal) (Rect.unit (s := S1x8192x128) ![0, 7936, 0] S1x128x128.size Gen.inb_S1x8192x128_S1x128x128_0_7936_0).toLoadRect X3)) slices_S128x128_o64_0_S32x128) (extractStridedSlice S32x128 ![64, 0] (k0_pay62 (F := Ideal) (arg3.view.readAt (Elt Ideal) (Rect.unit (s := S1x8192x128) ![0, 7936, 0] S1x128x128.size Gen.inb_S1x8192x128_S1x128x128_0_7936_0).toLoadRect X3)) slices_S128x128_o64_0_S32x128) (runLast.sl.v157_raw arg4 arg16 X4) (runLast.sl.v162_raw arg5 arg18 X5) (runLast.sl.v168_raw arg4 arg17 X4) (runLast.sl.v173_raw arg5 arg19 X5) := by
  rfl

theorem tailLow : runLast.sl.v189 (F := Ideal) arg3 arg4 arg5 arg16 arg18 X3 X4 X5 = addf (mulf (extractStridedSlice S32x128 ![96, 0] (k0_pay61 (F := Ideal) (arg3.view.readAt (Elt Ideal) (Rect.unit (s := S1x8192x128) ![0, 7936, 0] S1x128x128.size Gen.inb_S1x8192x128_S1x128x128_0_7936_0).toLoadRect X3)) slices_S128x128_o96_0_S32x128) (rowsK (runLast.sl.v180_raw arg4 arg16 X4))) (rowsK (runLast.sl.v185_raw arg5 arg18 X5)) := by
  rfl

theorem tailHigh : runLast.sl.v195 (F := Ideal) arg3 arg4 arg17 X3 X4 = mulf (extractStridedSlice S32x128 ![96, 0] (k0_pay62 (F := Ideal) (arg3.view.readAt (Elt Ideal) (Rect.unit (s := S1x8192x128) ![0, 7936, 0] S1x128x128.size Gen.inb_S1x8192x128_S1x128x128_0_7936_0).toLoadRect X3)) slices_S128x128_o96_0_S32x128) (rowsK (runLast.sl.v191_raw arg4 arg17 X4)) := by
  rfl

theorem tailValues : runLast.sl.v182_1 (F := Ideal) arg6 arg7 arg8 X6 X7 X8 = vTile (k0_pay61 (arg6.view.readAt (Elt Ideal) (Rect.unit (s := S1x8192x128) ![0, 7936, 0] S1x128x128.size Gen.inb_S1x8192x128_S1x128x128_0_7936_0).toLoadRect X6)) (k0_pay62 (arg6.view.readAt (Elt Ideal) (Rect.unit (s := S1x8192x128) ![0, 7936, 0] S1x128x128.size Gen.inb_S1x8192x128_S1x128x128_0_7936_0).toLoadRect X6)) (arg7.view.readAt (Elt Ideal) (Rect.unit (s := S1x8x8192) ![0, 0, 7936] S1x8x128.size Gen.inb_S1x8x8192_S1x8x128_0_0_7936).toLoadRect X7) (arg8.view.readAt (Elt Ideal) (Rect.unit (s := S1x8x8192) ![0, 0, 7936] S1x8x128.size Gen.inb_S1x8x8192_S1x8x128_0_0_7936).toLoadRect X8) := by
  rfl

/-- The last block's tail: the scores of 128 cached tokens and of 128 kept ones. -/
theorem tail212 (v13 : FVec Ideal S256x256 .bf16) (q : FVec Ideal S64x256 .bf16) (a b d : FVec Ideal S32x256 .bf16) (lo hi : FVec Ideal S32x128 .bf16) (sl zl sh zh : Vec Ideal S1x2x128 .bf16) (kt : FVec Ideal S1x128x256 .bf16) :
    k0_pay212 v13 q a b d (addf (mulf lo (rowsK sl)) (rowsK zl)) (mulf hi (rowsK sh)) zh kt
      = matmul dot_S64x256_S256x256_S64x256_1_1_0_0_n_n none q
          (concatenate S256x256 0 [⟨S128x256, concatenate S128x256 0 [⟨S32x256, a⟩, ⟨S32x256, b⟩, ⟨S32x256, d⟩, ⟨S32x256, groupK lo hi sl zl sh zh⟩] concatenates_S32x256_S32x256_S32x256_S32x256_S128x256_d0⟩,
            ⟨S128x256, truncf .bf16 (matmul dot_S128x256_S256x256_S128x256_1_0_0_1_n_n none (shapeCast S128x256 kt shapeCasts_S1x128x256_S128x256) v13 (constant S128x256 .f32 0x00000000#32)) bitsLt_bf16_f32⟩]
            concatenates_S128x256_S128x256_S256x256_d0) (constant S64x256 .f32 0x00000000#32) := by
  unfold k0_pay212
  rfl

/-- 256 rows made of two halves. -/
theorem concat_left (x y : FVec Ideal S128x256 .bf16) (u : Fin 128) (t : Fin 256) (h : t.val = u.val) (j : Fin 256) :
    concatenate S256x256 0 [⟨S128x256, x⟩, ⟨S128x256, y⟩] concatenates_S128x256_S128x256_S256x256_d0 (ix2 t j) = x (ix2 u j) := by
  rw [show t = (⟨u.val, by omega⟩ : Fin 256) from Fin.ext h]
  pointwise

theorem concat_right (x y : FVec Ideal S128x256 .bf16) (u : Fin 128) (t : Fin 256) (h : t.val = 128 + u.val) (j : Fin 256) :
    concatenate S256x256 0 [⟨S128x256, x⟩, ⟨S128x256, y⟩] concatenates_S128x256_S128x256_S256x256_d0 (ix2 t j) = y (ix2 u j) := by
  rw [show t = (⟨128 + u.val, by omega⟩ : Fin 256) from Fin.ext h]
  pointwise

theorem kept_apply (kt : FVec Ideal S1x128x256 .bf16) (u : Fin 128) (j : Fin 256) :
    (truncf .bf16 (matmul dot_S128x256_S256x256_S128x256_1_0_0_1_n_n none (shapeCast S128x256 kt shapeCasts_S1x128x256_S128x256) k0_pay189 (constant S128x256 .f32 0x00000000#32)) bitsLt_bf16_f32 : FVec Ideal S128x256 .bf16) (ix2 u j)
      = kt (ix3 0 u (chan j)) := by
  rw [← sum_perm (fun d => kt (ix3 0 u d)) j]
  generalize k0_pay189 (F := Ideal) = perm
  pointwise

theorem dot_apply (q : FVec Ideal S64x256 .bf16) (k : FVec Ideal S256x256 .bf16) (r : Fin 64) (t : Fin 256) :
    matmul dot_S64x256_S256x256_S64x256_1_1_0_0_n_n none q k (constant S64x256 .f32 0x00000000#32) (ix2 r t) = ∑ j : Fin 256, q (ix2 r j) * k (ix2 t j) := by
  pointwise

/-- The stored pair of rows of a group. -/
theorem tail_pair (v : View sig .tc .vmem S256x2x128 .bf16) (X : BufTy.Contents (Elt Ideal) v.ty) (n : Fin 256) (o : ℕ) (ho : o = n.val) (inb) (p : Fin 2) (l : Fin 128) :
    v.readAt (Elt Ideal) (Rect.unit (s := S256x2x128) ![o, 0, 0] S1x2x128.size inb).toLoadRect X (ix3 0 p l) = v.read (Elt Ideal) X (ix3 n p l) := by
  subst ho
  refine congrArg (v.read (Elt Ideal) X) (funext fun a => Fin.ext ?_)
  match a with
  | ⟨0, _⟩ => show n.val + 1 * 0 = n.val; omega
  | ⟨1, _⟩ => show 0 + 1 * p.val = p.val; omega
  | ⟨2, _⟩ => show 0 + 1 * l.val = l.val; omega

theorem tail_codes (v : View sig .tc .vmem S1x8192x128 .i8) (X : BufTy.Contents (Elt Ideal) v.ty) (inb) (t : Fin 128) (l : Fin 128) :
    v.readAt (Elt Ideal) (Rect.unit (s := S1x8192x128) ![0, 7936, 0] S1x128x128.size inb).toLoadRect X (ix3 0 t l) = v.read (Elt Ideal) X (ix3 0 ⟨7936 + t.val, by omega⟩ l) := by
  refine congrArg (v.read (Elt Ideal) X) (funext fun a => Fin.ext ?_)
  match a with
  | ⟨0, _⟩ => rfl
  | ⟨1, _⟩ => show 7936 + 1 * t.val = 7936 + t.val; omega
  | ⟨2, _⟩ => show 0 + 1 * l.val = l.val; omega

theorem tail_rows (v : View sig .tc .vmem S1x8x8192 .f32) (X : BufTy.Contents (Elt Ideal) v.ty) (inb) (g : Fin 8) (t : Fin 128) :
    v.readAt (Elt Ideal) (Rect.unit (s := S1x8x8192) ![0, 0, 7936] S1x8x128.size inb).toLoadRect X (ix3 0 g t) = v.read (Elt Ideal) X (ix3 0 g ⟨7936 + t.val, by omega⟩) := by
  refine congrArg (v.read (Elt Ideal) X) (funext fun a => Fin.ext ?_)
  match a with
  | ⟨0, _⟩ => rfl
  | ⟨1, _⟩ => show 0 + 1 * g.val = g.val; omega
  | ⟨2, _⟩ => show 7936 + 1 * t.val = 7936 + t.val; omega

set_option maxHeartbeats 1000000 in
/-- The tail's scores: of the last cached tokens of the block, then of the kept ones. -/
theorem tail212_apply (s : Fin 64 → ℕ → EReal)
    (hs : ∀ r (t : Fin 8192), t.val < 8064 → score (arg14.view.read (Elt Ideal) X14) (keyEntry (arg3.view.read (Elt Ideal) X3) (tab (arg4.view.read (Elt Ideal) X4) 0) (tab (arg5.view.read (Elt Ideal) X5) 0)
      (tab (arg4.view.read (Elt Ideal) X4) 1) (tab (arg5.view.read (Elt Ideal) X5) 1)) r t = s r t)
    (hkt : ∀ r (t : Fin 128), ∑ j : Fin 256, arg14.view.read (Elt Ideal) X14 (ix2 r j) * arg9.view.read (Elt Ideal) X9 (ix3 0 t (chan j)) = s r (8064 + t.val))
    (r : Fin 64) (t : Fin 256) :
    k0_pay212 (runLast.sl.v13 (F := Ideal)) (runLast.sl.r arg14 X14) (runLast.sl.v132 arg3 arg4 arg5 arg16 arg17 arg18 arg19 X3 X4 X5) (runLast.sl.v155 arg3 arg4 arg5 arg16 arg17 arg18 arg19 X3 X4 X5) (runLast.sl.v178 arg3 arg4 arg5 arg16 arg17 arg18 arg19 X3 X4 X5) (runLast.sl.v189 arg3 arg4 arg5 arg16 arg18 X3 X4 X5) (runLast.sl.v195 arg3 arg4 arg17 X3 X4) (runLast.sl.v196_raw arg5 arg19 X5) (arg9.view.readAt (Elt Ideal) (Rect.unit (s := S1x128x256) ![0, 0, 0] S1x128x256.size Gen.inb_S1x128x256_S1x128x256_0_0_0).toLoadRect X9) (ix2 r t) = s r (7936 + t.val) := by
  have h16 : ∀ n p l, arg16.view.read (Elt Ideal) (arg16.view.writes (Elt Ideal) arg16.view.junk (runLast.sl.H16_1 arg4 X4)) (ix3 n p l) = tab (arg4.view.read (Elt Ideal) X4) 0 n l := by
    intro n p l
    unfold runLast.sl.H16_1
    rw [View.read_writes_full]
    exact (tableOf_apply _ n p l).trans (rowsOf_low _ _ _ (load_even arg4.view X4 _) (load_odd arg4.view X4 _) n l)
  have h17 : ∀ n p l, arg17.view.read (Elt Ideal) (arg17.view.writes (Elt Ideal) arg17.view.junk (runLast.sl.H17_1 arg4 X4)) (ix3 n p l) = tab (arg4.view.read (Elt Ideal) X4) 1 n l := by
    intro n p l
    unfold runLast.sl.H17_1
    rw [View.read_writes_full]
    exact (tableOf_apply _ n p l).trans (rowsOf_high _ _ _ (load_even arg4.view X4 _) (load_odd arg4.view X4 _) n l)
  have h18 : ∀ n p l, arg18.view.read (Elt Ideal) (arg18.view.writes (Elt Ideal) arg18.view.junk (runLast.sl.H18_1 arg5 X5)) (ix3 n p l) = tab (arg5.view.read (Elt Ideal) X5) 0 n l := by
    intro n p l
    unfold runLast.sl.H18_1
    rw [View.read_writes_full]
    exact (tableOf_apply _ n p l).trans (rowsOf_low _ _ _ (load_even arg5.view X5 _) (load_odd arg5.view X5 _) n l)
  have h19 : ∀ n p l, arg19.view.read (Elt Ideal) (arg19.view.writes (Elt Ideal) arg19.view.junk (runLast.sl.H19_1 arg5 X5)) (ix3 n p l) = tab (arg5.view.read (Elt Ideal) X5) 1 n l := by
    intro n p l
    unfold runLast.sl.H19_1
    rw [View.read_writes_full]
    exact (tableOf_apply _ n p l).trans (rowsOf_high _ _ _ (load_even arg5.view X5 _) (load_odd arg5.view X5 _) n l)
  have g1 : ∀ (g : Fin 4) p l, ![(runLast.sl.v111_raw arg4 arg16 X4), (runLast.sl.v134_raw arg4 arg16 X4), (runLast.sl.v157_raw arg4 arg16 X4), (runLast.sl.v180_raw arg4 arg16 X4)] g (ix3 0 p l) = tab (arg4.view.read (Elt Ideal) X4) 0 ⟨248 + g.val, by omega⟩ l := by
    intro g p l
    match g with
    | ⟨0, _⟩ =>
      show (runLast.sl.v111_raw arg4 arg16 X4) (ix3 0 p l) = _
      unfold runLast.sl.v111_raw
      exact (tail_pair arg16.view (arg16.view.writes (Elt Ideal) arg16.view.junk (runLast.sl.H16_1 arg4 X4)) ⟨248, by omega⟩ 248 rfl _ p l).trans (h16 _ p l)
    | ⟨1, _⟩ =>
      show (runLast.sl.v134_raw arg4 arg16 X4) (ix3 0 p l) = _
      unfold runLast.sl.v134_raw
      exact (tail_pair arg16.view (arg16.view.writes (Elt Ideal) arg16.view.junk (runLast.sl.H16_1 arg4 X4)) ⟨249, by omega⟩ 249 rfl _ p l).trans (h16 _ p l)
    | ⟨2, _⟩ =>
      show (runLast.sl.v157_raw arg4 arg16 X4) (ix3 0 p l) = _
      unfold runLast.sl.v157_raw
      exact (tail_pair arg16.view (arg16.view.writes (Elt Ideal) arg16.view.junk (runLast.sl.H16_1 arg4 X4)) ⟨250, by omega⟩ 250 rfl _ p l).trans (h16 _ p l)
    | ⟨3, _⟩ =>
      show (runLast.sl.v180_raw arg4 arg16 X4) (ix3 0 p l) = _
      unfold runLast.sl.v180_raw
      exact (tail_pair arg16.view (arg16.view.writes (Elt Ideal) arg16.view.junk (runLast.sl.H16_1 arg4 X4)) ⟨251, by omega⟩ 251 rfl _ p l).trans (h16 _ p l)
  have g2 : ∀ (g : Fin 4) p l, ![(runLast.sl.v116_raw arg5 arg18 X5), (runLast.sl.v139_raw arg5 arg18 X5), (runLast.sl.v162_raw arg5 arg18 X5), (runLast.sl.v185_raw arg5 arg18 X5)] g (ix3 0 p l) = tab (arg5.view.read (Elt Ideal) X5) 0 ⟨248 + g.val, by omega⟩ l := by
    intro g p l
    match g with
    | ⟨0, _⟩ =>
      show (runLast.sl.v116_raw arg5 arg18 X5) (ix3 0 p l) = _
      unfold runLast.sl.v116_raw
      exact (tail_pair arg18.view (arg18.view.writes (Elt Ideal) arg18.view.junk (runLast.sl.H18_1 arg5 X5)) ⟨248, by omega⟩ 248 rfl _ p l).trans (h18 _ p l)
    | ⟨1, _⟩ =>
      show (runLast.sl.v139_raw arg5 arg18 X5) (ix3 0 p l) = _
      unfold runLast.sl.v139_raw
      exact (tail_pair arg18.view (arg18.view.writes (Elt Ideal) arg18.view.junk (runLast.sl.H18_1 arg5 X5)) ⟨249, by omega⟩ 249 rfl _ p l).trans (h18 _ p l)
    | ⟨2, _⟩ =>
      show (runLast.sl.v162_raw arg5 arg18 X5) (ix3 0 p l) = _
      unfold runLast.sl.v162_raw
      exact (tail_pair arg18.view (arg18.view.writes (Elt Ideal) arg18.view.junk (runLast.sl.H18_1 arg5 X5)) ⟨250, by omega⟩ 250 rfl _ p l).trans (h18 _ p l)
    | ⟨3, _⟩ =>
      show (runLast.sl.v185_raw arg5 arg18 X5) (ix3 0 p l) = _
      unfold runLast.sl.v185_raw
      exact (tail_pair arg18.view (arg18.view.writes (Elt Ideal) arg18.view.junk (runLast.sl.H18_1 arg5 X5)) ⟨251, by omega⟩ 251 rfl _ p l).trans (h18 _ p l)
  have g3 : ∀ (g : Fin 4) p l, ![(runLast.sl.v122_raw arg4 arg17 X4), (runLast.sl.v145_raw arg4 arg17 X4), (runLast.sl.v168_raw arg4 arg17 X4), (runLast.sl.v191_raw arg4 arg17 X4)] g (ix3 0 p l) = tab (arg4.view.read (Elt Ideal) X4) 1 ⟨248 + g.val, by omega⟩ l := by
    intro g p l
    match g with
    | ⟨0, _⟩ =>
      show (runLast.sl.v122_raw arg4 arg17 X4) (ix3 0 p l) = _
      unfold runLast.sl.v122_raw
      exact (tail_pair arg17.view (arg17.view.writes (Elt Ideal) arg17.view.junk (runLast.sl.H17_1 arg4 X4)) ⟨248, by omega⟩ 248 rfl _ p l).trans (h17 _ p l)
    | ⟨1, _⟩ =>
      show (runLast.sl.v145_raw arg4 arg17 X4) (ix3 0 p l) = _
      unfold runLast.sl.v145_raw
      exact (tail_pair arg17.view (arg17.view.writes (Elt Ideal) arg17.view.junk (runLast.sl.H17_1 arg4 X4)) ⟨249, by omega⟩ 249 rfl _ p l).trans (h17 _ p l)
    | ⟨2, _⟩ =>
      show (runLast.sl.v168_raw arg4 arg17 X4) (ix3 0 p l) = _
      unfold runLast.sl.v168_raw
      exact (tail_pair arg17.view (arg17.view.writes (Elt Ideal) arg17.view.junk (runLast.sl.H17_1 arg4 X4)) ⟨250, by omega⟩ 250 rfl _ p l).trans (h17 _ p l)
    | ⟨3, _⟩ =>
      show (runLast.sl.v191_raw arg4 arg17 X4) (ix3 0 p l) = _
      unfold runLast.sl.v191_raw
      exact (tail_pair arg17.view (arg17.view.writes (Elt Ideal) arg17.view.junk (runLast.sl.H17_1 arg4 X4)) ⟨251, by omega⟩ 251 rfl _ p l).trans (h17 _ p l)
  have g4 : ∀ (g : Fin 4) p l, ![(runLast.sl.v127_raw arg5 arg19 X5), (runLast.sl.v150_raw arg5 arg19 X5), (runLast.sl.v173_raw arg5 arg19 X5), (runLast.sl.v196_raw arg5 arg19 X5)] g (ix3 0 p l) = tab (arg5.view.read (Elt Ideal) X5) 1 ⟨248 + g.val, by omega⟩ l := by
    intro g p l
    match g with
    | ⟨0, _⟩ =>
      show (runLast.sl.v127_raw arg5 arg19 X5) (ix3 0 p l) = _
      unfold runLast.sl.v127_raw
      exact (tail_pair arg19.view (arg19.view.writes (Elt Ideal) arg19.view.junk (runLast.sl.H19_1 arg5 X5)) ⟨248, by omega⟩ 248 rfl _ p l).trans (h19 _ p l)
    | ⟨1, _⟩ =>
      show (runLast.sl.v150_raw arg5 arg19 X5) (ix3 0 p l) = _
      unfold runLast.sl.v150_raw
      exact (tail_pair arg19.view (arg19.view.writes (Elt Ideal) arg19.view.junk (runLast.sl.H19_1 arg5 X5)) ⟨249, by omega⟩ 249 rfl _ p l).trans (h19 _ p l)
    | ⟨2, _⟩ =>
      show (runLast.sl.v173_raw arg5 arg19 X5) (ix3 0 p l) = _
      unfold runLast.sl.v173_raw
      exact (tail_pair arg19.view (arg19.view.writes (Elt Ideal) arg19.view.junk (runLast.sl.H19_1 arg5 X5)) ⟨250, by omega⟩ 250 rfl _ p l).trans (h19 _ p l)
    | ⟨3, _⟩ =>
      show (runLast.sl.v196_raw arg5 arg19 X5) (ix3 0 p l) = _
      unfold runLast.sl.v196_raw
      exact (tail_pair arg19.view (arg19.view.writes (Elt Ideal) arg19.view.junk (runLast.sl.H19_1 arg5 X5)) ⟨251, by omega⟩ 251 rfl _ p l).trans (h19 _ p l)
  rw [tailGroup0, tailGroup1, tailGroup2, tailLow, tailHigh, tail212]
  rw [show runLast.sl.r arg14 X14 = arg14.view.read (Elt Ideal) X14 from View.readAt_full arg14.view X14 _, View.readAt_full]
  have hk : ∀ (u : Fin 128) (j : Fin 256), kHalf (k0_pay61 (F := Ideal) (arg3.view.readAt (Elt Ideal) (Rect.unit (s := S1x8192x128) ![0, 7936, 0] S1x128x128.size Gen.inb_S1x8192x128_S1x128x128_0_7936_0).toLoadRect X3)) (k0_pay62 (F := Ideal) (arg3.view.readAt (Elt Ideal) (Rect.unit (s := S1x8192x128) ![0, 7936, 0] S1x128x128.size Gen.inb_S1x8192x128_S1x128x128_0_7936_0).toLoadRect X3)) ![(runLast.sl.v111_raw arg4 arg16 X4), (runLast.sl.v134_raw arg4 arg16 X4), (runLast.sl.v157_raw arg4 arg16 X4), (runLast.sl.v180_raw arg4 arg16 X4)] ![(runLast.sl.v116_raw arg5 arg18 X5), (runLast.sl.v139_raw arg5 arg18 X5), (runLast.sl.v162_raw arg5 arg18 X5), (runLast.sl.v185_raw arg5 arg18 X5)] ![(runLast.sl.v122_raw arg4 arg17 X4), (runLast.sl.v145_raw arg4 arg17 X4), (runLast.sl.v168_raw arg4 arg17 X4), (runLast.sl.v191_raw arg4 arg17 X4)] ![(runLast.sl.v127_raw arg5 arg19 X5), (runLast.sl.v150_raw arg5 arg19 X5), (runLast.sl.v173_raw arg5 arg19 X5), (runLast.sl.v196_raw arg5 arg19 X5)] (ix2 u j)
      = keyEntry (arg3.view.read (Elt Ideal) X3) (tab (arg4.view.read (Elt Ideal) X4) 0) (tab (arg5.view.read (Elt Ideal) X5) 0)
      (tab (arg4.view.read (Elt Ideal) X4) 1) (tab (arg5.view.read (Elt Ideal) X5) 1) ⟨7936 + u.val, by omega⟩ j := by
    intro u j
    rw [kHalf_apply _ _ _ _ _ _ _ _ _ _ g1 g2 g3 g4]
    unfold keyEntry
    have hg : (⟨248 + u.val / 32, by omega⟩ : Fin 256) = ⟨(7936 + u.val) / 32, by omega⟩ := Fin.ext (by simp only []; omega)
    rw [show (fun l => k0_pay61 (F := Ideal) (arg3.view.readAt (Elt Ideal) (Rect.unit (s := S1x8192x128) ![0, 7936, 0] S1x128x128.size Gen.inb_S1x8192x128_S1x128x128_0_7936_0).toLoadRect X3) (ix2 u l)) = fun l => lowHalf (arg3.view.read (Elt Ideal) X3 (ix3 0 ⟨7936 + u.val, by omega⟩ l)) from
        funext fun l => (low128_apply _ u l).trans (congrArg lowHalf (tail_codes arg3.view X3 _ u l)),
      show (fun l => k0_pay62 (F := Ideal) (arg3.view.readAt (Elt Ideal) (Rect.unit (s := S1x8192x128) ![0, 7936, 0] S1x128x128.size Gen.inb_S1x8192x128_S1x128x128_0_7936_0).toLoadRect X3) (ix2 u l)) = fun l => highHalf (arg3.view.read (Elt Ideal) X3 (ix3 0 ⟨7936 + u.val, by omega⟩ l)) from
        funext fun l => (high128_apply _ u l).trans (congrArg highHalf (tail_codes arg3.view X3 _ u l))]
    simp only [hg]
  have hl : ∀ (u : Fin 128) (j : Fin 256), _ = arg9.view.read (Elt Ideal) X9 (ix3 0 u (chan j)) := fun u j => kept_apply (arg9.view.read (Elt Ideal) X9) u j
  by_cases ht : t.val < 128
  · refine Eq.trans ?_ (hs r ⟨7936 + t.val, by omega⟩ (by simp only []; omega))
    unfold score
    simp only [← hk ⟨t.val, ht⟩]
    refine (dot_apply _ _ r t).trans (Finset.sum_congr rfl fun j _ => congrArg _ ?_)
    exact concat_left _ _ ⟨t.val, ht⟩ t rfl j
  · have e : s r (7936 + t.val) = s r (8064 + (⟨t.val - 128, by omega⟩ : Fin 128).val) := congrArg (s r) (by simp only []; omega)
    rw [e, ← hkt]
    simp only [← hl]
    refine (dot_apply _ _ r t).trans (Finset.sum_congr rfl fun j _ => congrArg _ ?_)
    exact concat_right _ _ ⟨t.val - 128, by omega⟩ t (by simp only []; omega) j

end Cert.KernelIdeal.Hand
-- ==== Proof.PI.Final.lean ====
/-
  The last step of a batch: the new tokens and the quotient.
-/
module

public import proofs.«01_k».proof.Proof.PI.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

theorem pay213_eq (v13 : FVec Ideal S256x256 .bf16) (q : Vec Ideal S64x256 .bf16) (a b d : FVec Ideal S32x256 .bf16) (lo hi : FVec Ideal S32x128 .bf16) (zh : Vec Ideal S1x2x128 .bf16) (kt : Vec Ideal S1x128x256 .bf16) :
    k0_pay213 v13 q a b d lo hi zh kt = k0_pay212 v13 q a b d lo hi zh kt := by
  unfold k0_pay213
  exact shapeCast_self _ _

theorem pay214_apply (v13 : FVec Ideal S256x256 .bf16) (q : Vec Ideal S64x256 .bf16) (a b d : FVec Ideal S32x256 .bf16) (lo hi : FVec Ideal S32x128 .bf16) (zh : Vec Ideal S1x2x128 .bf16) (kt : Vec Ideal S1x128x256 .bf16)
    (x : Vec Ideal S64x128 .f32) (r : Fin 64) (l : Fin 128) :
    k0_pay214 v13 q a b d lo hi zh kt x (ix2 r l)
      = max (x (ix2 r l)) (max (k0_pay212 v13 q a b d lo hi zh kt (ix2 r ⟨l.val, by omega⟩)) (k0_pay212 v13 q a b d lo hi zh kt (ix2 r ⟨128 + l.val, by omega⟩))) := by
  unfold k0_pay214
  generalize k0_pay212 v13 q a b d lo hi zh kt = w
  pointwise

/-- A load of the tail's columns, just stored. -/
theorem read_tail (v : View sig .tc .vmem S64x8192 .f32) (f : BufTy.Contents (Elt Ideal) v.ty) (inb inb') (w : FVec Ideal S64x256 .f32) (L) (r : Fin 64) (t : Fin 256) :
    v.readAt (Elt Ideal) (Rect.unit (s := S64x8192) ![0, 7936] S64x256.size inb).toLoadRect
      (v.writes (Elt Ideal) f (⟨Rect.unit (s := S64x8192) ![0, 7936] S64x256.size inb', w⟩ :: L)) (ix2 r t) = w (ix2 r t) := by
  refine View.read_writes_cons_unit_of_mem v f inb' w L _ (ix2 r t) rfl ?_
  intro a
  match a with
  | ⟨0, _⟩ => show 0 + 1 * r.val = 0 + r.val; omega
  | ⟨1, _⟩ => show 7936 + 1 * t.val = 7936 + t.val; omega

/-- The columns before the tail are as they were. -/
theorem read_before (v : View sig .tc .vmem S64x8192 .f32) (f : BufTy.Contents (Elt Ideal) v.ty) (inb') (w : FVec Ideal S64x256 .f32) (L) (r : Fin 64) (t : Fin 8192) (ht : t.val < 7936) :
    v.read (Elt Ideal) (v.writes (Elt Ideal) f (⟨Rect.unit (s := S64x8192) ![0, 7936] S64x256.size inb', w⟩ :: L)) (ix2 r t)
      = v.read (Elt Ideal) (v.writes (Elt Ideal) f L) (ix2 r t) :=
  View.read_writes_cons_unit_of_not_mem v f inb' w L _ rfl 1 (Or.inl ht)

theorem pay159_apply (m : FVec Ideal S64x128 .f32) (sc : Vec Ideal S64x256 .f32) (M : Fin 64 → EReal) (hm : ∀ r l, m (ix2 r l) = M r) (r : Fin 64) (t : Fin 256) :
    k0_pay159 m sc (ix2 r t) = ex (sc (ix2 r t) - M r) := by
  unfold k0_pay159
  exact pay73_apply m sc M hm r t

/-- The new tokens' part of the sum and the weighted sum, and the quotient in the channels' order. -/
theorem pay5_apply (acc : FVec Ideal S64x256 .f32) (sum : FVec Ideal S64x1 .f32) (sc : FVec Ideal S64x4 .f32) (m : FVec Ideal S64x1 .f32) (mx : FVec Ideal S64 .f32) (vd : Vec Ideal S1x4x256 .bf16)
    (M M' : Fin 64 → EReal) (hm : ∀ r, m (ix2 r 0) = M r) (hM : ∀ r, max (M r) (mx (ix1 r)) = M' r) (r : Fin 64) (d : Fin 256) :
    k0_pay5 k0_pay189 acc sum sc m mx vd (ix3 0 r d)
      = Ideal.div (acc (ix2 r (slot d)) * ex (M r - M' r) + ∑ k : Fin 4, ex (sc (ix2 r k) - M' r) * vd (ix3 0 k (slot d)))
          (sum (ix2 r 0) * ex (M r - M' r) + ∑ k : Fin 4, ex (sc (ix2 r k) - M' r)) := by
  rw [← sum_perm' (fun j => Ideal.div (acc (ix2 r j) * ex (M r - M' r) + ∑ k : Fin 4, ex (sc (ix2 r k) - M' r) * vd (ix3 0 k j))
          (sum (ix2 r 0) * ex (M r - M' r) + ∑ k : Fin 4, ex (sc (ix2 r k) - M' r))) d]
  simp only [← exp2_scaled, ← named_c, ← hM, ← hm]
  unfold k0_pay5
  generalize k0_pay189 (F := Ideal) = perm
  pointwise
  rfl

end Cert.KernelIdeal.Hand
-- ==== Proof.PI.Arrays.lean ====
/-
  What the windows' blocks hold, of the arrays as launched.
-/
module

public import proofs.«01_k».proof.Proof.PI.Final
public import Idealize.ShloMosaic.Lib.Pipeline.ValueKit.Point
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

variable (m : (ℓ : Loc nD τ sig) → Buf (Elt Ideal) ℓ) (c : Dev nD)

/-- The grid's two coordinates at a point. -/
theorem coords_val : ∀ t : Fin cfg0.N, (grid0.coords t 0).val = t.val / 8 ∧ (grid0.coords t 1).val = t.val % 8 := by decide +kernel

theorem point_lt (t : Fin cfg0.N) : t.val < 512 := lt_of_lt_of_eq t.isLt N_0

theorem coord_0 (t : Fin cfg0.N) : (grid0.coords t 0).val % 2 ^ 32 = t.val / 8 := by
  rw [(coords_val t).1]; have := point_lt t; omega

theorem coord_1 (t : Fin cfg0.N) : (grid0.coords t 1).val % 2 ^ 32 = t.val % 8 := by
  rw [(coords_val t).2]; omega

/-- An entry of a block that lies inside the array is moved. -/
theorem inside {ix k d j : ℕ} (h1 : j < k) (h2 : ix * k + j < d) : j < (Pipeline.Clip.of ix k d).extent k := by
  unfold Pipeline.Clip.of
  split
  · exact h1
  · show j < d - ix * k
    omega

/-- Each window's block index at a point. -/
theorem index_0 (t : Fin cfg0.N) : win0_0.index t = ![t.val / 8, 0, 0] :=
  (show win0_0.index t = ![(grid0.coords t 0).val % 2 ^ 32, 0, 0] from rfl).trans (by rw [coord_0])
theorem index_1 (t : Fin cfg0.N) : win0_1.index t = ![t.val / 8, t.val % 8, 0] :=
  (show win0_1.index t = ![(grid0.coords t 0).val % 2 ^ 32, (grid0.coords t 1).val % 2 ^ 32, 0] from rfl).trans (by rw [coord_0, coord_1])
theorem index_2 (t : Fin cfg0.N) : win0_2.index t = ![t.val / 8, t.val % 8, 0] :=
  (show win0_2.index t = ![(grid0.coords t 0).val % 2 ^ 32, (grid0.coords t 1).val % 2 ^ 32, 0] from rfl).trans (by rw [coord_0, coord_1])
theorem index_3 (t : Fin cfg0.N) : win0_3.index t = ![t.val / 8, t.val % 8, 0] :=
  (show win0_3.index t = ![(grid0.coords t 0).val % 2 ^ 32, (grid0.coords t 1).val % 2 ^ 32, 0] from rfl).trans (by rw [coord_0, coord_1])
theorem index_4 (t : Fin cfg0.N) : win0_4.index t = ![t.val / 8, t.val % 8, 0] :=
  (show win0_4.index t = ![(grid0.coords t 0).val % 2 ^ 32, (grid0.coords t 1).val % 2 ^ 32, 0] from rfl).trans (by rw [coord_0, coord_1])
theorem index_5 (t : Fin cfg0.N) : win0_5.index t = ![t.val / 8, 0, t.val % 8] :=
  (show win0_5.index t = ![(grid0.coords t 0).val % 2 ^ 32, 0, (grid0.coords t 1).val % 2 ^ 32] from rfl).trans (by rw [coord_0, coord_1])
theorem index_6 (t : Fin cfg0.N) : win0_6.index t = ![t.val / 8, 0, t.val % 8] :=
  (show win0_6.index t = ![(grid0.coords t 0).val % 2 ^ 32, 0, (grid0.coords t 1).val % 2 ^ 32] from rfl).trans (by rw [coord_0, coord_1])
theorem index_7 (t : Fin cfg0.N) : win0_7.index t = ![t.val / 8, 0, 0] :=
  (show win0_7.index t = ![(grid0.coords t 0).val % 2 ^ 32, 0, 0] from rfl).trans (by rw [coord_0])
theorem index_8 (t : Fin cfg0.N) : win0_8.index t = ![t.val / 8, 0, 0] :=
  (show win0_8.index t = ![(grid0.coords t 0).val % 2 ^ 32, 0, 0] from rfl).trans (by rw [coord_0])
theorem index_9 (t : Fin cfg0.N) : win0_9.index t = ![t.val / 8, 0, 0] :=
  (show win0_9.index t = ![(grid0.coords t 0).val % 2 ^ 32, 0, 0] from rfl).trans (by rw [coord_0])
theorem index_10 (t : Fin cfg0.N) : win0_10.index t = ![t.val / 8, 0, 0] :=
  (show win0_10.index t = ![(grid0.coords t 0).val % 2 ^ 32, 0, 0] from rfl).trans (by rw [coord_0])
theorem index_11 (t : Fin cfg0.N) : win0_11.index t = ![t.val / 8, 0, 0] :=
  (show win0_11.index t = ![(grid0.coords t 0).val % 2 ^ 32, 0, 0] from rfl).trans (by rw [coord_0])

variable {m c} {S : Says Ideal}

/-! ## What the body finds -/

theorem found_0 {t : Fin cfg0.N} {Y : Vec Ideal S1x64x256 .bf16} (h : (rdat m S c).Finds 0 t Y) (b : Fin 64) (hb : t.val / 8 = b.val) (r : Fin 64) (d : Fin 256)  :
    Y (ix3 0 r d) = m ((c.tc : Thread nD τ).loc main_arg0) (ix3 b ⟨r / 16, by omega⟩ ⟨r % 16 * 256 + d, by omega⟩) := by
  obtain ⟨d', rfl⟩ := (rdat m S c).finds_in_eq_fetched 0 rfl (fun _ _ _ => rfl) (fun _ _ _ h => h.1 (by decide)) t Y h
  have e : V m c main_v0 (ix3 b r d) = m ((c.tc : Thread nD τ).loc main_arg0) (ix3 b ⟨r / 16, by omega⟩ ⟨r % 16 * 256 + d, by omega⟩) := by
    entry_read
    pointwise
  rw [← e]
  show iblk m c 0 t (ix3 0 r d) = _
  blk_ext [iblk, index_0 t]

theorem found_1 {t : Fin cfg0.N} {Y : Vec Ideal S1x8192x128 .i8} (h : (rdat m S c).Finds 1 t Y) (b : Fin 64) (hb : t.val / 8 = b.val) (u : Fin 8192) (l : Fin 128) (n : Fin 65408) (hn : 8192 * (t.val % 8) + u.val = n.val) :
    Y (ix3 0 u l) = m ((c.tc : Thread nD τ).loc main_arg1) (ix4 b n 0 l) := by
  obtain ⟨d', rfl⟩ := (rdat m S c).finds_in_eq_fetched 1 rfl (fun t t' h => funext fun a => congrArg (fun ix : Fin 3 → ℕ => Pipeline.Clip.of (ix a) (S1x8192x128.size a) (S64x65408x128.size a)) h) (fun _ _ _ h => h.1 (by decide)) t Y h
  have e : V m c main_v1 (ix3 b n l) = m ((c.tc : Thread nD τ).loc main_arg1) (ix4 b n 0 l) := by
    entry_read
    pointwise
  rw [← e]
  show win0_1.fill (grid0.coords t) d' (iblk m c 1 t) (ix3 0 u l) = _
  unfold Pipeline.Window.fill
  rw [dif_pos ((win0_1.moved_iff _ _).mpr fun a => ?_)]
  · blk_ext [iblk, index_1 t]
  · show _ < (Pipeline.Clip.of (win0_1.index t a) (S1x8192x128.size a) (S64x65408x128.size a)).extent (S1x8192x128.size a)
    rw [index_1 t]
    fin_cases a
    · exact inside (ix := t.val / 8) (k := 1) (d := 64) (j := 0) (by omega) (by omega)
    · exact inside (ix := t.val % 8) (k := 8192) (d := 65408) (j := u.val) (by omega) (by omega)
    · exact inside (ix := 0) (k := 128) (d := 128) (j := l.val) (by omega) (by omega)

theorem found_2 {t : Fin cfg0.N} {Y : Vec Ideal S1x512x128 .f32} (h : (rdat m S c).Finds 2 t Y) (b : Fin 64) (hb : t.val / 8 = b.val) (u : Fin 512) (l : Fin 128) (n : Fin 4088) (hn : 512 * (t.val % 8) + u.val = n.val) :
    Y (ix3 0 u l) = m ((c.tc : Thread nD τ).loc main_arg2) (ix4 b ⟨n / 2, by omega⟩ 0 ⟨n % 2 * 128 + l, by omega⟩) := by
  obtain ⟨d', rfl⟩ := (rdat m S c).finds_in_eq_fetched 2 rfl (fun t t' h => funext fun a => congrArg (fun ix : Fin 3 → ℕ => Pipeline.Clip.of (ix a) (S1x512x128.size a) (S64x4088x128.size a)) h) (fun _ _ _ h => h.1 (by decide)) t Y h
  have e : V m c main_v2 (ix3 b n l) = m ((c.tc : Thread nD τ).loc main_arg2) (ix4 b ⟨n / 2, by omega⟩ 0 ⟨n % 2 * 128 + l, by omega⟩) := by
    entry_read
    pointwise
  rw [← e]
  show win0_2.fill (grid0.coords t) d' (iblk m c 2 t) (ix3 0 u l) = _
  unfold Pipeline.Window.fill
  rw [dif_pos ((win0_2.moved_iff _ _).mpr fun a => ?_)]
  · blk_ext [iblk, index_2 t]
  · show _ < (Pipeline.Clip.of (win0_2.index t a) (S1x512x128.size a) (S64x4088x128.size a)).extent (S1x512x128.size a)
    rw [index_2 t]
    fin_cases a
    · exact inside (ix := t.val / 8) (k := 1) (d := 64) (j := 0) (by omega) (by omega)
    · exact inside (ix := t.val % 8) (k := 512) (d := 4088) (j := u.val) (by omega) (by omega)
    · exact inside (ix := 0) (k := 128) (d := 128) (j := l.val) (by omega) (by omega)

theorem found_3 {t : Fin cfg0.N} {Y : Vec Ideal S1x512x128 .f32} (h : (rdat m S c).Finds 3 t Y) (b : Fin 64) (hb : t.val / 8 = b.val) (u : Fin 512) (l : Fin 128) (n : Fin 4088) (hn : 512 * (t.val % 8) + u.val = n.val) :
    Y (ix3 0 u l) = m ((c.tc : Thread nD τ).loc main_arg3) (ix4 b ⟨n / 2, by omega⟩ 0 ⟨n % 2 * 128 + l, by omega⟩) := by
  obtain ⟨d', rfl⟩ := (rdat m S c).finds_in_eq_fetched 3 rfl (fun t t' h => funext fun a => congrArg (fun ix : Fin 3 → ℕ => Pipeline.Clip.of (ix a) (S1x512x128.size a) (S64x4088x128.size a)) h) (fun _ _ _ h => h.1 (by decide)) t Y h
  have e : V m c main_v3 (ix3 b n l) = m ((c.tc : Thread nD τ).loc main_arg3) (ix4 b ⟨n / 2, by omega⟩ 0 ⟨n % 2 * 128 + l, by omega⟩) := by
    entry_read
    pointwise
  rw [← e]
  show win0_3.fill (grid0.coords t) d' (iblk m c 3 t) (ix3 0 u l) = _
  unfold Pipeline.Window.fill
  rw [dif_pos ((win0_3.moved_iff _ _).mpr fun a => ?_)]
  · blk_ext [iblk, index_3 t]
  · show _ < (Pipeline.Clip.of (win0_3.index t a) (S1x512x128.size a) (S64x4088x128.size a)).extent (S1x512x128.size a)
    rw [index_3 t]
    fin_cases a
    · exact inside (ix := t.val / 8) (k := 1) (d := 64) (j := 0) (by omega) (by omega)
    · exact inside (ix := t.val % 8) (k := 512) (d := 4088) (j := u.val) (by omega) (by omega)
    · exact inside (ix := 0) (k := 128) (d := 128) (j := l.val) (by omega) (by omega)

theorem found_4 {t : Fin cfg0.N} {Y : Vec Ideal S1x8192x128 .i8} (h : (rdat m S c).Finds 4 t Y) (b : Fin 64) (hb : t.val / 8 = b.val) (u : Fin 8192) (l : Fin 128) (n : Fin 65408) (hn : 8192 * (t.val % 8) + u.val = n.val) :
    Y (ix3 0 u l) = m ((c.tc : Thread nD τ).loc main_arg4) (ix4 b n 0 l) := by
  obtain ⟨d', rfl⟩ := (rdat m S c).finds_in_eq_fetched 4 rfl (fun t t' h => funext fun a => congrArg (fun ix : Fin 3 → ℕ => Pipeline.Clip.of (ix a) (S1x8192x128.size a) (S64x65408x128.size a)) h) (fun _ _ _ h => h.1 (by decide)) t Y h
  have e : V m c main_v4 (ix3 b n l) = m ((c.tc : Thread nD τ).loc main_arg4) (ix4 b n 0 l) := by
    entry_read
    pointwise
  rw [← e]
  show win0_4.fill (grid0.coords t) d' (iblk m c 4 t) (ix3 0 u l) = _
  unfold Pipeline.Window.fill
  rw [dif_pos ((win0_4.moved_iff _ _).mpr fun a => ?_)]
  · blk_ext [iblk, index_4 t]
  · show _ < (Pipeline.Clip.of (win0_4.index t a) (S1x8192x128.size a) (S64x65408x128.size a)).extent (S1x8192x128.size a)
    rw [index_4 t]
    fin_cases a
    · exact inside (ix := t.val / 8) (k := 1) (d := 64) (j := 0) (by omega) (by omega)
    · exact inside (ix := t.val % 8) (k := 8192) (d := 65408) (j := u.val) (by omega) (by omega)
    · exact inside (ix := 0) (k := 128) (d := 128) (j := l.val) (by omega) (by omega)

theorem found_5 {t : Fin cfg0.N} {Y : Vec Ideal S1x8x8192 .f32} (h : (rdat m S c).Finds 5 t Y) (b : Fin 64) (hb : t.val / 8 = b.val) (u : Fin 8192) (l : Fin 8) (n : Fin 65408) (hn : 8192 * (t.val % 8) + u.val = n.val) :
    Y (ix3 0 l u) = m ((c.tc : Thread nD τ).loc main_arg5) (ix4 b n 0 l) := by
  obtain ⟨d', rfl⟩ := (rdat m S c).finds_in_eq_fetched 5 rfl (fun t t' h => funext fun a => congrArg (fun ix : Fin 3 → ℕ => Pipeline.Clip.of (ix a) (S1x8x8192.size a) (S64x8x65408.size a)) h) (fun _ _ _ h => h.1 (by decide)) t Y h
  have e : V m c main_v6 (ix3 b l n) = m ((c.tc : Thread nD τ).loc main_arg5) (ix4 b n 0 l) := by
    entry_read
    pointwise
  rw [← e]
  show win0_5.fill (grid0.coords t) d' (iblk m c 5 t) (ix3 0 l u) = _
  unfold Pipeline.Window.fill
  rw [dif_pos ((win0_5.moved_iff _ _).mpr fun a => ?_)]
  · blk_ext [iblk, index_5 t]
  · show _ < (Pipeline.Clip.of (win0_5.index t a) (S1x8x8192.size a) (S64x8x65408.size a)).extent (S1x8x8192.size a)
    rw [index_5 t]
    fin_cases a
    · exact inside (ix := t.val / 8) (k := 1) (d := 64) (j := 0) (by omega) (by omega)
    · exact inside (ix := 0) (k := 8) (d := 8) (j := l.val) (by omega) (by omega)
    · exact inside (ix := t.val % 8) (k := 8192) (d := 65408) (j := u.val) (by omega) (by omega)

theorem found_6 {t : Fin cfg0.N} {Y : Vec Ideal S1x8x8192 .f32} (h : (rdat m S c).Finds 6 t Y) (b : Fin 64) (hb : t.val / 8 = b.val) (u : Fin 8192) (l : Fin 8) (n : Fin 65408) (hn : 8192 * (t.val % 8) + u.val = n.val) :
    Y (ix3 0 l u) = m ((c.tc : Thread nD τ).loc main_arg6) (ix4 b n 0 l) := by
  obtain ⟨d', rfl⟩ := (rdat m S c).finds_in_eq_fetched 6 rfl (fun t t' h => funext fun a => congrArg (fun ix : Fin 3 → ℕ => Pipeline.Clip.of (ix a) (S1x8x8192.size a) (S64x8x65408.size a)) h) (fun _ _ _ h => h.1 (by decide)) t Y h
  have e : V m c main_v8 (ix3 b l n) = m ((c.tc : Thread nD τ).loc main_arg6) (ix4 b n 0 l) := by
    entry_read
    pointwise
  rw [← e]
  show win0_6.fill (grid0.coords t) d' (iblk m c 6 t) (ix3 0 l u) = _
  unfold Pipeline.Window.fill
  rw [dif_pos ((win0_6.moved_iff _ _).mpr fun a => ?_)]
  · blk_ext [iblk, index_6 t]
  · show _ < (Pipeline.Clip.of (win0_6.index t a) (S1x8x8192.size a) (S64x8x65408.size a)).extent (S1x8x8192.size a)
    rw [index_6 t]
    fin_cases a
    · exact inside (ix := t.val / 8) (k := 1) (d := 64) (j := 0) (by omega) (by omega)
    · exact inside (ix := 0) (k := 8) (d := 8) (j := l.val) (by omega) (by omega)
    · exact inside (ix := t.val % 8) (k := 8192) (d := 65408) (j := u.val) (by omega) (by omega)

theorem found_7 {t : Fin cfg0.N} {Y : Vec Ideal S1x128x256 .bf16} (h : (rdat m S c).Finds 7 t Y) (b : Fin 64) (hb : t.val / 8 = b.val) (u : Fin 128) (d : Fin 256)  :
    Y (ix3 0 u d) = m ((c.tc : Thread nD τ).loc main_arg7) (ix4 b u 0 d) := by
  obtain ⟨d', rfl⟩ := (rdat m S c).finds_in_eq_fetched 7 rfl (fun _ _ _ => rfl) (fun _ _ _ h => h.1 (by decide)) t Y h
  have e : V m c main_v9 (ix3 b u d) = m ((c.tc : Thread nD τ).loc main_arg7) (ix4 b u 0 d) := by
    entry_read
    pointwise
  rw [← e]
  show iblk m c 7 t (ix3 0 u d) = _
  blk_ext [iblk, index_7 t]

theorem found_8 {t : Fin cfg0.N} {Y : Vec Ideal S1x128x256 .bf16} (h : (rdat m S c).Finds 8 t Y) (b : Fin 64) (hb : t.val / 8 = b.val) (u : Fin 128) (d : Fin 256)  :
    Y (ix3 0 u d) = m ((c.tc : Thread nD τ).loc main_arg8) (ix4 b u 0 d) := by
  obtain ⟨d', rfl⟩ := (rdat m S c).finds_in_eq_fetched 8 rfl (fun _ _ _ => rfl) (fun _ _ _ h => h.1 (by decide)) t Y h
  have e : V m c main_v10 (ix3 b u d) = m ((c.tc : Thread nD τ).loc main_arg8) (ix4 b u 0 d) := by
    entry_read
    pointwise
  rw [← e]
  show iblk m c 8 t (ix3 0 u d) = _
  blk_ext [iblk, index_8 t]

theorem found_9 {t : Fin cfg0.N} {Y : Vec Ideal S1x4x256 .bf16} (h : (rdat m S c).Finds 9 t Y) (b : Fin 64) (hb : t.val / 8 = b.val) (u : Fin 4) (d : Fin 256)  :
    Y (ix3 0 u d) = m ((c.tc : Thread nD τ).loc main_arg9) (ix2 ⟨b * 4 + u, by omega⟩ d) := by
  obtain ⟨d', rfl⟩ := (rdat m S c).finds_in_eq_fetched 9 rfl (fun _ _ _ => rfl) (fun _ _ _ h => h.1 (by decide)) t Y h
  have e : V m c main_v11 (ix3 b u d) = m ((c.tc : Thread nD τ).loc main_arg9) (ix2 ⟨b * 4 + u, by omega⟩ d) := by
    entry_read
    pointwise
  rw [← e]
  show iblk m c 9 t (ix3 0 u d) = _
  blk_ext [iblk, index_9 t]

theorem found_10 {t : Fin cfg0.N} {Y : Vec Ideal S1x4x256 .bf16} (h : (rdat m S c).Finds 10 t Y) (b : Fin 64) (hb : t.val / 8 = b.val) (u : Fin 4) (d : Fin 256)  :
    Y (ix3 0 u d) = m ((c.tc : Thread nD τ).loc main_arg10) (ix2 ⟨b * 4 + u, by omega⟩ d) := by
  obtain ⟨d', rfl⟩ := (rdat m S c).finds_in_eq_fetched 10 rfl (fun _ _ _ => rfl) (fun _ _ _ h => h.1 (by decide)) t Y h
  have e : V m c main_v12 (ix3 b u d) = m ((c.tc : Thread nD τ).loc main_arg10) (ix2 ⟨b * 4 + u, by omega⟩ d) := by
    entry_read
    pointwise
  rw [← e]
  show iblk m c 10 t (ix3 0 u d) = _
  blk_ext [iblk, index_10 t]

end Cert.KernelIdeal.Hand

end
-- ==== Proof.PI.PointLast.lean ====
/-
  What the last block of a batch leaves: the attention's output.
-/
module

public import proofs.«01_k».proof.Proof.PI.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax

theorem sup_64 (g : ℕ → EReal) : (Finset.range 64).sup g = max (g 63) (max (g 62) ((Finset.range 62).sup g)) := by
  rw [show Finset.range 64 = insert 63 (Finset.range 63) from Finset.range_add_one (n := 63), Finset.sup_insert,
    show Finset.range 63 = insert 62 (Finset.range 62) from Finset.range_add_one (n := 62), Finset.sup_insert]

theorem sum_64 (g : ℕ → EReal) : ∑ k ∈ Finset.range 64, g k = ∑ k ∈ Finset.range 62, g k + g 62 + g 63 :=
  (Finset.sum_range_succ g 63).trans (congrArg (· + g 63) (Finset.sum_range_succ g 62))

/-- The tail's values, entry by entry. -/
theorem tailEntry (v6 : View sig .tc .vmem S1x8192x128 .i8) (X6 : BufTy.Contents (Elt Ideal) v6.ty) (v7 : View sig .tc .vmem S1x8x8192 .f32) (X7 : BufTy.Contents (Elt Ideal) v7.ty)
    (v8 : View sig .tc .vmem S1x8x8192 .f32) (X8 : BufTy.Contents (Elt Ideal) v8.ty) {inb6 inb7} (t : Fin 128) (j : Fin 256) :
    keyAt (fun l => k0_pay61 (F := Ideal) (v6.readAt (Elt Ideal) (Rect.unit (s := S1x8192x128) ![0, 7936, 0] S1x128x128.size inb6).toLoadRect X6) (ix2 t l))
        (fun l => k0_pay62 (F := Ideal) (v6.readAt (Elt Ideal) (Rect.unit (s := S1x8192x128) ![0, 7936, 0] S1x128x128.size inb6).toLoadRect X6) (ix2 t l))
        (fun l => v7.readAt (Elt Ideal) (Rect.unit (s := S1x8x8192) ![0, 0, 7936] S1x8x128.size inb7).toLoadRect X7 (ix3 0 ⟨l / 16, by omega⟩ t))
        (fun l => v8.readAt (Elt Ideal) (Rect.unit (s := S1x8x8192) ![0, 0, 7936] S1x8x128.size inb7).toLoadRect X8 (ix3 0 ⟨l / 16, by omega⟩ t))
        (fun l => v7.readAt (Elt Ideal) (Rect.unit (s := S1x8x8192) ![0, 0, 7936] S1x8x128.size inb7).toLoadRect X7 (ix3 0 ⟨l / 16, by omega⟩ t))
        (fun l => v8.readAt (Elt Ideal) (Rect.unit (s := S1x8x8192) ![0, 0, 7936] S1x8x128.size inb7).toLoadRect X8 (ix3 0 ⟨l / 16, by omega⟩ t)) j
      = valueEntry (v6.read (Elt Ideal) X6) (v7.read (Elt Ideal) X7) (v8.read (Elt Ideal) X8) ⟨7936 + t.val, by omega⟩ j := by
  rw [show (fun l => k0_pay61 (F := Ideal) (v6.readAt (Elt Ideal) (Rect.unit (s := S1x8192x128) ![0, 7936, 0] S1x128x128.size inb6).toLoadRect X6) (ix2 t l)) = fun l => lowHalf (v6.read (Elt Ideal) X6 (ix3 0 ⟨7936 + t.val, by omega⟩ l)) from
        funext fun l => (low128_apply _ t l).trans (congrArg lowHalf (tail_codes v6 X6 _ t l)),
      show (fun l => k0_pay62 (F := Ideal) (v6.readAt (Elt Ideal) (Rect.unit (s := S1x8192x128) ![0, 7936, 0] S1x128x128.size inb6).toLoadRect X6) (ix2 t l)) = fun l => highHalf (v6.read (Elt Ideal) X6 (ix3 0 ⟨7936 + t.val, by omega⟩ l)) from
        funext fun l => (high128_apply _ t l).trans (congrArg highHalf (tail_codes v6 X6 _ t l))]
  rw [show (fun l : Fin 128 => v7.readAt (Elt Ideal) (Rect.unit (s := S1x8x8192) ![0, 0, 7936] S1x8x128.size inb7).toLoadRect X7 (ix3 0 ⟨l / 16, by omega⟩ t)) = fun l : Fin 128 => v7.read (Elt Ideal) X7 (ix3 0 ⟨l / 16, by omega⟩ ⟨7936 + t.val, by omega⟩) from
        funext fun l => tail_rows v7 X7 _ ⟨l / 16, by omega⟩ t,
      show (fun l : Fin 128 => v8.readAt (Elt Ideal) (Rect.unit (s := S1x8x8192) ![0, 0, 7936] S1x8x128.size inb7).toLoadRect X8 (ix3 0 ⟨l / 16, by omega⟩ t)) = fun l : Fin 128 => v8.read (Elt Ideal) X8 (ix3 0 ⟨l / 16, by omega⟩ ⟨7936 + t.val, by omega⟩) from
        funext fun l => tail_rows v8 X8 _ ⟨l / 16, by omega⟩ t]
  rfl

theorem mask_word (k : Fin 4) (r : Fin 64) : IntOp.cmpi .sle (IntOp.muli (BitVec.ofNat 32 k.val) 16#32) (BitVec.ofNat 32 r.val) = if 16 * k.val ≤ r.val then 1#1 else 0#1 := by
  revert k r; decide

/-- A new token's score, or the least value where the row may not see it. -/
theorem new_apply (q : FVec Ideal S64x256 .bf16) (k : FVec Ideal S1x4x256 .bf16) (y : Vec Ideal S64x256 .bf16) (y' : Vec Ideal S1x4x256 .bf16) (hq : ∀ j, q j = y j) (hk : ∀ j, k j = y' j) (r : Fin 64) (n : Fin 4) :
    select (cmpi .sle (muli (iota .tc S64x4 32 [1] iota_S64x4_d1_w32) (broadcast S64x4 16#32)) (iota .tc S64x4 32 [0] iota_S64x4_d0_w32))
      (matmul dot_S64x256_S4x256_S64x4_1_1_0_0_n_n none q (shapeCast S4x256 k shapeCasts_S1x4x256_S4x256) (constant S64x4 .f32 0x00000000#32))
      (broadcast S64x4 (FloatOps.ofBits (F := Ideal) .f32 0xFF800000#32)) (ix2 r n)
      = if 16 * n.val ≤ r.val then ∑ j : Fin 256, y (ix2 r j) * y' (ix3 0 n j) else ⊥ := by
  obtain rfl : q = y := funext hq
  obtain rfl : k = y' := funext hk
  pointwise
  rw [show IntOp.cmpi .sle (IntOp.muli (BitVec.ofNat 32 n.val) 16#32) (BitVec.ofNat 32 r.val) = _ from mask_word n r]
  split
  · rfl
  · exact minus_inf

set_option maxHeartbeats 1600000 in
/-- What the last block of a batch leaves in the output. -/
theorem leavesLast (c : Dev nD) (i : grid0.Coords) (hf : ¬First i) (hl : Last i) (y2 : Vec Ideal S1x64x256 .bf16) (y3 : Vec Ideal S1x8192x128 .i8) (y4 : Vec Ideal S1x512x128 .f32) (y5 : Vec Ideal S1x512x128 .f32) (y6 : Vec Ideal S1x8192x128 .i8) (y7 : Vec Ideal S1x8x8192 .f32) (y8 : Vec Ideal S1x8x8192 .f32) (y9 : Vec Ideal S1x128x256 .bf16) (y10 : Vec Ideal S1x128x256 .bf16) (y11 : Vec Ideal S1x4x256 .bf16) (y12 : Vec Ideal S1x4x256 .bf16) (y13 : Vec Ideal S1x64x256 .bf16) (y14 : Vec Ideal S64x256 .bf16) (y21 : Vec Ideal S64x128 .f32) (y22 : Vec Ideal S64x128 .f32) (y23 : Vec Ideal S64x256 .f32)
    (s : Fin 64 → ℕ → EReal) (v : ℕ → Fin 256 → EReal) (m : Fin 64 → EReal)
    (hs : ∀ r (t : Fin 8192), t.val < 8064 → score y14 (keyEntry y3 (tab y4 0) (tab y5 0) (tab y4 1) (tab y5 1)) r t = s r t)
    (hkt : ∀ r (t : Fin 128), ∑ j : Fin 256, y14 (ix2 r j) * y9 (ix3 0 t (chan j)) = s r (8064 + t.val))
    (hn : ∀ r (k : Fin 4), (if 16 * k.val ≤ r.val then ∑ j : Fin 256, y14 (ix2 r j) * y11 (ix3 0 k j) else ⊥) = s r (8192 + k.val))
    (hv : ∀ (t : Fin 8192) j, t.val < 8064 → valueEntry y6 y7 y8 t j = v t j)
    (hvt : ∀ (t : Fin 128) j, y10 (ix3 0 t (chan j)) = v (8064 + t.val) j)
    (hvn : ∀ (k : Fin 4) j, y12 (ix3 0 k j) = v (8192 + k.val) j)
    (hm : ∀ r l, y21 (ix2 r l) = m r) :
    LeavesLast y2 y3 y4 y5 y6 y7 y8 y9 y10 y11 y12 y13 y14 y21 y22 y23 c i hf hl fun x13 x14 x21 x22 x23 => ∀ r d, x13 (ix3 0 r d) =
      Ideal.div
        ((y23 (ix2 r (slot d)) * ex (m r - max (m r) (top (s r) 8192)) + ∑ t ∈ Finset.range 8192, ex (s r t - max (m r) (top (s r) 8192)) * v t (slot d)) * ex (max (m r) (top (s r) 8192) - max (max (m r) (top (s r) 8192)) (Finset.univ.sup fun k : Fin 4 => s r (8192 + k.val)))
          + ∑ k : Fin 4, ex (s r (8192 + k.val) - max (max (m r) (top (s r) 8192)) (Finset.univ.sup fun k : Fin 4 => s r (8192 + k.val))) * v (8192 + k.val) (slot d))
        ((∑ l : Fin 128, (y22 (ix2 r l) * ex (m r - max (m r) (top (s r) 8192)) + ∑ k ∈ Finset.range 64, ex (s r (128 * k + l.val) - max (m r) (top (s r) 8192)))) * ex (max (m r) (top (s r) 8192) - max (max (m r) (top (s r) 8192)) (Finset.univ.sup fun k : Fin 4 => s r (8192 + k.val))) + ∑ k : Fin 4, ex (s r (8192 + k.val) - max (max (m r) (top (s r) 8192)) (Finset.univ.sup fun k : Fin 4 => s r (8192 + k.val)))) := by
  intro arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X5 X6 X7 X8 X9 X10 X11 X12 X13 X14 X15 X16 X17 X18 X19 X20 X21 X22 X23 f21 e2 e3 e4 e5 e6 e7 e8 e9 e10 e11 e12 e13 e14 e21 e22 e23
  subst e2 e3 e4 e5 e6 e7 e8 e9 e10 e11 e12 e13 e14 e21 e22 e23
  have h7 : (i 1).val = 7 := (last_iff i).1 hl
  have n1 : (k0_t1_loop i).trips = 31 := by rw [trips_t1, if_pos h7]
  have n3 : (k0_t3_loop i).trips = 31 := by rw [trips_t3, if_pos h7]
  have h16 : ∀ n p l, arg16.view.read (Elt Ideal) (arg16.view.writes (Elt Ideal) arg16.view.junk (runLast.sl.H16_1 arg4 X4)) (ix3 n p l) = tab (arg4.view.read (Elt Ideal) X4) 0 n l := by
    intro n p l
    unfold runLast.sl.H16_1
    rw [View.read_writes_full]
    exact (tableOf_apply _ n p l).trans (rowsOf_low _ _ _ (load_even arg4.view X4 _) (load_odd arg4.view X4 _) n l)
  have h17 : ∀ n p l, arg17.view.read (Elt Ideal) (arg17.view.writes (Elt Ideal) arg17.view.junk (runLast.sl.H17_1 arg4 X4)) (ix3 n p l) = tab (arg4.view.read (Elt Ideal) X4) 1 n l := by
    intro n p l
    unfold runLast.sl.H17_1
    rw [View.read_writes_full]
    exact (tableOf_apply _ n p l).trans (rowsOf_high _ _ _ (load_even arg4.view X4 _) (load_odd arg4.view X4 _) n l)
  have h18 : ∀ n p l, arg18.view.read (Elt Ideal) (arg18.view.writes (Elt Ideal) arg18.view.junk (runLast.sl.H18_1 arg5 X5)) (ix3 n p l) = tab (arg5.view.read (Elt Ideal) X5) 0 n l := by
    intro n p l
    unfold runLast.sl.H18_1
    rw [View.read_writes_full]
    exact (tableOf_apply _ n p l).trans (rowsOf_low _ _ _ (load_even arg5.view X5 _) (load_odd arg5.view X5 _) n l)
  have h19 : ∀ n p l, arg19.view.read (Elt Ideal) (arg19.view.writes (Elt Ideal) arg19.view.junk (runLast.sl.H19_1 arg5 X5)) (ix3 n p l) = tab (arg5.view.read (Elt Ideal) X5) 1 n l := by
    intro n p l
    unfold runLast.sl.H19_1
    rw [View.read_writes_full]
    exact (tableOf_apply _ n p l).trans (rowsOf_high _ _ _ (load_even arg5.view X5 _) (load_odd arg5.view X5 _) n l)
  have hq : runLast.sl.r arg14 X14 = arg14.view.read (Elt Ideal) X14 := View.readAt_full arg14.view X14 _
  have hv64 : ∀ r l, (arg21.view.readAt (Elt Ideal) (Rect.unit (s := S64x128) ![0, 0] S64x128.size Gen.inb_S64x128_S64x128_0_0).toLoadRect X21) (ix2 r l) = m r := by
    intro r l
    rw [View.readAt_full]
    exact hm r l
  have hs' : ∀ r (t : Fin 8192), t.val < 256 * (k0_t1_loop i).trips → score (runLast.sl.r arg14 X14) (keyEntry (arg3.view.read (Elt Ideal) X3) (tab (arg4.view.read (Elt Ideal) X4) 0) (tab (arg5.view.read (Elt Ideal) X5) 0)
    (tab (arg4.view.read (Elt Ideal) X4) 1) (tab (arg5.view.read (Elt Ideal) X5) 1)) r t = s r t := by
    intro r t ht
    rw [hq]
    exact hs r t (by omega)
  have hk := loop1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 _ _ _ _ c i (runLast.sl.v0 i) (runLast.sl.v13 (F := Ideal)) (runLast.sl.v14 i) (runLast.sl.r arg14 X14) (runLast.sl.v51 (F := Ideal)) 0#32 (runLast.sl.v52 i) (tab (arg4.view.read (Elt Ideal) X4) 0) (tab (arg5.view.read (Elt Ideal) X5) 0)
    (tab (arg4.view.read (Elt Ideal) X4) 1) (tab (arg5.view.read (Elt Ideal) X5) 1) s (runLast.sl.v51 (F := Ideal)) hs' h16 h18 h17 h19 31 (le_of_eq n1.symm)
  obtain ⟨hw, hmx⟩ := hk
  have ht212 : ∀ r (t : Fin 256), k0_pay212 (runLast.sl.v13 (F := Ideal)) (runLast.sl.r arg14 X14) (runLast.sl.v132 arg3 arg4 arg5 arg16 arg17 arg18 arg19 X3 X4 X5) (runLast.sl.v155 arg3 arg4 arg5 arg16 arg17 arg18 arg19 X3 X4 X5) (runLast.sl.v178 arg3 arg4 arg5 arg16 arg17 arg18 arg19 X3 X4 X5) (runLast.sl.v189 arg3 arg4 arg5 arg16 arg18 X3 X4 X5) (runLast.sl.v195 arg3 arg4 arg17 X3 X4) (runLast.sl.v196_raw arg5 arg19 X5) (arg9.view.readAt (Elt Ideal) (Rect.unit (s := S1x128x256) ![0, 0, 0] S1x128x256.size Gen.inb_S1x128x256_S1x128x256_0_0_0).toLoadRect X9) (ix2 r t) = s r (7936 + t.val) := tail212_apply arg3 arg4 arg5 arg9 arg14 arg16 arg17 arg18 arg19 X3 X4 X5 X9 X14 s hs hkt
  have hv65 : ∀ r l, (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (ix2 r l) = (Finset.range 64).sup fun k => s r (128 * k + l.val) := by
    intro r l
    unfold runLast.sl.v65 runLast.sl.H20_2
    rw [View.readCov_full, pay214_apply, ht212, ht212]
    rw [show runLast.sl.v212 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X14 c i (ix2 r l) = (Finset.range 62).sup fun k => s r (128 * k + l.val) by
      unfold runLast.sl.v212 runLast.sl.H20_1
      rw [View.readCov_full, pay211_eq]
      refine Eq.trans ?_ ((hmx r l).trans ?_)
      · rw [show Scf.trips (k0_t2_loop i).lb (k0_t2_loop i).ub (k0_t2_loop i).st = 0 from trips_t2 i, show Scf.trips (k0_t1_loop i).lb (k0_t1_loop i).ub (k0_t1_loop i).st = 31 from n1]
        rfl
      · rw [show (runLast.sl.v51 (F := Ideal)) (ix2 r l) = (⊥ : EReal) from minus_inf]
        exact max_eq_right bot_le]
    rw [sup_64]
    show max _ (max (s r (7936 + l.val)) (s r (7936 + (128 + l.val)))) = max (s r (128 * 63 + l.val)) (max (s r (128 * 62 + l.val)) _)
    rw [show 7936 + (128 + l.val) = 128 * 63 + l.val by omega, show 7936 + l.val = 128 * 62 + l.val by omega]
    simp only [max_comm, max_left_comm, max_assoc]
  have hM : ∀ r l, k0_pay215 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (ix2 r l) = (fun r => max (m r) (top (s r) 8192)) r := by
    intro r l
    rw [pay215_apply, hv64]
    simp only [hv65]
    rw [sup_lanes]
  have hst : ∀ r (t : Fin 8192), t.val < 256 * (k0_t3_loop i).trips → arg15.view.read (Elt Ideal) (arg15.view.writes (Elt Ideal) X15 (⟨Rect.unit (s := S64x8192) ![0, 7936] S64x256.size Gen.inb_S64x8192_S64x256_0_7936, k0_pay213 (runLast.sl.v13 (F := Ideal)) (runLast.sl.r arg14 X14) (runLast.sl.v132 arg3 arg4 arg5 arg16 arg17 arg18 arg19 X3 X4 X5) (runLast.sl.v155 arg3 arg4 arg5 arg16 arg17 arg18 arg19 X3 X4 X5) (runLast.sl.v178 arg3 arg4 arg5 arg16 arg17 arg18 arg19 X3 X4 X5) (runLast.sl.v189 arg3 arg4 arg5 arg16 arg18 X3 X4 X5) (runLast.sl.v195 arg3 arg4 arg17 X3 X4) (runLast.sl.v196_raw arg5 arg19 X5) (arg9.view.readAt (Elt Ideal) (Rect.unit (s := S1x128x256) ![0, 0, 0] S1x128x256.size Gen.inb_S1x128x256_S1x128x256_0_0_0).toLoadRect X9)⟩ :: ([] ++ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (runLast.sl.v0 i) (runLast.sl.v13 (F := Ideal)) (runLast.sl.v14 i) (runLast.sl.r arg14 X14) (runLast.sl.v51 (F := Ideal)) 0#32 (runLast.sl.v52 i) X3 (arg16.view.writes (Elt Ideal) arg16.view.junk (runLast.sl.H16_1 arg4 X4)) (arg17.view.writes (Elt Ideal) arg17.view.junk (runLast.sl.H17_1 arg4 X4)) (arg18.view.writes (Elt Ideal) arg18.view.junk (runLast.sl.H18_1 arg5 X5)) (arg19.view.writes (Elt Ideal) arg19.view.junk (runLast.sl.H19_1 arg5 X5)) (runLast.sl.v51 (F := Ideal)) 31).2))) (ix2 r t) = s r t := by
    intro r t ht
    rw [n3] at ht
    rw [read_before arg15.view X15 _ _ _ r t (by omega)]
    exact hw X15 r t (by omega)
  have hv' : ∀ (t : Fin 8192) j, t.val < 256 * (k0_t3_loop i).trips →
      valueEntry (arg6.view.read (Elt Ideal) X6) (arg7.view.read (Elt Ideal) X7) (arg8.view.read (Elt Ideal) X8) t j = v t j := fun t j ht => hv t j (by omega)
  have hv192 : ∀ r l, runLast.sl.v192 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r l) = arg22.view.read (Elt Ideal) X22 (ix2 r l) * ex (m r - (fun r => max (m r) (top (s r) 8192)) r) + ∑ k ∈ Finset.range 62, ex (s r (128 * k + l.val) - (fun r => max (m r) (top (s r) 8192)) r) := by
    intro r l
    unfold runLast.sl.v192 runLast.sl.H22_1
    rw [View.readCov_full, pay3_eq, show Scf.trips (k0_t4_loop i).lb (k0_t4_loop i).ub (k0_t4_loop i).st = 0 from trips_t4 i]
    change (runLast.sl.r_2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i) (ix2 r l) = _
    unfold runLast.sl.r_2
    rw [show Scf.trips (k0_t3_loop i).lb (k0_t3_loop i).ub (k0_t3_loop i).st = 31 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runLast.sl.v0 i) (runLast.sl.v13 (F := Ideal)) (runLast.sl.v14 i) (runLast.sl.r arg14 X14) (runLast.sl.v51 (F := Ideal)) 0#32 (runLast.sl.v52 i) (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (fun r => max (m r) (top (s r) 8192)) s v
      (k0_pay218 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg22.view.readAt (Elt Ideal) (Rect.unit (s := S64x128) ![0, 0] S64x128.size Gen.inb_S64x128_S64x128_0_0).toLoadRect X22), k0_pay219 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg23.view.readAt (Elt Ideal) (Rect.unit (s := S64x256) ![0, 0] S64x256.size Gen.inb_S64x256_S64x256_0_0).toLoadRect X23)) hM hst hv' 31 (le_of_eq n3.symm)).1 r l).trans ?_
    show k0_pay218 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg22.view.readAt (Elt Ideal) (Rect.unit (s := S64x128) ![0, 0] S64x128.size Gen.inb_S64x128_S64x128_0_0).toLoadRect X22) (ix2 r l) + ∑ k ∈ Finset.range 62, _ = _
    rw [show k0_pay218 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg22.view.readAt (Elt Ideal) (Rect.unit (s := S64x128) ![0, 0] S64x128.size Gen.inb_S64x128_S64x128_0_0).toLoadRect X22) (ix2 r l) = (arg22.view.readAt (Elt Ideal) (Rect.unit (s := S64x128) ![0, 0] S64x128.size Gen.inb_S64x128_S64x128_0_0).toLoadRect X22) (ix2 r l) * k0_pay216 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (ix2 r l) from rfl, pay216_apply (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) m (fun r => max (m r) (top (s r) 8192)) hv64 hM, View.readAt_full] <;> try rfl
  have hv187_1 : ∀ r j, runLast.sl.v187_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r j) = arg23.view.read (Elt Ideal) X23 (ix2 r j) * ex (m r - (fun r => max (m r) (top (s r) 8192)) r) + ∑ t ∈ Finset.range 7936, ex (s r t - (fun r => max (m r) (top (s r) 8192)) r) * v t j := by
    intro r j
    unfold runLast.sl.v187_1 runLast.sl.H23_1
    rw [View.readCov_full, pay4_eq, show Scf.trips (k0_t4_loop i).lb (k0_t4_loop i).ub (k0_t4_loop i).st = 0 from trips_t4 i]
    change (runLast.sl.r_3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i) (ix2 r j) = _
    unfold runLast.sl.r_3
    rw [show Scf.trips (k0_t3_loop i).lb (k0_t3_loop i).ub (k0_t3_loop i).st = 31 from n3, show Scf.trips (k0_t2_loop i).lb (k0_t2_loop i).ub (k0_t2_loop i).st = 0 from trips_t2 i]
    refine ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X6 X7 X8 _ c i (runLast.sl.v0 i) (runLast.sl.v13 (F := Ideal)) (runLast.sl.v14 i) (runLast.sl.r arg14 X14) (runLast.sl.v51 (F := Ideal)) 0#32 (runLast.sl.v52 i) (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (fun r => max (m r) (top (s r) 8192)) s v
      (k0_pay218 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg22.view.readAt (Elt Ideal) (Rect.unit (s := S64x128) ![0, 0] S64x128.size Gen.inb_S64x128_S64x128_0_0).toLoadRect X22), k0_pay219 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg23.view.readAt (Elt Ideal) (Rect.unit (s := S64x256) ![0, 0] S64x256.size Gen.inb_S64x256_S64x256_0_0).toLoadRect X23)) hM hst hv' 31 (le_of_eq n3.symm)).2 r j).trans ?_
    show k0_pay219 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg23.view.readAt (Elt Ideal) (Rect.unit (s := S64x256) ![0, 0] S64x256.size Gen.inb_S64x256_S64x256_0_0).toLoadRect X23) (ix2 r j) + ∑ t ∈ Finset.range 7936, _ = _
    rw [pay219_apply (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) (arg23.view.readAt (Elt Ideal) (Rect.unit (s := S64x256) ![0, 0] S64x256.size Gen.inb_S64x256_S64x256_0_0).toLoadRect X23) m (fun r => max (m r) (top (s r) 8192)) hv64 hM, View.readAt_full] <;> try rfl
  have hp : ∀ r (t : Fin 256), runLast.sl.r_4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r t) = ex (s r (7936 + t.val) - (fun r => max (m r) (top (s r) 8192)) r) := by
    intro r t
    unfold runLast.sl.r_4 runLast.sl.r_1
    rw [pay159_apply _ _ (fun r => max (m r) (top (s r) 8192)) hM]
    unfold runLast.sl.v97
    rw [show View.readCov _ _ _ = View.readAt (Elt Ideal) arg15.view _ (arg15.view.writes (Elt Ideal) arg15.view.junk _) from rfl, read_tail, pay213_eq, ht212]
  have hval : ∀ (t j : Fin 256), runLast.sl.v189_1 (F := Ideal) arg6 arg7 arg8 arg10 X6 X7 X8 X10 (ix2 t j) = v (7936 + t.val) j := by
    intro t j
    unfold runLast.sl.v189_1
    by_cases ht : t.val < 128
    · rw [concat_left _ _ ⟨t.val, ht⟩ t rfl, tailValues, vTile_apply]
      refine Eq.trans ?_ (hv ⟨7936 + t.val, by omega⟩ j (by simp only []; omega))
      unfold valueEntry
      exact tailEntry arg6.view X6 arg7.view X7 arg8.view X8 ⟨t.val, ht⟩ j
    · rw [concat_right _ _ ⟨t.val - 128, by omega⟩ t (by simp only []; omega)]
      refine Eq.trans ?_ ((hvt ⟨t.val - 128, by omega⟩ j).trans (congrArg (fun n => v n j) (by simp only []; omega)))
      refine Eq.trans ?_ (kept_apply (arg10.view.read (Elt Ideal) X10) ⟨t.val - 128, by omega⟩ j)
      rw [← View.readAt_full (Val := Elt Ideal) arg10.view X10 Gen.inb_S1x128x256_S1x128x256_0_0_0]
      rfl
  have hacc : ∀ r j, runLast.sl.v191 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X10 X14 X15 X21 X22 X23 c i (ix2 r j) = arg23.view.read (Elt Ideal) X23 (ix2 r j) * ex (m r - (fun r => max (m r) (top (s r) 8192)) r) + ∑ t ∈ Finset.range 8192, ex (s r t - (fun r => max (m r) (top (s r) 8192)) r) * v t j := by
    intro r j
    show runLast.sl.v187_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r j) + runLast.sl.v190_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X10 X14 X21 c i (ix2 r j) = _
    rw [hv187_1]
    unfold runLast.sl.v190_1 runLast.sl.v188_1
    rw [show matmul dot_S64x256_S256x256_S64x256_1_0_0_1_n_n none _ _ (runLast.sl.cst_70 (F := Ideal)) (ix2 r j) = _ from weighted_apply (runLast.sl.r_4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i) (runLast.sl.v189_1 arg6 arg7 arg8 arg10 X6 X7 X8 X10) r j]
    simp only [hp, hval]
    rw [add_assoc, show (8192 : ℕ) = 7936 + 256 from rfl, Finset.sum_range_add, Finset.sum_range (fun x => ex (s r (7936 + x) - (fun r => max (m r) (top (s r) 8192)) r) * v (7936 + x) j)]
  have hlane : ∀ r l, runLast.sl.v196 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r l) = arg22.view.read (Elt Ideal) X22 (ix2 r l) * ex (m r - (fun r => max (m r) (top (s r) 8192)) r) + ∑ k ∈ Finset.range 64, ex (s r (128 * k + l.val) - (fun r => max (m r) (top (s r) 8192)) r) := by
    intro r l
    show runLast.sl.v192 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r l) + (runLast.sl.v193_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r l) + runLast.sl.v194_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r l)) = _
    rw [hv192, show runLast.sl.v193_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r l) = runLast.sl.r_4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r ⟨l.val, by omega⟩) by unfold runLast.sl.v193_1; pointwise,
      show runLast.sl.v194_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r l) = runLast.sl.r_4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r ⟨128 + l.val, by omega⟩) by unfold runLast.sl.v194_1; pointwise, hp, hp]
    rw [sum_64]
    simp only [show 7936 + (128 + l.val) = 128 * 63 + l.val by omega, show 7936 + l.val = 128 * 62 + l.val by omega, add_assoc]
  have hsum : ∀ r, runLast.sl.v198 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i (ix2 r 0) = ∑ l : Fin 128, (arg22.view.read (Elt Ideal) X22 (ix2 r l) * ex (m r - (fun r => max (m r) (top (s r) 8192)) r) + ∑ k ∈ Finset.range 64, ex (s r (128 * k + l.val) - (fun r => max (m r) (top (s r) 8192)) r)) := by
    intro r
    simp only [← hlane]
    unfold runLast.sl.v198 runLast.sl.v197
    generalize runLast.sl.v196 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X6 X7 X8 X9 X14 X15 X21 X22 X23 c i = w
    pointwise
  have hsc : ∀ r (k : Fin 4), runLast.sl.v208 (F := Ideal) arg11 arg14 X11 X14 (ix2 r k) = s r (8192 + k.val) := by
    intro r k
    rw [← hn r k]
    unfold runLast.sl.v208
    exact new_apply (runLast.sl.r arg14 X14) _ _ _ (fun j => congrFun hq _) (fun d => congrFun (View.readAt_full (Val := Elt Ideal) arg11.view X11 _) _) r k
  have hmx4 : ∀ r, max ((fun r => max (m r) (top (s r) 8192)) r) (runLast.sl.v210 (F := Ideal) arg11 arg14 X11 X14 (ix1 r)) = (fun r => max (max (m r) (top (s r) 8192)) (Finset.univ.sup fun k : Fin 4 => s r (8192 + k.val))) r := by
    intro r
    simp only [← hsc]
    refine congrArg (max _) ?_
    unfold runLast.sl.v210
    generalize runLast.sl.v208 (F := Ideal) arg11 arg14 X11 X14 = w
    pointwise
    rw [minus_inf]
    rfl
  have hm1 : ∀ r, runLast.sl.v209 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 X21 c i (ix2 r 0) = (fun r => max (m r) (top (s r) 8192)) r := by
    intro r
    rw [← hM r 0]
    unfold runLast.sl.v209 runLast.sl.r_1
    generalize k0_pay215 (arg21.view.readAt (Elt Ideal) (Rect.unit (s := S64x128) ![0, 0] S64x128.size Gen.inb_S64x128_S64x128_0_0).toLoadRect X21) (runLast.sl.v65 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X3 X4 X5 X9 X14 c i) = w
    pointwise
    try rfl
  unfold runLast
  dsimp only
  intro r d
  rw [View.read_writes_full]
  refine (pay5_apply _ _ _ _ _ _ (fun r => max (m r) (top (s r) 8192)) (fun r => max (max (m r) (top (s r) 8192)) (Finset.univ.sup fun k : Fin 4 => s r (8192 + k.val))) hm1 hmx4 r d).trans ?_
  simp only [hacc, hsum, hsc]
  rw [View.readAt_full]
  simp only [hvn]

end Cert.KernelIdeal.Hand
-- ==== Proof.Ref.lean ====
/-
  The reference's result, read at an index: the tokens' keys and values, the scores, and one softmax over them.
-/
module

public import proofs.«01_k».proof.Proof.Gen.ReferenceIdeal.Run
public import proofs.«01_k».proof.Proof.PI.Nibbles
public import proofs.«01_k».proof.Proof.Softmax

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Cert.KernelIdeal.Hand (lowHalf highHalf)

/-- The codes of an array of packed bytes, the low and the high half of each. -/
def codesOf (a : IVec S64x65408x1x128 8) : FVec Ideal S64x65408x128x2 .bf16 :=
  sitofp .bf16 (concatenate S64x65408x128x2 3 [⟨S64x65408x128x1, (broadcastInDim S64x65408x128x1 ![0, 1, 2] bcast_S64x65408x128_S64x65408x128x1_0_1_2 (andi (extui 32 (shapeCast _ a shapeCasts_S64x65408x1x128_S64x65408x128) natLt_8_32) (broadcastInDim S64x65408x128 ![] bcast_S_S64x65408x128 (constantI S_ 32 15#32))))⟩, ⟨S64x65408x128x1, (broadcastInDim S64x65408x128x1 ![0, 1, 2] bcast_S64x65408x128_S64x65408x128x1_0_1_2 (Host.shrsi (extui 32 (shapeCast _ a shapeCasts_S64x65408x1x128_S64x65408x128) natLt_8_32) (broadcastInDim S64x65408x128 ![] bcast_S_S64x65408x128 (constantI S_ 32 4#32))))⟩] concatenates_S64x65408x128x1_S64x65408x128x1_S64x65408x128x2_d3)

/-- The cached keys. -/
def keysOf (a : IVec S64x65408x1x128 8) (s z : FVec Ideal S64x2044x1x256 .f32) : FVec Ideal S64x65408x256 .bf16 :=
  shapeCast _ (addf (mulf (shapeCast _ (codesOf a) shapeCasts_S64x65408x128x2_S64x2044x32x256) (broadcastInDim S64x2044x32x256 ![0, 1, 2, 3] bcast_S64x2044x1x256_S64x2044x32x256_0_1_2_3 (truncf .bf16 s bitsLt_bf16_f32))) (broadcastInDim S64x2044x32x256 ![0, 1, 2, 3] bcast_S64x2044x1x256_S64x2044x32x256_0_1_2_3 (truncf .bf16 z bitsLt_bf16_f32))) shapeCasts_S64x2044x32x256_S64x65408x256

/-- The cached values. -/
def valuesOf (a : IVec S64x65408x1x128 8) (s z : FVec Ideal S64x65408x1x8 .f32) : FVec Ideal S64x65408x256 .bf16 :=
  shapeCast _ (addf (mulf (shapeCast _ (codesOf a) shapeCasts_S64x65408x128x2_S64x65408x8x32) (broadcastInDim S64x65408x8x32 ![0, 1, 2, 3] bcast_S64x65408x8x1_S64x65408x8x32_0_1_2_3 (shapeCast _ (truncf .bf16 s bitsLt_bf16_f32) shapeCasts_S64x65408x1x8_S64x65408x8x1))) (broadcastInDim S64x65408x8x32 ![0, 1, 2, 3] bcast_S64x65408x8x1_S64x65408x8x32_0_1_2_3 (shapeCast _ (truncf .bf16 z bitsLt_bf16_f32) shapeCasts_S64x65408x1x8_S64x65408x8x1))) shapeCasts_S64x65408x8x32_S64x65408x256

/-- All the tokens: the cached ones, the tail and the new ones. -/
def allOf (a : FVec Ideal S64x65408x256 .bf16) (b : FVec Ideal S64x128x1x256 .bf16) (d : FVec Ideal S256x256 .bf16) : FVec Ideal S64x65540x256 .bf16 :=
  (concatenate S64x65540x256 1 [⟨S64x65408x256, ((a) : (⟨S64x65408x256, .bf16⟩ : BufTy).Contents (Elt Ideal))⟩, ⟨S64x128x256, ((shapeCast _ b shapeCasts_S64x128x1x256_S64x128x256) : (⟨S64x128x256, .bf16⟩ : BufTy).Contents (Elt Ideal))⟩, ⟨S64x4x256, ((shapeCast _ (transpose S64x4x128x2 [0, 1, 3, 2] (shapeCast _ d shapeCasts_S256x256_S64x4x2x128) transposes_S64x4x2x128_S64x4x128x2_0_1_3_2) shapeCasts_S64x4x128x2_S64x4x256) : (⟨S64x4x256, .bf16⟩ : BufTy).Contents (Elt Ideal))⟩] concatenates_S64x65408x256_S64x128x256_S64x4x256_S64x65540x256_d1 : (⟨S64x65540x256, .bf16⟩ : BufTy).Contents (Elt Ideal))

/-- The masked scores. -/
def scoresOf (x : FVec Ideal S64x4x4096 .bf16) (k : FVec Ideal S64x65540x256 .bf16) : FVec Ideal S64x64x65540 .f32 :=
  select (cmpi .sle (muli (subi (iotaInDim S64x64x65540 32 2) (broadcastInDim S64x64x65540 ![] bcast_S_S64x64x65540 (constantI S_ 32 65536#32))) (broadcastInDim S64x64x65540 ![] bcast_S_S64x64x65540 (constantI S_ 32 16#32))) (iotaInDim S64x64x65540 32 1)) (mulf (Host.dotGeneral dot_S64x64x256_S64x65540x256_S64x64x65540_2_2_1_1_0_0 none (shapeCast _ x shapeCasts_S64x4x4096_S64x64x256) (k)) (broadcastInDim S64x64x65540 ![] bcast_S_S64x64x65540 (constant S_ .f32 0x3D800000#32))) (broadcastInDim S64x64x65540 ![] bcast_S_S64x64x65540 (constant S_ .f32 0xFF800000#32))

/-- The softmax's weighted sum. -/
def outOf (s : FVec Ideal S64x64x65540 .f32) (v : FVec Ideal S64x65540x256 .bf16) : FVec Ideal S64x64x256 .bf16 :=
  truncf .bf16 (Host.divf (Host.dotGeneral dot_S64x64x65540_S64x65540x256_S64x64x256_2_1_1_2_0_0 none (truncf .bf16 (Host.exp (subf (s) (broadcastInDim S64x64x65540 ![0, 1, 2] bcast_S64x64x1_S64x64x65540_0_1_2 (broadcastInDim S64x64x1 ![0, 1] bcast_S64x64_S64x64x1_0_1 (Host.reduce FloatOps.maximumf (s) (constant S_ .f32 0xFF800000#32) reducesTo_S64x64x65540_S64x64_d2 h_S_))))) bitsLt_bf16_f32) (v)) (broadcastInDim S64x64x256 ![0, 1, 2] bcast_S64x64x1_S64x64x256_0_1_2 (broadcastInDim S64x64x1 ![0, 1] bcast_S64x64_S64x64x1_0_1 (Host.reduceAdd (Host.exp (subf (s) (broadcastInDim S64x64x65540 ![0, 1, 2] bcast_S64x64x1_S64x64x65540_0_1_2 (broadcastInDim S64x64x1 ![0, 1] bcast_S64x64_S64x64x1_0_1 (Host.reduce FloatOps.maximumf (s) (constant S_ .f32 0xFF800000#32) reducesTo_S64x64x65540_S64x64_d2 h_S_))))) (constant S_ .f32 0x00000000#32) reducesTo_S64x64x65540_S64x64_d2 h_S_)))) bitsLt_bf16_f32

theorem out0_eq (m : (ℓ : Loc nD τ sig) → Buf (Elt Ideal) ℓ) (c : Dev nD) :
    res_out0 m c = outOf (scoresOf (m ((c.tc : Thread nD τ).loc main_arg0)) (allOf (keysOf (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg9)))) (allOf (valuesOf (m ((c.tc : Thread nD τ).loc main_arg4)) (m ((c.tc : Thread nD τ).loc main_arg5)) (m ((c.tc : Thread nD τ).loc main_arg6))) (m ((c.tc : Thread nD τ).loc main_arg8)) (m ((c.tc : Thread nD τ).loc main_arg10))) := by
  unfold res_out0 res_main_v72 outOf scoresOf allOf keysOf valuesOf codesOf
  rfl

theorem codesOf_apply (a : IVec S64x65408x1x128 8) (b : Fin 64) (t : Fin 65408) (l : Fin 128) (p : Fin 2) :
    codesOf a (ix4 b t l p) = if p.val = 0 then lowHalf (a (ix4 b t 0 l)) else highHalf (a (ix4 b t 0 l)) := by
  unfold codesOf
  pointwise
  generalize a (ix4 b t 0 l) = w
  have h0 : ∀ w : BitVec 8, (IntOp.andi (BitVec.setWidth 32 w) 15#32).toInt = ((w.toNat % 16 : ℕ) : ℤ) := by decide
  have h1 : ∀ w : BitVec 8, (IntOp.shrsi ArithUnit.host (BitVec.setWidth 32 w) 4#32).toInt = ((w.toNat / 16 : ℕ) : ℤ) := by decide
  by_cases hp : p.val = 0
  · rw [dif_pos (by omega), if_pos hp]
    show (((IntOp.andi (BitVec.setWidth 32 w) 15#32).toInt : ℝ) : EReal) = _
    rw [h0]; unfold lowHalf; norm_cast
  · rw [dif_neg (by omega), if_neg hp]
    show (((IntOp.shrsi ArithUnit.host (BitVec.setWidth 32 w) 4#32).toInt : ℝ) : EReal) = _
    rw [h1]; unfold highHalf; norm_cast

theorem keysOf_apply (a : IVec S64x65408x1x128 8) (s z : FVec Ideal S64x2044x1x256 .f32) (b : Fin 64) (t : Fin 65408) (d : Fin 256) :
    keysOf a s z (ix3 b t d) = (if d.val % 2 = 0 then lowHalf (a (ix4 b t 0 ⟨d / 2, by omega⟩)) else highHalf (a (ix4 b t 0 ⟨d / 2, by omega⟩)))
      * s (ix4 b ⟨t / 32, by omega⟩ 0 d) + z (ix4 b ⟨t / 32, by omega⟩ 0 d) := by
  unfold keysOf
  pointwise [codesOf_apply]

theorem valuesOf_apply (a : IVec S64x65408x1x128 8) (s z : FVec Ideal S64x65408x1x8 .f32) (b : Fin 64) (t : Fin 65408) (d : Fin 256) :
    valuesOf a s z (ix3 b t d) = (if d.val % 2 = 0 then lowHalf (a (ix4 b t 0 ⟨d / 2, by omega⟩)) else highHalf (a (ix4 b t 0 ⟨d / 2, by omega⟩)))
      * s (ix4 b t 0 ⟨d / 32, by omega⟩) + z (ix4 b t 0 ⟨d / 32, by omega⟩) := by
  unfold valuesOf
  pointwise [codesOf_apply]
  have h1 : d.val % 32 % 2 = d.val % 2 := by omega
  have h2 : (⟨d.val / 32 * 16 + d.val % 32 / 2, by omega⟩ : Fin 128) = ⟨d / 2, by omega⟩ := Fin.ext (by show d.val / 32 * 16 + d.val % 32 / 2 = d.val / 2; omega)
  simp only [h1, h2]

theorem allOf_apply (a : FVec Ideal S64x65408x256 .bf16) (b : FVec Ideal S64x128x1x256 .bf16) (d : FVec Ideal S256x256 .bf16) (i : Fin 64) (t : Fin 65540) (e : Fin 256) :
    allOf a b d (ix3 i t e) = if h : t.val < 65408 then a (ix3 i ⟨t, h⟩ e) else if h' : t.val < 65536 then b (ix4 i ⟨t - 65408, by omega⟩ 0 e)
      else d (ix2 ⟨4 * i + (t - 65536), by omega⟩ ⟨128 * (e % 2) + e / 2, by omega⟩) := by
  unfold allOf
  pointwise
  split
  · rfl
  · by_cases h : t.val < 65536
    · rw [dif_pos (by omega), dif_pos h]
    · rw [dif_neg (by omega), dif_neg h]
      exact congrArg₂ (fun p q => d (ix2 p q)) (Fin.ext (by show i.val * 4 + (t.val - 65408 - 128) = 4 * i.val + (t.val - 65536); omega))
        (Fin.ext (by show e.val % 2 * 128 + e.val / 2 = 128 * (e.val % 2) + e.val / 2; omega))

/-- Which tokens a row sees. -/
theorem mask_iff (t : Fin 65540) (r : Fin 64) :
    IntOp.cmpi CmpIPredicate.sle (IntOp.muli (IntOp.subi (BitVec.ofNat 32 t.val) 65536#32) 16#32) (BitVec.ofNat 32 r.val)
      = if t.val < 65536 ∨ (t.val - 65536) * 16 ≤ r.val then 1#1 else 0#1 := by
  have h1 : (BitVec.ofNat 32 r.val).toInt = r.val := by
    rw [BitVec.toInt_eq_toNat_cond, BitVec.toNat_ofNat]; split <;> omega
  have h2 : (IntOp.muli (IntOp.subi (BitVec.ofNat 32 t.val) 65536#32) 16#32).toInt = ((t.val : ℤ) - 65536) * 16 := by
    show ((BitVec.ofNat 32 t.val - 65536#32) * 16#32).toInt = _
    have e0 : (BitVec.ofNat 32 t.val).toInt = t.val := by
      rw [BitVec.toInt_eq_toNat_cond, BitVec.toNat_ofNat]; split <;> omega
    rw [BitVec.toInt_mul, BitVec.toInt_sub, e0]
    have e1 : (65536#32).toInt = 65536 := by decide
    have e2 : (16#32).toInt = 16 := by decide
    rw [e1, e2]
    have e4 : (((t.val : ℤ) - 65536).bmod (2 ^ 32)) = (t.val : ℤ) - 65536 := Int.bmod_eq_of_le (by norm_num; omega) (by norm_num; omega)
    rw [e4]
    exact Int.bmod_eq_of_le (by norm_num; omega) (by norm_num; omega)
  have h3 : IntOp.cmpi CmpIPredicate.sle (IntOp.muli (IntOp.subi (BitVec.ofNat 32 t.val) 65536#32) 16#32) (BitVec.ofNat 32 r.val)
      = BitVec.ofBool (decide ((IntOp.muli (IntOp.subi (BitVec.ofNat 32 t.val) 65536#32) 16#32).toInt ≤ (BitVec.ofNat 32 r.val).toInt)) := rfl
  rw [h3, h2, h1]
  by_cases h : t.val < 65536 ∨ (t.val - 65536) * 16 ≤ r.val
  · rw [if_pos h, decide_eq_true (by omega)]; rfl
  · rw [if_neg h, decide_eq_false (by omega)]; rfl

/-- The score of a token, before it is scaled. -/
def dotOf (x : FVec Ideal S64x4x4096 .bf16) (k : FVec Ideal S64x65540x256 .bf16) (b r : Fin 64) (t : Fin 65540) : EReal :=
  ∑ d : Fin 256, x (ix3 b ⟨r / 16, by omega⟩ ⟨r % 16 * 256 + d, by omega⟩) * k (ix3 b t d)

/-- The masked scores of a row, over all natural numbers. -/
def seqOf (x : FVec Ideal S64x4x4096 .bf16) (k : FVec Ideal S64x65540x256 .bf16) (b r : Fin 64) (n : ℕ) : EReal :=
  if h : n < 65540 then (if n < 65536 ∨ (n - 65536) * 16 ≤ r.val then dotOf x k b r ⟨n, h⟩ else ⊥) else ⊥

/-- A channel of the values, over all natural numbers. -/
def chanOf (v : FVec Ideal S64x65540x256 .bf16) (b : Fin 64) (d : Fin 256) (n : ℕ) : EReal :=
  if h : n < 65540 then v (ix3 b ⟨n, h⟩ d) else 0

theorem scoresOf_apply (x : FVec Ideal S64x4x4096 .bf16) (k : FVec Ideal S64x65540x256 .bf16) (b r : Fin 64) (t : Fin 65540) :
    scoresOf x k (ix3 b r t) = seqOf x k b r t * ((16⁻¹ : ℝ) : EReal) := by
  generalize hq : seqOf x k b r t.val = q
  unfold scoresOf
  pointwise
  rw [← hq]
  unfold seqOf dotOf
  rw [mask_iff, Cert.Softmax.minus_inf, Cert.Softmax.one_sixteenth, dif_pos t.isLt]
  by_cases h : t.val < 65536 ∨ (t.val - 65536) * 16 ≤ r.val
  · rw [if_pos h, if_pos h]; rfl
  · rw [if_neg h, if_neg h, EReal.bot_mul_coe_of_pos (by norm_num)]; rfl

theorem sum_all (f : ℕ → EReal) : ∑ x : Fin 65540, f x = ∑ t ∈ Finset.range 65540, f t := Fin.sum_univ_eq_sum_range f 65540

theorem sup_all (f : ℕ → EReal) : Finset.fold max ⊥ (fun x : Fin 65540 => f x * ((16⁻¹ : ℝ) : EReal)) Finset.univ = Cert.Softmax.top f 65540 * ((16⁻¹ : ℝ) : EReal) := by
  have h : ∀ g : Fin 65540 → EReal, Finset.fold max ⊥ g Finset.univ = Finset.univ.sup g := fun _ => rfl
  have hc : (0 : EReal) ≤ ((16⁻¹ : ℝ) : EReal) := by exact_mod_cast (by norm_num : (0 : ℝ) ≤ 16⁻¹)
  have hm : Monotone fun a : EReal => a * ((16⁻¹ : ℝ) : EReal) := fun a b hab => mul_le_mul_of_nonneg_right hab hc
  have h2 : (Finset.univ.sup fun x : Fin 65540 => f x) = Cert.Softmax.top f 65540 := by
    unfold Cert.Softmax.top
    apply le_antisymm
    · exact Finset.sup_le fun x _ => Finset.le_sup (f := f) (Finset.mem_range.2 x.isLt)
    · exact Finset.sup_le fun t ht => Finset.le_sup (f := fun x : Fin 65540 => f x) (Finset.mem_univ (⟨t, Finset.mem_range.1 ht⟩ : Fin 65540))
  rw [h, ← h2]
  exact (Finset.comp_sup_eq_sup_comp (fun a : EReal => a * ((16⁻¹ : ℝ) : EReal)) (fun a b => hm.map_max) (EReal.bot_mul_coe_of_pos (by norm_num))).symm

/-- The reference's result. -/
theorem outOf_apply (x : FVec Ideal S64x4x4096 .bf16) (k v : FVec Ideal S64x65540x256 .bf16) (b r : Fin 64) (d : Fin 256) :
    outOf (scoresOf x k) v (ix3 b r d)
      = Ideal.div (Cert.Softmax.wsum (seqOf x k b r) (chanOf v b d) (Cert.Softmax.top (seqOf x k b r) 65540) 65540)
          (Cert.Softmax.wsum (seqOf x k b r) (fun _ => 1) (Cert.Softmax.top (seqOf x k b r) 65540) 65540) := by
  unfold outOf
  pointwise [scoresOf_apply]
  rw [Cert.Softmax.minus_inf, sup_all]
  have hle : ∀ t : Fin 65540, seqOf x k b r t ≤ Cert.Softmax.top (seqOf x k b r) 65540 := fun t => Cert.Softmax.le_top' _ t.isLt
  simp only [fun t : Fin 65540 => Cert.Softmax.exp_scaled_sub (hle t)]
  have hv : ∀ t : Fin 65540, v (ix3 b t d) = chanOf v b d t := fun t => by unfold chanOf; rw [dif_pos t.isLt]
  simp only [hv]
  unfold Cert.Softmax.wsum
  rw [sum_all fun n => Cert.Softmax.ex (seqOf x k b r n - Cert.Softmax.top (seqOf x k b r) 65540) * chanOf v b d n,
    sum_all fun n => Cert.Softmax.ex (seqOf x k b r n - Cert.Softmax.top (seqOf x k b r) 65540)]
  simp only [mul_one]

end Cert.ReferenceIdeal.Hand

end
-- ==== Proof.PI.Seq.lean ====
/-
  The scores and the values a block's points see, as pieces of the reference's sequences.
-/
module

public import proofs.«01_k».proof.Proof.PI.PointLast
public import proofs.«01_k».proof.Proof.Ref

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Cert.Softmax
open Cert.ReferenceIdeal.Hand (keysOf valuesOf allOf scoresOf outOf seqOf chanOf dotOf keysOf_apply valuesOf_apply allOf_apply outOf_apply)

/-- A cached key as the kernel computes it is the reference's, channels reordered. -/
theorem key_entry {k : ℕ} (b : Fin 64) {y1 : Vec Ideal S1x8192x128 .i8} {y2 y3 : Vec Ideal S1x512x128 .f32}
    (a : Vec Ideal S64x65408x1x128 .i8) (s z : Vec Ideal S64x2044x1x256 .f32)
    (h1 : ∀ (u : Fin 8192) (l : Fin 128) (n : Fin 65408), 8192 * k + u.val = n.val → y1 (ix3 0 u l) = a (ix4 b n 0 l))
    (h2 : ∀ (u : Fin 512) (l : Fin 128) (n : Fin 4088), 512 * k + u.val = n.val → y2 (ix3 0 u l) = s (ix4 b ⟨n / 2, by omega⟩ 0 ⟨n % 2 * 128 + l, by omega⟩))
    (h3 : ∀ (u : Fin 512) (l : Fin 128) (n : Fin 4088), 512 * k + u.val = n.val → y3 (ix3 0 u l) = z (ix4 b ⟨n / 2, by omega⟩ 0 ⟨n % 2 * 128 + l, by omega⟩))
    (u : Fin 8192) (n : Fin 65408) (hn : 8192 * k + u.val = n.val) (j : Fin 256) :
    keyEntry y1 (tab y2 0) (tab y3 0) (tab y2 1) (tab y3 1) u j = keysOf a s z (ix3 b n (chan j)) := by
  have ht : ∀ (y : Vec Ideal S1x512x128 .f32) (x : Vec Ideal S64x2044x1x256 .f32)
      (_ : ∀ (u : Fin 512) (l : Fin 128) (n : Fin 4088), 512 * k + u.val = n.val → y (ix3 0 u l) = x (ix4 b ⟨n / 2, by omega⟩ 0 ⟨n % 2 * 128 + l, by omega⟩))
      (p : Fin 2) (l : Fin 128), tab y p ⟨u / 32, by omega⟩ l = x (ix4 b ⟨n / 32, by omega⟩ 0 ⟨2 * l + p, by omega⟩) := by
    intro y x h p l
    unfold tab
    rw [h _ _ ⟨2 * (n / 32) + l.val / 64, by omega⟩ (by show 512 * k + (2 * (u.val / 32) + l.val / 64) = 2 * (n.val / 32) + l.val / 64; omega)]
    have e1 : (⟨(2 * (n.val / 32) + l.val / 64) / 2, by omega⟩ : Fin 2044) = ⟨n.val / 32, by omega⟩ := Fin.ext (by show _ / 2 = _ / 32; omega)
    have e2 : (⟨(2 * (n.val / 32) + l.val / 64) % 2 * 128 + (2 * (l.val % 64) + p.val), by omega⟩ : Fin 256) = ⟨2 * l.val + p.val, by omega⟩ :=
      Fin.ext (by show _ % 2 * 128 + _ = 2 * _ + _; omega)
    exact congrArg₂ (fun i e => x (ix4 b i 0 e)) e1 e2
  rw [keysOf_apply]
  unfold keyEntry keyAt chan
  split
  · next hj =>
    dsimp only
    rw [ht y2 s h2, ht y3 z h3, h1 u ⟨j, hj⟩ n hn, if_pos (show 2 * j.val % 2 = 0 by omega)]
    have e : (⟨2 * j.val / 2, by omega⟩ : Fin 128) = ⟨j, hj⟩ := Fin.ext (by show 2 * j.val / 2 = j.val; omega)
    exact congrArg (fun l => lowHalf (a (ix4 b n 0 l)) * s (ix4 b ⟨n / 32, by omega⟩ 0 ⟨2 * j, by omega⟩) + z (ix4 b ⟨n / 32, by omega⟩ 0 ⟨2 * j, by omega⟩)) e.symm
  · next hj =>
    dsimp only
    rw [ht y2 s h2, ht y3 z h3, h1 u ⟨j - 128, by omega⟩ n hn, if_neg (show ¬(2 * (j.val - 128) + 1) % 2 = 0 by omega)]
    have e : (⟨(2 * (j.val - 128) + 1) / 2, by omega⟩ : Fin 128) = ⟨j - 128, by omega⟩ := Fin.ext (by show (2 * (j.val - 128) + 1) / 2 = j.val - 128; omega)
    exact congrArg (fun l => highHalf (a (ix4 b n 0 l)) * s (ix4 b ⟨n / 32, by omega⟩ 0 ⟨2 * (j - 128) + 1, by omega⟩) + z (ix4 b ⟨n / 32, by omega⟩ 0 ⟨2 * (j - 128) + 1, by omega⟩)) e.symm

/-- A cached value as the kernel computes it is the reference's, channels reordered. -/
theorem value_entry {k : ℕ} (b : Fin 64) {y1 : Vec Ideal S1x8192x128 .i8} {y2 y3 : Vec Ideal S1x8x8192 .f32}
    (a : Vec Ideal S64x65408x1x128 .i8) (s z : Vec Ideal S64x65408x1x8 .f32)
    (h1 : ∀ (u : Fin 8192) (l : Fin 128) (n : Fin 65408), 8192 * k + u.val = n.val → y1 (ix3 0 u l) = a (ix4 b n 0 l))
    (h2 : ∀ (u : Fin 8192) (l : Fin 8) (n : Fin 65408), 8192 * k + u.val = n.val → y2 (ix3 0 l u) = s (ix4 b n 0 l))
    (h3 : ∀ (u : Fin 8192) (l : Fin 8) (n : Fin 65408), 8192 * k + u.val = n.val → y3 (ix3 0 l u) = z (ix4 b n 0 l))
    (u : Fin 8192) (n : Fin 65408) (hn : 8192 * k + u.val = n.val) (j : Fin 256) :
    valueEntry y1 y2 y3 u j = valuesOf a s z (ix3 b n (chan j)) := by
  rw [valuesOf_apply]
  unfold valueEntry keyAt chan
  split
  · next hj =>
    dsimp only
    rw [h2 u _ n hn, h3 u _ n hn, h1 u ⟨j, hj⟩ n hn, if_pos (show 2 * j.val % 2 = 0 by omega)]
    have e : (⟨2 * j.val / 2, by omega⟩ : Fin 128) = ⟨j, hj⟩ := Fin.ext (by show 2 * j.val / 2 = j.val; omega)
    have e' : (⟨2 * j.val / 32, by omega⟩ : Fin 8) = ⟨j.val / 16, by omega⟩ := Fin.ext (by show 2 * j.val / 32 = j.val / 16; omega)
    exact congrArg₂ (fun l g => lowHalf (a (ix4 b n 0 l)) * s (ix4 b n 0 g) + z (ix4 b n 0 g)) e.symm e'.symm
  · next hj =>
    dsimp only
    rw [h2 u _ n hn, h3 u _ n hn, h1 u ⟨j - 128, by omega⟩ n hn, if_neg (show ¬(2 * (j.val - 128) + 1) % 2 = 0 by omega)]
    have e : (⟨(2 * (j.val - 128) + 1) / 2, by omega⟩ : Fin 128) = ⟨j - 128, by omega⟩ := Fin.ext (by show (2 * (j.val - 128) + 1) / 2 = j.val - 128; omega)
    have e' : (⟨(2 * (j.val - 128) + 1) / 32, by omega⟩ : Fin 8) = ⟨(j.val - 128) / 16, by omega⟩ := Fin.ext (by show (2 * (j.val - 128) + 1) / 32 = (j.val - 128) / 16; omega)
    exact congrArg₂ (fun l g => highHalf (a (ix4 b n 0 l)) * s (ix4 b n 0 g) + z (ix4 b n 0 g)) e.symm e'.symm

/-! ## The scores -/

/-- A row of the query, channels reordered. -/
def queryAt (x : Vec Ideal S64x4x4096 .bf16) (b r : Fin 64) (j : Fin 256) : EReal := x (ix3 b ⟨r / 16, by omega⟩ ⟨r % 16 * 256 + chan j, by omega⟩)

/-- A score, its sum in the kernel's order. -/
theorem score_seq (x : Vec Ideal S64x4x4096 .bf16) (k : Vec Ideal Cert.ReferenceIdeal.S64x65540x256 .bf16) (b r : Fin 64) (n : Fin 65540)
    (hv : n.val < 65536 ∨ (n.val - 65536) * 16 ≤ r.val) (f g : Fin 256 → EReal) (hf : ∀ j, f j = queryAt x b r j) (hg : ∀ j, g j = k (ix3 b n (chan j))) :
    ∑ j : Fin 256, f j * g j = seqOf x k b r n := by
  unfold seqOf
  rw [dif_pos n.isLt, if_pos hv]
  unfold dotOf
  refine Eq.trans (Finset.sum_congr rfl fun j _ => ?_) (sum_chan fun d => x (ix3 b ⟨r / 16, by omega⟩ ⟨r % 16 * 256 + d, by omega⟩) * k (ix3 b n d))
  rw [hf, hg]
  rfl

theorem score_masked (x : Vec Ideal S64x4x4096 .bf16) (k : Vec Ideal Cert.ReferenceIdeal.S64x65540x256 .bf16) (b r : Fin 64) (n : Fin 65540)
    (hv : ¬(n.val < 65536 ∨ (n.val - 65536) * 16 ≤ r.val)) : seqOf x k b r n = ⊥ := by
  unfold seqOf
  rw [dif_pos n.isLt, if_neg hv]

/-! ## One block more -/

theorem top_block (s : ℕ → EReal) (k : ℕ) : max (top s (8192 * k)) (top (fun n => s (8192 * k + n)) 8192) = top s (8192 * (k + 1)) :=
  (top_add s (8192 * k) 8192).symm

theorem wsum_block (s w : ℕ → EReal) (k : ℕ) :
    wsum s w (top s (8192 * k)) (8192 * k) * ex (top s (8192 * k) - top s (8192 * (k + 1)))
        + ∑ t ∈ Finset.range 8192, ex (s (8192 * k + t) - top s (8192 * (k + 1))) * w (8192 * k + t)
      = wsum s w (top s (8192 * (k + 1))) (8192 * (k + 1)) := wsum_step s w (8192 * k) 8192

theorem lane_block (s : ℕ → EReal) (l : Fin 128) (k : ℕ) :
    wsum s (lane l) (top s (8192 * k)) (8192 * k) * ex (top s (8192 * k) - top s (8192 * (k + 1)))
        + ∑ i ∈ Finset.range 64, ex (s (8192 * k + (128 * i + l.val)) - top s (8192 * (k + 1)))
      = wsum s (lane l) (top s (8192 * (k + 1))) (8192 * (k + 1)) := by
  rw [← wsum_block, ← sum_lane (fun i => ex (s (8192 * k + i) - top s (8192 * (k + 1)))) (8192 * k) 64 (by omega) l]

theorem wsum_first (s w : ℕ → EReal) (m : EReal) : ∑ t ∈ Finset.range 8192, ex (s t - m) * w t = wsum s w m 8192 := rfl

theorem lane_first (s : ℕ → EReal) (l : Fin 128) (m : EReal) : ∑ i ∈ Finset.range 64, ex (s (128 * i + l.val) - m) = wsum s (lane l) m 8192 := by
  rw [← sum_lane (fun i => ex (s i - m)) 0 64 rfl l]
  unfold wsum
  simp only [zero_add]

/-- The new tokens. -/
theorem top_new (s : ℕ → EReal) : max (top s 65536) (Finset.univ.sup fun k : Fin 4 => s (65536 + k.val)) = top s 65540 := by
  rw [show (65540 : ℕ) = 65536 + 4 from rfl, top_add]
  refine congrArg (max _) ?_
  simp only [Finset.range, Finset.sup]
  rfl

theorem wsum_new (s w : ℕ → EReal) :
    wsum s w (top s 65536) 65536 * ex (top s 65536 - top s 65540) + ∑ k : Fin 4, ex (s (65536 + k.val) - top s 65540) * w (65536 + k.val)
      = wsum s w (top s 65540) 65540 := by
  rw [← Finset.sum_range (fun k => ex (s (65536 + k) - top s 65540) * w (65536 + k))]
  exact wsum_step s w 65536 4

end Cert.KernelIdeal.Hand

end
-- ==== Proof.PI.Value.lean ====
/-
  The invariant of the attention's grid: after a batch's first blocks, the running maximum, the lanes' totals and the
  accumulator are those of the tokens seen; after its last block, the output is the reference's.
-/
module

public import proofs.«01_k».proof.Proof.PI.Seq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Softmax
open Cert.ReferenceIdeal.Hand (keysOf valuesOf allOf scoresOf outOf seqOf chanOf allOf_apply outOf_apply)

theorem leavesMiddle_mono {c : Dev nD} {i : grid0.Coords} {hf : ¬First i} {hl : ¬Last i} {y2 : Vec Ideal S1x64x256 .bf16} {y3 : Vec Ideal S1x8192x128 .i8} {y4 : Vec Ideal S1x512x128 .f32} {y5 : Vec Ideal S1x512x128 .f32} {y6 : Vec Ideal S1x8192x128 .i8} {y7 : Vec Ideal S1x8x8192 .f32} {y8 : Vec Ideal S1x8x8192 .f32} {y9 : Vec Ideal S1x128x256 .bf16} {y10 : Vec Ideal S1x128x256 .bf16} {y11 : Vec Ideal S1x4x256 .bf16} {y12 : Vec Ideal S1x4x256 .bf16} {y13 : Vec Ideal S1x64x256 .bf16} {y14 : Vec Ideal S64x256 .bf16} {y21 : Vec Ideal S64x128 .f32} {y22 : Vec Ideal S64x128 .f32} {y23 : Vec Ideal S64x256 .f32} {A B : After Ideal}
    (h : LeavesMiddle y2 y3 y4 y5 y6 y7 y8 y9 y10 y11 y12 y13 y14 y21 y22 y23 c i hf hl A) (hAB : ∀ a b c d e, A a b c d e → B a b c d e) : LeavesMiddle y2 y3 y4 y5 y6 y7 y8 y9 y10 y11 y12 y13 y14 y21 y22 y23 c i hf hl B := by
  unfold LeavesMiddle at h ⊢
  intros
  apply hAB
  apply h <;> assumption

theorem leavesFirst_mono {c : Dev nD} {i : grid0.Coords} {hf : First i} {hl : ¬Last i} {y2 : Vec Ideal S1x64x256 .bf16} {y3 : Vec Ideal S1x8192x128 .i8} {y4 : Vec Ideal S1x512x128 .f32} {y5 : Vec Ideal S1x512x128 .f32} {y6 : Vec Ideal S1x8192x128 .i8} {y7 : Vec Ideal S1x8x8192 .f32} {y8 : Vec Ideal S1x8x8192 .f32} {y9 : Vec Ideal S1x128x256 .bf16} {y10 : Vec Ideal S1x128x256 .bf16} {y11 : Vec Ideal S1x4x256 .bf16} {y12 : Vec Ideal S1x4x256 .bf16} {y13 : Vec Ideal S1x64x256 .bf16} {y14 : Vec Ideal S64x256 .bf16} {y21 : Vec Ideal S64x128 .f32} {y22 : Vec Ideal S64x128 .f32} {y23 : Vec Ideal S64x256 .f32} {A B : After Ideal}
    (h : LeavesFirst y2 y3 y4 y5 y6 y7 y8 y9 y10 y11 y12 y13 y14 y21 y22 y23 c i hf hl A) (hAB : ∀ a b c d e, A a b c d e → B a b c d e) : LeavesFirst y2 y3 y4 y5 y6 y7 y8 y9 y10 y11 y12 y13 y14 y21 y22 y23 c i hf hl B := by
  unfold LeavesFirst at h ⊢
  intros
  apply hAB
  apply h <;> assumption

theorem leavesLast_mono {c : Dev nD} {i : grid0.Coords} {hf : ¬First i} {hl : Last i} {y2 : Vec Ideal S1x64x256 .bf16} {y3 : Vec Ideal S1x8192x128 .i8} {y4 : Vec Ideal S1x512x128 .f32} {y5 : Vec Ideal S1x512x128 .f32} {y6 : Vec Ideal S1x8192x128 .i8} {y7 : Vec Ideal S1x8x8192 .f32} {y8 : Vec Ideal S1x8x8192 .f32} {y9 : Vec Ideal S1x128x256 .bf16} {y10 : Vec Ideal S1x128x256 .bf16} {y11 : Vec Ideal S1x4x256 .bf16} {y12 : Vec Ideal S1x4x256 .bf16} {y13 : Vec Ideal S1x64x256 .bf16} {y14 : Vec Ideal S64x256 .bf16} {y21 : Vec Ideal S64x128 .f32} {y22 : Vec Ideal S64x128 .f32} {y23 : Vec Ideal S64x256 .f32} {A B : After Ideal}
    (h : LeavesLast y2 y3 y4 y5 y6 y7 y8 y9 y10 y11 y12 y13 y14 y21 y22 y23 c i hf hl A) (hAB : ∀ a b c d e, A a b c d e → B a b c d e) : LeavesLast y2 y3 y4 y5 y6 y7 y8 y9 y10 y11 y12 y13 y14 y21 y22 y23 c i hf hl B := by
  unfold LeavesLast at h ⊢
  intros
  apply hAB
  apply h <;> assumption

/-! ## The reference's tokens -/

theorem all_cached (a : Vec Ideal Cert.ReferenceIdeal.S64x65408x256 .bf16) (b : Vec Ideal S64x128x1x256 .bf16) (d : Vec Ideal S256x256 .bf16) (i : Fin 64) (n : Fin 65408) (e : Fin 256) :
    allOf a b d (ix3 i ⟨n, by omega⟩ e) = a (ix3 i n e) := by
  rw [allOf_apply, dif_pos n.isLt]

theorem all_tail (a : Vec Ideal Cert.ReferenceIdeal.S64x65408x256 .bf16) (b : Vec Ideal S64x128x1x256 .bf16) (d : Vec Ideal S256x256 .bf16) (i : Fin 64) (u : Fin 128) (e : Fin 256) :
    allOf a b d (ix3 i ⟨65408 + u, by omega⟩ e) = b (ix4 i u 0 e) := by
  rw [allOf_apply, dif_neg (by show ¬65408 + u.val < 65408; omega), dif_pos (by show 65408 + u.val < 65536; omega)]
  exact congrArg (fun v => b (ix4 i v 0 e)) (Fin.ext (by show 65408 + u.val - 65408 = u.val; omega))

theorem all_new (a : Vec Ideal Cert.ReferenceIdeal.S64x65408x256 .bf16) (b : Vec Ideal S64x128x1x256 .bf16) (d : Vec Ideal S256x256 .bf16) (i : Fin 64) (u : Fin 4) (j : Fin 256) :
    allOf a b d (ix3 i ⟨65536 + u, by omega⟩ (chan j)) = d (ix2 ⟨i * 4 + u, by omega⟩ j) := by
  rw [allOf_apply, dif_neg (by show ¬65536 + u.val < 65408; omega), dif_neg (by show ¬65536 + u.val < 65536; omega)]
  have e : (⟨128 * ((chan j).val % 2) + (chan j).val / 2, by omega⟩ : Fin 256) = j :=
    (Fin.ext (by show 128 * _ + _ = _ / 2 + 128 * _; omega)).trans (slot_chan j)
  exact congrArg₂ (fun v w => d (ix2 v w)) (Fin.ext (by show 4 * i.val + (65536 + u.val - 65536) = i.val * 4 + u.val; omega)) e

variable (m : (ℓ : Loc nD τ sig) → Buf (Elt Ideal) ℓ) (c : Dev nD)

/-- The query, all the keys and all the values, of the arguments as launched. -/
def xOf : Vec Ideal S64x4x4096 .bf16 := m ((c.tc : Thread nD τ).loc main_arg0)

def keysAll : Vec Ideal Cert.ReferenceIdeal.S64x65540x256 .bf16 :=
  allOf (keysOf (m ((c.tc : Thread nD τ).loc main_arg1)) (m ((c.tc : Thread nD τ).loc main_arg2)) (m ((c.tc : Thread nD τ).loc main_arg3)))
    (m ((c.tc : Thread nD τ).loc main_arg7)) (m ((c.tc : Thread nD τ).loc main_arg9))

def valuesAll : Vec Ideal Cert.ReferenceIdeal.S64x65540x256 .bf16 :=
  allOf (valuesOf (m ((c.tc : Thread nD τ).loc main_arg4)) (m ((c.tc : Thread nD τ).loc main_arg5)) (m ((c.tc : Thread nD τ).loc main_arg6)))
    (m ((c.tc : Thread nD τ).loc main_arg8)) (m ((c.tc : Thread nD τ).loc main_arg10))

/-- The scores of a row and a channel of the values, over all tokens. -/
def sc (b r : Fin 64) : ℕ → EReal := seqOf (xOf m c) (keysAll m c) b r
def ch (b : Fin 64) (d : Fin 256) : ℕ → EReal := chanOf (valuesAll m c) b d

/-- The attention's result. -/
def target : Vec Ideal S64x64x256 .bf16 := outOf (scoresOf (xOf m c) (keysAll m c)) (valuesAll m c)

/-- What is carried after `k` blocks of a batch. -/
structure Holds (b : Fin 64) (k : ℕ) (z14 : Vec Ideal S64x256 .bf16) (z21 z22 : Vec Ideal S64x128 .f32) (z23 : Vec Ideal S64x256 .f32) : Prop where
  query : ∀ r j, z14 (ix2 r j) = queryAt (xOf m c) b r j
  best : ∀ r l, z21 (ix2 r l) = top (sc m c b r) (8192 * k)
  total : ∀ r l, z22 (ix2 r l) = wsum (sc m c b r) (lane l) (top (sc m c b r) (8192 * k)) (8192 * k)
  acc : ∀ r j, z23 (ix2 r j) = wsum (sc m c b r) (ch m c b (chan j)) (top (sc m c b r) (8192 * k)) (8192 * k)

def carried : Says Ideal where
  Inv c n z14 z21 z22 z23 := ∀ (b : Fin 64) (k : ℕ), n / 8 = b.val → n % 8 = k → k ≠ 0 → Holds m c b k z14 z21 z22 z23
  Out c t X := t.val % 8 = 7 → ∀ b : Fin 64, t.val / 8 = b.val → ∀ r d, X (ix3 0 r d) = target m c (ix3 b r d)

variable {m c}

/-- A channel of the values at a token. -/
theorem ch_apply (b : Fin 64) (d : Fin 256) (n : Fin 65540) : ch m c b d n = valuesAll m c (ix3 b n d) := by
  unfold ch chanOf
  rw [dif_pos n.isLt]

section Point

variable {t : Fin cfg0.N} {Y : (w : Fin cfg0.W) → (cfg0.win w).block.Idx → Elt Ideal (cfg0.win w).elt}
  (hY : ∀ w, (rdat m (carried m) c).Finds w t (Y w)) {b : Fin 64} (hb : t.val / 8 = b.val) {k : ℕ} (hk : t.val % 8 = k)
  {q : Vec Ideal S64x256 .bf16} (hq : ∀ r j, q (ix2 r j) = queryAt (xOf m c) b r j)

include hY hb hk

theorem score_cached (hq : ∀ r j, q (ix2 r j) = queryAt (xOf m c) b r j) (r : Fin 64) (u : Fin 8192) (hu : 8192 * k + u.val < 65408) :
    score q (keyEntry (Y 1) (tab (Y 2) 0) (tab (Y 3) 0) (tab (Y 2) 1) (tab (Y 3) 1)) r u = sc m c b r (8192 * k + u.val) := by
  subst hk
  exact score_seq (xOf m c) (keysAll m c) b r ⟨8192 * (t.val % 8) + u.val, by omega⟩ (Or.inl (by show 8192 * (t.val % 8) + u.val < 65536; omega)) _ _ (hq r) fun j =>
    (key_entry b _ _ _ (fun u l n hn => found_1 (hY 1) b hb u l n hn) (fun u l n hn => found_2 (hY 2) b hb u l n hn)
      (fun u l n hn => found_3 (hY 3) b hb u l n hn) u ⟨8192 * (t.val % 8) + u.val, hu⟩ rfl j).trans (all_cached _ _ _ b ⟨8192 * (t.val % 8) + u.val, hu⟩ (chan j)).symm

theorem value_cached (u : Fin 8192) (j : Fin 256) (hu : 8192 * k + u.val < 65408) :
    valueEntry (Y 4) (Y 5) (Y 6) u j = ch m c b (chan j) (8192 * k + u.val) := by
  subst hk
  refine Eq.trans ?_ (ch_apply b (chan j) ⟨8192 * (t.val % 8) + u.val, by omega⟩).symm
  exact (value_entry b _ _ _ (fun u l n hn => found_4 (hY 4) b hb u l n hn) (fun u l n hn => found_5 (hY 5) b hb u l n hn)
      (fun u l n hn => found_6 (hY 6) b hb u l n hn) u ⟨8192 * (t.val % 8) + u.val, hu⟩ rfl j).trans (all_cached _ _ _ b ⟨8192 * (t.val % 8) + u.val, hu⟩ (chan j)).symm

omit hk

theorem query_found (r : Fin 64) (j : Fin 256) : (Y 0 : Vec Ideal S1x64x256 .bf16) (ix3 0 r (chan j)) = queryAt (xOf m c) b r j :=
  found_0 (hY 0) b hb r (chan j)

theorem score_tail (hq : ∀ r j, q (ix2 r j) = queryAt (xOf m c) b r j) (r : Fin 64) (u : Fin 128) :
    ∑ j : Fin 256, q (ix2 r j) * (Y 7 : Vec Ideal S1x128x256 .bf16) (ix3 0 u (chan j)) = sc m c b r (65408 + u.val) :=
  score_seq (xOf m c) (keysAll m c) b r ⟨65408 + u.val, by omega⟩ (Or.inl (by show 65408 + u.val < 65536; omega)) _ _ (hq r) fun j =>
    (found_7 (hY 7) b hb u (chan j)).trans (all_tail _ _ _ b u (chan j)).symm

theorem score_new (hq : ∀ r j, q (ix2 r j) = queryAt (xOf m c) b r j) (r : Fin 64) (u : Fin 4) :
    (if 16 * u.val ≤ r.val then ∑ j : Fin 256, q (ix2 r j) * (Y 9 : Vec Ideal S1x4x256 .bf16) (ix3 0 u j) else ⊥) = sc m c b r (65536 + u.val) := by
  split
  · next h =>
    exact score_seq (xOf m c) (keysAll m c) b r ⟨65536 + u.val, by omega⟩ (Or.inr (by show (65536 + u.val - 65536) * 16 ≤ r.val; omega)) _ _ (hq r) fun j =>
      (found_9 (hY 9) b hb u j).trans (all_new _ _ _ b u j).symm
  · next h =>
    exact (score_masked (xOf m c) (keysAll m c) b r ⟨65536 + u.val, by omega⟩ (by
      show ¬(65536 + u.val < 65536 ∨ (65536 + u.val - 65536) * 16 ≤ r.val); omega)).symm

theorem value_tail (u : Fin 128) (j : Fin 256) : (Y 8 : Vec Ideal S1x128x256 .bf16) (ix3 0 u (chan j)) = ch m c b (chan j) (65408 + u.val) :=
  ((found_8 (hY 8) b hb u (chan j)).trans (all_tail _ _ _ b u (chan j)).symm).trans (ch_apply b (chan j) ⟨65408 + u.val, by omega⟩).symm

theorem value_new (u : Fin 4) (j : Fin 256) : (Y 10 : Vec Ideal S1x4x256 .bf16) (ix3 0 u j) = ch m c b (chan j) (65536 + u.val) :=
  ((found_10 (hY 10) b hb u j).trans (all_new _ _ _ b u j).symm).trans (ch_apply b (chan j) ⟨65536 + u.val, by omega⟩).symm

end Point

/-- A block of a batch adds its tokens. -/
theorem holds_first {b : Fin 64} {x14 : Vec Ideal S64x256 .bf16} {x21 x22 : Vec Ideal S64x128 .f32} {x23 : Vec Ideal S64x256 .f32}
    (h14 : ∀ r j, x14 (ix2 r j) = queryAt (xOf m c) b r j) (h21 : ∀ r l, x21 (ix2 r l) = top (sc m c b r) 8192)
    (h22 : ∀ r l, x22 (ix2 r l) = ∑ k ∈ Finset.range 64, ex (sc m c b r (128 * k + l.val) - top (sc m c b r) 8192))
    (h23 : ∀ r j, x23 (ix2 r j) = ∑ t ∈ Finset.range 8192, ex (sc m c b r t - top (sc m c b r) 8192) * ch m c b (chan j) t) :
    Holds m c b 1 x14 x21 x22 x23 :=
  ⟨h14, h21, fun r l => (h22 r l).trans (lane_first _ _ _), fun r j => h23 r j⟩

theorem holds_next {b : Fin 64} {k : ℕ} {x14 : Vec Ideal S64x256 .bf16} {y21 y22 x21 x22 : Vec Ideal S64x128 .f32} {y23 x23 : Vec Ideal S64x256 .f32}
    (h : Holds m c b k x14 y21 y22 y23)
    (h21 : ∀ r l, x21 (ix2 r l) = max (top (sc m c b r) (8192 * k)) (top (fun n => sc m c b r (8192 * k + n)) 8192))
    (h22 : ∀ r l, x22 (ix2 r l) = y22 (ix2 r l) * ex (top (sc m c b r) (8192 * k) - max (top (sc m c b r) (8192 * k)) (top (fun n => sc m c b r (8192 * k + n)) 8192))
      + ∑ i ∈ Finset.range 64, ex (sc m c b r (8192 * k + (128 * i + l.val)) - max (top (sc m c b r) (8192 * k)) (top (fun n => sc m c b r (8192 * k + n)) 8192)))
    (h23 : ∀ r j, x23 (ix2 r j) = y23 (ix2 r j) * ex (top (sc m c b r) (8192 * k) - max (top (sc m c b r) (8192 * k)) (top (fun n => sc m c b r (8192 * k + n)) 8192))
      + ∑ t ∈ Finset.range 8192, ex (sc m c b r (8192 * k + t) - max (top (sc m c b r) (8192 * k)) (top (fun n => sc m c b r (8192 * k + n)) 8192)) * ch m c b (chan j) (8192 * k + t)) :
    Holds m c b (k + 1) x14 x21 x22 x23 := by
  refine ⟨h.query, fun r l => (h21 r l).trans (top_block _ _), fun r l => ?_, fun r j => ?_⟩
  · rw [h22, h.total, top_block, lane_block]
  · rw [h23, h.acc, top_block, wsum_block]

/-- After all its blocks and the new tokens, the quotient is the reference's. -/
theorem target_of {b : Fin 64} {z14 : Vec Ideal S64x256 .bf16} {z21 z22 : Vec Ideal S64x128 .f32} {z23 : Vec Ideal S64x256 .f32}
    (h : Holds m c b 7 z14 z21 z22 z23) (r : Fin 64) (d : Fin 256) {e : Fin 256} (he : chan e = d) {m1 m2 : EReal}
    (h1 : m1 = max (top (sc m c b r) (8192 * 7)) (top (fun n => sc m c b r (8192 * 7 + n)) 8192))
    (h2 : m2 = max m1 (Finset.univ.sup fun k : Fin 4 => sc m c b r (8192 * 7 + (8192 + k.val)))) :
    Ideal.div
      ((z23 (ix2 r e) * ex (top (sc m c b r) (8192 * 7) - m1) + ∑ t ∈ Finset.range 8192, ex (sc m c b r (8192 * 7 + t) - m1) * ch m c b (chan e) (8192 * 7 + t)) * ex (m1 - m2)
        + ∑ k : Fin 4, ex (sc m c b r (8192 * 7 + (8192 + k.val)) - m2) * ch m c b (chan e) (8192 * 7 + (8192 + k.val)))
      ((∑ l : Fin 128, (z22 (ix2 r l) * ex (top (sc m c b r) (8192 * 7) - m1) + ∑ i ∈ Finset.range 64, ex (sc m c b r (8192 * 7 + (128 * i + l.val)) - m1))) * ex (m1 - m2)
        + ∑ k : Fin 4, ex (sc m c b r (8192 * 7 + (8192 + k.val)) - m2))
      = target m c (ix3 b r d) := by
  subst he
  have e4 : ∀ k : Fin 4, 8192 * 7 + (8192 + k.val) = 65536 + k.val := fun k => by omega
  simp only [e4] at h2 ⊢
  rw [top_block] at h1
  have h1' : m1 = top (sc m c b r) 65536 := h1
  rw [h1', top_new] at h2
  rw [h.acc]
  simp only [h.total]
  rw [h1]
  simp only [lane_block, wsum_block]
  rw [sum_lanes, h2]
  unfold target
  rw [outOf_apply]
  have hn := wsum_new (sc m c b r) (ch m c b (chan e))
  have hd := wsum_new (sc m c b r) (fun _ => 1)
  simp only [mul_one] at hd
  exact congrArg₂ Ideal.div hn hd

theorem keeps (c : Dev nD) : Keeps m (carried m) c := by
  intro t Y hY z14 z21 z22 z23 hI
  have h512 := point_lt t
  obtain ⟨b, hb⟩ : ∃ b : Fin 64, t.val / 8 = b.val := ⟨⟨t.val / 8, by omega⟩, rfl⟩
  obtain ⟨k, hk⟩ : ∃ k, t.val % 8 = k := ⟨_, rfl⟩
  have hc1 := (coords_val t).2
  refine ⟨fun hf hl => ?_, fun hf hl => ?_, fun hf hl => ?_⟩
  · have hk0 : k ≠ 0 := fun h => hf ((first_iff _).2 (by omega))
    have hk7 : k ≠ 7 := fun h => hl ((last_iff _).2 (by omega))
    have H := hI b k hb hk hk0
    have hs := score_cached hY hb hk H.query
    have hv := value_cached hY hb hk
    refine leavesMiddle_mono (leavesMiddle c (grid0.coords t) hf hl (Y 0) (Y 1) (Y 2) (Y 3) (Y 4) (Y 5) (Y 6) (Y 7) (Y 8) (Y 9) (Y 10) (Y 11) z14 z21 z22 z23 (fun r n => sc m c b r (8192 * k + n)) (fun n j => ch m c b (chan j) (8192 * k + n))
      (fun r => top (sc m c b r) (8192 * k)) (fun r u => hs r u (by omega)) (fun u j => hv u j (by omega)) H.best) ?_
    rintro x13 x14 x21 x22 x23 ⟨rfl, h21, h22, h23⟩
    refine ⟨fun h => absurd h (by omega), fun b' k' hb' hk' _ => ?_⟩
    obtain rfl : b' = b := Fin.ext (by omega)
    obtain rfl : k' = k + 1 := by omega
    exact holds_next H h21 h22 h23
  · have hk0 : k = 0 := by have := (first_iff _).1 hf; omega
    have hq : ∀ r j, (fun y => (Y 0 : Vec Ideal S1x64x256 .bf16) (ix3 0 (y 0) (chan (y 1))) : Vec Ideal S64x256 .bf16) (ix2 r j) = queryAt (xOf m c) b r j := query_found hY hb
    have hs := score_cached (q := fun y => (Y 0 : Vec Ideal S1x64x256 .bf16) (ix3 0 (y 0) (chan (y 1)))) hY hb hk hq
    have hv := value_cached hY hb hk
    subst hk0
    simp only [Nat.mul_zero, Nat.zero_add] at hs hv
    refine leavesFirst_mono (leavesFirst c (grid0.coords t) hf hl (Y 0) (Y 1) (Y 2) (Y 3) (Y 4) (Y 5) (Y 6) (Y 7) (Y 8) (Y 9) (Y 10) (Y 11) z14 z21 z22 z23 (fun r n => sc m c b r n) (fun n j => ch m c b (chan j) n)
      (fun r u => hs r u (by omega)) (fun u j => hv u j (by omega))) ?_
    rintro x13 x14 x21 x22 x23 ⟨rfl, h21, h22, h23⟩
    refine ⟨fun h => absurd h (by omega), fun b' k' hb' hk' _ => ?_⟩
    obtain rfl : b' = b := Fin.ext (by omega)
    obtain rfl : k' = 1 := by omega
    exact holds_first hq h21 h22 h23
  · have hk7 : k = 7 := by have := (last_iff _).1 hl; omega
    have H := hI b k hb hk (by omega)
    have hs := score_cached hY hb hk H.query
    have hv := value_cached hY hb hk
    have hkt := score_tail hY hb H.query
    have hn := score_new hY hb H.query
    have hvt := value_tail hY hb
    have hvn := value_new hY hb
    subst hk7
    refine leavesLast_mono (leavesLast c (grid0.coords t) hf hl (Y 0) (Y 1) (Y 2) (Y 3) (Y 4) (Y 5) (Y 6) (Y 7) (Y 8) (Y 9) (Y 10) (Y 11) z14 z21 z22 z23 (fun r n => sc m c b r (8192 * 7 + n)) (fun n j => ch m c b (chan j) (8192 * 7 + n))
      (fun r => top (sc m c b r) (8192 * 7)) (fun r u hu => hs r u (by omega))
      (fun r u => (hkt r u).trans (congrArg (sc m c b r) (by omega))) (fun r u => (hn r u).trans (congrArg (sc m c b r) (by omega)))
      (fun u j hu => hv u j (by omega)) (fun u j => (hvt u j).trans (congrArg (ch m c b (chan j)) (by omega)))
      (fun u j => (hvn u j).trans (congrArg (ch m c b (chan j)) (by omega))) H.best) ?_
    intro x13 x14 x21 x22 x23 h
    refine ⟨fun _ b' hb' r d => ?_, fun b' k' hb' hk' hne => absurd hk' (by omega)⟩
    obtain rfl : b' = b := Fin.ext (by omega)
    exact (h r d).trans (target_of H r d (chan_slot d) rfl rfl)

end Cert.KernelIdeal.Hand

end
-- ==== Proof.PI.Output.lean ====
/-
  The result's array: batch `b` is written once, at its last point, and holds the attention's result.
-/
module

public import proofs.«01_k».proof.Proof.PI.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Pipeline

theorem covers_11 : win0_11.Covers := by decide +kernel

variable {m : (ℓ : Loc nD τ sig) → Buf (Elt Ideal) ℓ}

/-- After the run the result's array is the attention of the arguments as launched. -/
theorem result_eq {r : PUnit × MemSt nD τ sig (Elt Ideal)}
    (h : Pipeline.RDat.FramePost (cfgs 0) (fun c => rdat m (carried m) c) (V m) r) (c : Dev nD) :
    r.2.mem ((c.tc : Thread nD τ).loc main_v13) = target m c := by
  obtain ⟨after, hL, hA⟩ := h.exists_exact c
  refine (hA 11).trans (Dat.arrAt_eq_of_covers ((rdat m (carried m) c).withAfter after) 11 _ covers_11 fun t hf y => ?_)
  have ht := (flush0_11 t).1 hf
  have h512 := point_lt t
  obtain ⟨Y, -, -, hO⟩ := hL 11 t hf
  have hX := hO _ rfl HEq.rfl ht ⟨t.val / 8, by omega⟩ rfl
  have hy : y = ix3 (0 : Fin 1) (y 1 : Fin 64) (y 2 : Fin 256) := by
    funext a
    fin_cases a
    · exact Fin.ext (by have := (y 0).isLt; show (y 0).val = 0; exact Nat.lt_one_iff.1 this)
    · rfl
    · rfl
  have he : (((cfgs 0).win 11).blk t).view.emb y = ix3 (⟨t.val / 8, by omega⟩ : Fin 64) (y 1 : Fin 64) (y 2 : Fin 256) := by
    funext a
    refine Fin.ext ((Window.rect_emb_val win0_11 t y a).trans ?_)
    rw [index_11]
    fin_cases a
    · have := (y 0).isLt
      have h0 : (y 0).val = 0 := Nat.lt_one_iff.1 this
      show t.val / 8 * 1 + (y 0).val = t.val / 8
      omega
    · show 0 * 64 + (y 1).val = (y 1).val; omega
    · show 0 * 256 + (y 2).val = (y 2).val; omega
  rw [he]
  refine Eq.trans ?_ (hX (y 1) (y 2))
  refine congrArg (after 11 t) (Eq.trans ?_ hy)
  rfl

/-- The run: the result and the arguments. -/
theorem run_value (m : (ℓ : Loc nD τ sig) → Buf (Elt Ideal) ℓ) (ρ : Dev nD → PrngReg) :
    θ_run defs (onTc (τ := τ) (main (F := Ideal))) (s₀ m ρ)
      (fun r => Pipeline.RDat.FramePost (cfgs 0) (fun c => rdat m (carried m) c) (V m) r ∧ r.2.sem = fun _ => 0) :=
  run_main m ρ (carried m) (fun c => keeps c) fun _ _ _ _ _ _ _ _ hk hne => absurd hk.symm hne

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.P.Frame
public import proofs.«01_k».proof.Proof.PI.Frame
public import proofs.«01_k».proof.Proof.PI.Output
public import Idealize.ShloMosaic.Adequacy
public import Idealize.ShloMosaic.Init
public import Idealize.ShloMosaic.Lib.Bf16Pair
public import Idealize.ShloMosaic.Lib.Bf16PairInverse
public import Idealize.ShloMosaic.Lib.Claim

@[expose] public section

noncomputable section

namespace Cert.Proof

open Idealize.ShloMosaic Idealize.SL.Sem Cert.Kernel

theorem frame_p : Cert.quiescent_Kernel (hKernel := Cert.Kernel.Gen.facts) := fun m g _ =>
  (θ_run _ _ _).mono (fun _ h => ⟨fun c => Cert.Kernel.Hand.args_kept h.1 c, h.2⟩)
    (Cert.Kernel.Hand.run_main m g Cert.Kernel.Hand.nothing (fun c => Cert.Kernel.Hand.keeps_nothing m c) fun _ _ _ _ _ => trivial)

theorem frame_pi : Cert.quiescent_KernelIdeal (hKernelIdeal := Cert.KernelIdeal.Gen.facts) := fun m g _ =>
  (θ_run _ _ _).mono (fun _ h => ⟨fun c => Cert.KernelIdeal.Hand.args_kept h.1 c, h.2⟩)
    (Cert.KernelIdeal.Hand.run_main m g Cert.KernelIdeal.Hand.nothing (fun c => Cert.KernelIdeal.Hand.keeps_nothing m c) fun _ _ _ _ _ => trivial)

theorem frame_ri : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem preserves : Cert.preserves_Kernel_KernelIdeal :=
  ⟨IdealRules.bf16_pair.bufferStatement _ _, IdealRules.bf16_pair.packStatement _, IdealRules.bf16_pair.statement _ _, IdealRules.bf16_pair.statement _ _,
    IdealRules.bf16_pair.statement _ _, IdealRules.named_const.statement _ _ _ _ _ (by simp [Cert.KernelIdeal.κ]), IdealRules.bf16_pair.packStatement _⟩

/-- The kernel's result and the reference's are one: the attention of the arguments over all tokens. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.target m c,
    (θ_run _ _ _).mono (fun _ h c => ⟨Cert.KernelIdeal.Hand.result_eq h.1 c, Cert.KernelIdeal.Hand.args_kept h.1 c⟩)
      (Cert.KernelIdeal.Hand.run_value m g), ?_⟩
  refine (θ_run (Cert.ReferenceIdeal.defs (F := Ideal)) _ _).mono (fun r h c => ?_) (Cert.ReferenceIdeal.Value.run m' g')
  refine ⟨(h c).1.trans ((Cert.ReferenceIdeal.Hand.out0_eq m' c).trans ?_), (h c).2⟩
  obtain ⟨h0, h1, h2, h3, h4, h5, h6, h7, h8, h9, h10⟩ := hargs c
  rw [h0, h1, h2, h3, h4, h5, h6, h7, h8, h9, h10]
  rfl

theorem claim : Cert.Claim := ⟨Cert.Kernel.Gen.facts, Cert.KernelIdeal.Gen.facts, Cert.ReferenceIdeal.Gen.facts,
  frame_p, frame_pi, frame_ri, preserves, algebraic⟩

end Cert.Proof

end
